-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v4_0)) (v1 : (c : Dev Cert.KernelIdeal.nD) → Buf (Elt Ideal) ((c.tc : Thread Cert.KernelIdeal.nD Cert.KernelIdeal.τ).loc Cert.KernelIdeal.main_v4_1)) (v2 : (c : Dev Cert.KernelIdeal.nD) → Buf (Elt Ideal) ((c.tc : Thread Cert.KernelIdeal.nD Cert.KernelIdeal.τ).loc Cert.KernelIdeal.main_v4_2)) (v3 : (c : Dev Cert.KernelIdeal.nD) → Buf (Elt Ideal) ((c.tc : Thread Cert.KernelIdeal.nD Cert.KernelIdeal.τ).loc Cert.KernelIdeal.main_v4_3)) (v4 : (c : Dev Cert.KernelIdeal.nD) → Buf (Elt Ideal) ((c.tc : Thread Cert.KernelIdeal.nD Cert.KernelIdeal.τ).loc Cert.KernelIdeal.main_v4_4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4_0) = v0 c
          ∧ r.2.mem ((c.tc : Thread Cert.KernelIdeal.nD Cert.KernelIdeal.τ).loc Cert.KernelIdeal.main_v4_1) = v1 c
          ∧ r.2.mem ((c.tc : Thread Cert.KernelIdeal.nD Cert.KernelIdeal.τ).loc Cert.KernelIdeal.main_v4_2) = v2 c
          ∧ r.2.mem ((c.tc : Thread Cert.KernelIdeal.nD Cert.KernelIdeal.τ).loc Cert.KernelIdeal.main_v4_3) = v3 c
          ∧ r.2.mem ((c.tc : Thread Cert.KernelIdeal.nD Cert.KernelIdeal.τ).loc Cert.KernelIdeal.main_v4_4) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v30) = v0 c
          ∧ r.2.mem ((c.tc : Thread Cert.ReferenceIdeal.nD Cert.ReferenceIdeal.τ).loc Cert.ReferenceIdeal.main_v32) = v1 c
          ∧ r.2.mem ((c.tc : Thread Cert.ReferenceIdeal.nD Cert.ReferenceIdeal.τ).loc Cert.ReferenceIdeal.main_v34) = v2 c
          ∧ r.2.mem ((c.tc : Thread Cert.ReferenceIdeal.nD Cert.ReferenceIdeal.τ).loc Cert.ReferenceIdeal.main_v36) = v3 c
          ∧ r.2.mem ((c.tc : Thread Cert.ReferenceIdeal.nD Cert.ReferenceIdeal.τ).loc Cert.ReferenceIdeal.main_v37) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)) →
    ∃ (v0 : (c : Dev Cert.Kernel2Ideal.nD) → Buf (Elt Ideal) ((c.tc : Thread Cert.Kernel2Ideal.nD Cert.Kernel2Ideal.τ).loc Cert.Kernel2Ideal.main_v0)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v6) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)) →
    ∃ (v0 : (c : Dev Cert.Kernel3Ideal.nD) → Buf (Elt Ideal) ((c.tc : Thread Cert.Kernel3Ideal.nD Cert.Kernel3Ideal.τ).loc Cert.Kernel3Ideal.main_v0)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v6) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)) →
    ∃ (v0 : (c : Dev Cert.Kernel4Ideal.nD) → Buf (Elt Ideal) ((c.tc : Thread Cert.Kernel4Ideal.nD Cert.Kernel4Ideal.τ).loc Cert.Kernel4Ideal.main_v2)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v2) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v41) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)) →
    ∃ (v0 : (c : Dev Cert.Kernel5Ideal.nD) → Buf (Elt Ideal) ((c.tc : Thread Cert.Kernel5Ideal.nD Cert.Kernel5Ideal.τ).loc Cert.Kernel5Ideal.main_v1)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v1) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v12) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)) →
    ∃ (v0 : (c : Dev Cert.Kernel6Ideal.nD) → Buf (Elt Ideal) ((c.tc : Thread Cert.Kernel6Ideal.nD Cert.Kernel6Ideal.τ).loc Cert.Kernel6Ideal.main_v14_0)) (v1 : (c : Dev Cert.Kernel6Ideal.nD) → Buf (Elt Ideal) ((c.tc : Thread Cert.Kernel6Ideal.nD Cert.Kernel6Ideal.τ).loc Cert.Kernel6Ideal.main_v14_1)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v14_0) = v0 c
          ∧ r.2.mem ((c.tc : Thread Cert.Kernel6Ideal.nD Cert.Kernel6Ideal.τ).loc Cert.Kernel6Ideal.main_v14_1) = v1 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v34) = v0 c
          ∧ r.2.mem ((c.tc : Thread Cert.Reference6Ideal.nD Cert.Reference6Ideal.τ).loc Cert.Reference6Ideal.main_v36) = v1 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4))

def preserves_Kernel7_Kernel7Ideal : Prop :=
  IdealRules.named_const.Statement Cert.Kernel7Ideal.κ "log2e" .f32 0x3FB8AA3B#32 (((Real.log 2)⁻¹ : ℝ) : EReal)

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)) →
    ∃ (v0 : (c : Dev Cert.Kernel7Ideal.nD) → Buf (Elt Ideal) ((c.tc : Thread Cert.Kernel7Ideal.nD Cert.Kernel7Ideal.τ).loc Cert.Kernel7Ideal.main_v6)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v6) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v70) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
-- ==== Kernel.lean ====
abbrev S16384x4096 : Shape := ⟨2, ![16384, 4096]⟩
abbrev S4x4096x19472 : Shape := ⟨3, ![4, 4096, 19472]⟩
abbrev S4x2048x4096 : Shape := ⟨3, ![4, 2048, 4096]⟩
abbrev S4x4096x4096 : Shape := ⟨3, ![4, 4096, 4096]⟩
abbrev S4x19472x4096 : Shape := ⟨3, ![4, 19472, 4096]⟩
abbrev S8192x4096 : Shape := ⟨2, ![8192, 4096]⟩
abbrev S16384x19456 : Shape := ⟨2, ![16384, 19456]⟩
abbrev S3x19456x4096 : Shape := ⟨3, ![3, 19456, 4096]⟩
abbrev S2048x4096 : Shape := ⟨2, ![2048, 4096]⟩
abbrev S1x512x4096 : Shape := ⟨3, ![1, 512, 4096]⟩
abbrev S32x4096 : Shape := ⟨2, ![32, 4096]⟩
abbrev S64x4096 : Shape := ⟨2, ![64, 4096]⟩
abbrev S1x256x4096 : Shape := ⟨3, ![1, 256, 4096]⟩
abbrev S2048x512 : Shape := ⟨2, ![2048, 512]⟩
abbrev S512x4096 : Shape := ⟨2, ![512, 4096]⟩

abbrev nBuf : Space → Nat
  | .hbm => 14
  | .vmem => 21
  | .smem => 0
  | _ => 0

abbrev bufTy : (tb : Table) → Fin (tcTables nBuf tb) → BufTy
  | .hbm, ⟨0, _⟩ => ⟨S16384x4096, .bf16⟩
  | .hbm, ⟨1, _⟩ => ⟨S4x4096x19472, .f32⟩
  | .hbm, ⟨2, _⟩ => ⟨S4x2048x4096, .f32⟩
  | .hbm, ⟨3, _⟩ => ⟨S4x2048x4096, .f32⟩
  | .hbm, ⟨4, _⟩ => ⟨S4x4096x4096, .f32⟩
  | .hbm, ⟨5, _⟩ => ⟨S4x19472x4096, .f32⟩
  | .hbm, ⟨6, _⟩ => ⟨S8192x4096, .f32⟩
  | .hbm, ⟨7, _⟩ => ⟨S8192x4096, .f32⟩
  | .hbm, ⟨8, _⟩ => ⟨S16384x4096, .f32⟩
  | .hbm, ⟨9, _⟩ => ⟨S16384x19456, .bf16⟩
  | .hbm, ⟨10, _⟩ => ⟨S8192x4096, .bf16⟩
  | .hbm, ⟨11, _⟩ => ⟨S8192x4096, .bf16⟩
  | .hbm, ⟨12, _⟩ => ⟨S16384x4096, .bf16⟩
  | .hbm, ⟨13, _⟩ => ⟨S3x19456x4096, .bf16⟩
  | .local _ .vmem, ⟨0, _⟩ => ⟨S2048x4096, .bf16⟩
  | .local _ .vmem, ⟨1, _⟩ => ⟨S1x512x4096, .f32⟩
  | .local _ .vmem, ⟨2, _⟩ => ⟨S1x512x4096, .f32⟩
  | .local _ .vmem, ⟨3, _⟩ => ⟨S32x4096, .f32⟩
  | .local _ .vmem, ⟨4, _⟩ => ⟨S32x4096, .f32⟩
  | .local _ .vmem, ⟨5, _⟩ => ⟨S32x4096, .f32⟩
  | .local _ .vmem, ⟨6, _⟩ => ⟨S32x4096, .f32⟩
  | .local _ .vmem, ⟨7, _⟩ => ⟨S64x4096, .f32⟩
  | .local _ .vmem, ⟨8, _⟩ => ⟨S64x4096, .f32⟩
  | .local _ .vmem, ⟨9, _⟩ => ⟨S1x256x4096, .f32⟩
  | .local _ .vmem, ⟨10, _⟩ => ⟨S1x256x4096, .f32⟩
  | .local _ .vmem, ⟨11, _⟩ => ⟨S2048x512, .bf16⟩
  | .local _ .vmem, ⟨12, _⟩ => ⟨S2048x512, .bf16⟩
  | .local _ .vmem, ⟨13, _⟩ => ⟨S32x4096, .bf16⟩
  | .local _ .vmem, ⟨14, _⟩ => ⟨S32x4096, .bf16⟩
  | .local _ .vmem, ⟨15, _⟩ => ⟨S32x4096, .bf16⟩
  | .local _ .vmem, ⟨16, _⟩ => ⟨S32x4096, .bf16⟩
  | .local _ .vmem, ⟨17, _⟩ => ⟨S64x4096, .bf16⟩
  | .local _ .vmem, ⟨18, _⟩ => ⟨S64x4096, .bf16⟩
  | .local _ .vmem, ⟨19, _⟩ => ⟨S1x256x4096, .bf16⟩
  | .local _ .vmem, ⟨20, _⟩ => ⟨S1x256x4096, .bf16⟩
  | _, _ => ⟨S16384x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4_0 : Ref sig .tc := ⟨.hbm, 9, rfl⟩
abbrev main_v4_1 : Ref sig .tc := ⟨.hbm, 10, rfl⟩
abbrev main_v4_2 : Ref sig .tc := ⟨.hbm, 11, rfl⟩
abbrev main_v4_3 : Ref sig .tc := ⟨.hbm, 12, rfl⟩
abbrev main_v4_4 : Ref sig .tc := ⟨.hbm, 13, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_stg10_0 : Ref sig .tc := ⟨.vmem, 19, rfl⟩
abbrev cc0_stg10_1 : Ref sig .tc := ⟨.vmem, 20, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18
abbrev cc0_sem10_0 : DmaSem sig := 19
abbrev cc0_sem10_1 : DmaSem sig := 20

abbrev nD : Nat := 1
abbrev τ : Topo := Topo.v7x

variable {F : FTy → Type} [FloatOps F]

abbrev grid0 : Pipeline.Grid := ⟨2, ![8, 38], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c32_i32 : BitVec 32 := 32#32
  let v0 : BitVec 32 := Scalar.muli arg1 c32_i32
  let c12_i32 : BitVec 32 := 12#32
  let v1 : BitVec 1 := Scalar.cmpi .slt arg1 c12_i32
  let c16_i32 : BitVec 32 := 16#32
  let v2 : BitVec 1 := Scalar.cmpi .slt arg1 c16_i32
  let c1_i32 : BitVec 32 := 1#32
  let v3 : BitVec 32 := Scalar.addi v0 c1_i32
  let c20_i32 : BitVec 32 := 20#32
  let v4 : BitVec 1 := Scalar.cmpi .slt arg1 c20_i32
  let c65_i32 : BitVec 32 := 65#32
  let v5 : BitVec 32 := Scalar.addi v0 c65_i32
  let c22_i32 : BitVec 32 := 22#32
  let v6 : BitVec 1 := Scalar.cmpi .slt arg1 c22_i32
  let c_m127_i32 : BitVec 32 := 4294967169#32
  let v7 : BitVec 32 := Scalar.addi v0 c_m127_i32
  let c1_i32_0 : BitVec 32 := 1#32
  let v8 : BitVec 32 := Scalar.addi v0 c1_i32_0
  let v9 : BitVec 32 := Scalar.select v6 v7 v8
  let v10 : BitVec 32 := Scalar.select v4 v5 v9
  let v11 : BitVec 32 := Scalar.select v2 v3 v10
  let v12 : BitVec 32 := Scalar.select v1 v0 v11
  let c16_i32_1 : BitVec 32 := 16#32
  let v13 : BitVec 32 := Scalar.muli v12 c16_i32_1
  let c0_i32 : BitVec 32 := 0#32
  let c0_i32_2 : BitVec 32 := 0#32
  let c0_i32_3 : BitVec 32 := 0#32
  ![c0_i32.toNat, v13.toNat, c0_i32_2.toNat]

def cc0_transform_2 (i : grid0.Coords) : Fin 2 → Nat :=
  let arg0 : BitVec 32 := BitVec.ofNat 32 (i 0).val
  let arg1 : BitVec 32 := BitVec.ofNat 32 (i 1).val
  let c38_i32 : BitVec 32 := 38#32
  let v0 : BitVec 32 := Scalar.muli arg0 c38_i32
  let v1 : BitVec 32 := Scalar.addi v0 arg1
  let c255_i32 : BitVec 32 := 255#32
  let v2 : BitVec 32 := Scalar.minsi v1 c255_i32
  let c0_i32 : BitVec 32 := 0#32
  let c0_i32_0 : BitVec 32 := 0#32
  ![v2.toNat, c0_i32.toNat]

def cc0_transform_3 (i : grid0.Coords) : Fin 2 → Nat :=
  let arg0 : BitVec 32 := BitVec.ofNat 32 (i 0).val
  let arg1 : BitVec 32 := BitVec.ofNat 32 (i 1).val
  let c38_i32 : BitVec 32 := 38#32
  let v0 : BitVec 32 := Scalar.muli arg0 c38_i32
  let v1 : BitVec 32 := Scalar.addi v0 arg1
  let c255_i32 : BitVec 32 := 255#32
  let v2 : BitVec 32 := Scalar.minsi v1 c255_i32
  let c0_i32 : BitVec 32 := 0#32
  let c0_i32_0 : BitVec 32 := 0#32
  ![v2.toNat, c0_i32.toNat]

def cc0_transform_4 (i : grid0.Coords) : Fin 2 → Nat :=
  let arg0 : BitVec 32 := BitVec.ofNat 32 (i 0).val
  let arg1 : BitVec 32 := BitVec.ofNat 32 (i 1).val
  let c38_i32 : BitVec 32 := 38#32
  let v0 : BitVec 32 := Scalar.muli arg0 c38_i32
  let v1 : BitVec 32 := Scalar.addi v0 arg1
  let c255_i32 : BitVec 32 := 255#32
  let v2 : BitVec 32 := Scalar.minsi v1 c255_i32
  let c0_i32 : BitVec 32 := 0#32
  let c0_i32_0 : BitVec 32 := 0#32
  ![v2.toNat, c0_i32.toNat]

def cc0_transform_5 (i : grid0.Coords) : Fin 3 → Nat :=
  let arg0 : BitVec 32 := BitVec.ofNat 32 (i 0).val
  let arg1 : BitVec 32 := BitVec.ofNat 32 (i 1).val
  let c38_i32 : BitVec 32 := 38#32
  let v0 : BitVec 32 := Scalar.muli arg0 c38_i32
  let v1 : BitVec 32 := Scalar.addi v0 arg1
  let c227_i32 : BitVec 32 := 227#32
  let v2 : BitVec 32 := Scalar.minsi v1 c227_i32
  let c76_i32 : BitVec 32 := 76#32
  let v3 : BitVec 32 := Scalar.divsi v2 c76_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c0_i32_1 : BitVec 32 := 0#32
  let v9 : BitVec 1 := Scalar.cmpi .sgt c76_i32 c0_i32_1
  let v10 : BitVec 32 := Scalar.extui v9
  let c0_i32_2 : BitVec 32 := 0#32
  let v11 : BitVec 1 := Scalar.cmpi .slt c76_i32 c0_i32_2
  let v12 : BitVec 32 := Scalar.extui v11
  let v13 : BitVec 32 := Scalar.subi v10 v12
  let v14 : BitVec 1 := Scalar.cmpi .ne v8 v13
  let v15 : BitVec 32 := Scalar.remsi v2 c76_i32
  let c0_i32_3 : BitVec 32 := 0#32
  let v16 : BitVec 1 := Scalar.cmpi .ne v15 c0_i32_3
  let v17 : BitVec 1 := Scalar.andi v14 v16
  let c1_i32 : BitVec 32 := 1#32
  let v18 : BitVec 32 := Scalar.subi v3 c1_i32
  let v19 : BitVec 32 := Scalar.select v17 v18 v3
  let c76_i32_4 : BitVec 32 := 76#32
  let c0_i32_5 : BitVec 32 := 0#32
  let v20 : BitVec 1 := Scalar.cmpi .eq c76_i32_4 c0_i32_5
  let c1_i32_6 : BitVec 32 := 1#32
  let v21 : BitVec 32 := Scalar.select v20 c1_i32_6 c76_i32_4
  let v22 : BitVec 32 := Scalar.remsi v2 v21
  let c0_i32_7 : BitVec 32 := 0#32
  let v23 : BitVec 1 := Scalar.cmpi .ne v22 c0_i32_7
  let c0_i32_8 : BitVec 32 := 0#32
  let v24 : BitVec 1 := Scalar.cmpi .slt v22 c0_i32_8
  let c0_i32_9 : BitVec 32 := 0#32
  let v25 : BitVec 1 := Scalar.cmpi .slt v21 c0_i32_9
  let v26 : BitVec 1 := Scalar.xori v24 v25
  let v27 : BitVec 1 := Scalar.andi v26 v23
  let v28 : BitVec 32 := Scalar.addi v22 v21
  let v29 : BitVec 32 := Scalar.select v27 v28 v22
  let c1_i32_10 : BitVec 32 := 1#32
  let v30 : BitVec 32 := Scalar.addi c1_i32_10 v19
  let c38_i32_11 : BitVec 32 := 38#32
  let v31 : BitVec 32 := Scalar.muli arg0 c38_i32_11
  let v32 : BitVec 32 := Scalar.addi v31 arg1
  let c227_i32_12 : BitVec 32 := 227#32
  let v33 : BitVec 32 := Scalar.minsi v32 c227_i32_12
  let c76_i32_13 : BitVec 32 := 76#32
  let v34 : BitVec 32 := Scalar.divsi v33 c76_i32_13
  let c0_i32_14 : BitVec 32 := 0#32
  let v35 : BitVec 1 := Scalar.cmpi .sgt v33 c0_i32_14
  let v36 : BitVec 32 := Scalar.extui v35
  let c0_i32_15 : BitVec 32 := 0#32
  let v37 : BitVec 1 := Scalar.cmpi .slt v33 c0_i32_15
  let v38 : BitVec 32 := Scalar.extui v37
  let v39 : BitVec 32 := Scalar.subi v36 v38
  let c0_i32_16 : BitVec 32 := 0#32
  let v40 : BitVec 1 := Scalar.cmpi .sgt c76_i32_13 c0_i32_16
  let v41 : BitVec 32 := Scalar.extui v40
  let c0_i32_17 : BitVec 32 := 0#32
  let v42 : BitVec 1 := Scalar.cmpi .slt c76_i32_13 c0_i32_17
  let v43 : BitVec 32 := Scalar.extui v42
  let v44 : BitVec 32 := Scalar.subi v41 v43
  let v45 : BitVec 1 := Scalar.cmpi .ne v39 v44
  let v46 : BitVec 32 := Scalar.remsi v33 c76_i32_13
  let c0_i32_18 : BitVec 32 := 0#32
  let v47 : BitVec 1 := Scalar.cmpi .ne v46 c0_i32_18
  let v48 : BitVec 1 := Scalar.andi v45 v47
  let c1_i32_19 : BitVec 32 := 1#32
  let v49 : BitVec 32 := Scalar.subi v34 c1_i32_19
  let v50 : BitVec 32 := Scalar.select v48 v49 v34
  let c76_i32_20 : BitVec 32 := 76#32
  let c0_i32_21 : BitVec 32 := 0#32
  let v51 : BitVec 1 := Scalar.cmpi .eq c76_i32_20 c0_i32_21
  let c1_i32_22 : BitVec 32 := 1#32
  let v52 : BitVec 32 := Scalar.select v51 c1_i32_22 c76_i32_20
  let v53 : BitVec 32 := Scalar.remsi v33 v52
  let c0_i32_23 : BitVec 32 := 0#32
  let v54 : BitVec 1 := Scalar.cmpi .ne v53 c0_i32_23
  let c0_i32_24 : BitVec 32 := 0#32
  let v55 : BitVec 1 := Scalar.cmpi .slt v53 c0_i32_24
  let c0_i32_25 : BitVec 32 := 0#32
  let v56 : BitVec 1 := Scalar.cmpi .slt v52 c0_i32_25
  let v57 : BitVec 1 := Scalar.xori v55 v56
  let v58 : BitVec 1 := Scalar.andi v57 v54
  let v59 : BitVec 32 := Scalar.addi v53 v52
  let v60 : BitVec 32 := Scalar.select v58 v59 v53
  let c16_i32 : BitVec 32 := 16#32
  let v61 : BitVec 32 := Scalar.muli v60 c16_i32
  let c24_i32 : BitVec 32 := 24#32
  let v62 : BitVec 1 := Scalar.cmpi .slt v60 c24_i32
  let c32_i32 : BitVec 32 := 32#32
  let v63 : BitVec 1 := Scalar.cmpi .slt v60 c32_i32
  let c1_i32_26 : BitVec 32 := 1#32
  let v64 : BitVec 32 := Scalar.addi v61 c1_i32_26
  let c40_i32 : BitVec 32 := 40#32
  let v65 : BitVec 1 := Scalar.cmpi .slt v60 c40_i32
  let c65_i32 : BitVec 32 := 65#32
  let v66 : BitVec 32 := Scalar.addi v61 c65_i32
  let c44_i32 : BitVec 32 := 44#32
  let v67 : BitVec 1 := Scalar.cmpi .slt v60 c44_i32
  let c_m127_i32 : BitVec 32 := 4294967169#32
  let v68 : BitVec 32 := Scalar.addi v61 c_m127_i32
  let c1_i32_27 : BitVec 32 := 1#32
  let v69 : BitVec 32 := Scalar.addi v61 c1_i32_27
  let v70 : BitVec 32 := Scalar.select v67 v68 v69
  let v71 : BitVec 32 := Scalar.select v65 v66 v70
  let v72 : BitVec 32 := Scalar.select v63 v64 v71
  let v73 : BitVec 32 := Scalar.select v62 v61 v72
  let c16_i32_28 : BitVec 32 := 16#32
  let v74 : BitVec 32 := Scalar.muli v73 c16_i32_28
  let c0_i32_29 : BitVec 32 := 0#32
  let c0_i32_30 : BitVec 32 := 0#32
  ![v30.toNat, v74.toNat, c0_i32_29.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let c38_i32 : BitVec 32 := 38#32
  let v0 : BitVec 32 := Scalar.muli arg0 c38_i32
  let v1 : BitVec 32 := Scalar.addi v0 arg1
  let c255_i32 : BitVec 32 := 255#32
  let v2 : BitVec 32 := Scalar.minsi v1 c255_i32
  let c0_i32 : BitVec 32 := 0#32
  let c0_i32_0 : BitVec 32 := 0#32
  ![v2.toNat, c0_i32.toNat]

def cc0_transform_8 (i : grid0.Coords) : Fin 2 → Nat :=
  let arg0 : BitVec 32 := BitVec.ofNat 32 (i 0).val
  let arg1 : BitVec 32 := BitVec.ofNat 32 (i 1).val
  let c38_i32 : BitVec 32 := 38#32
  let v0 : BitVec 32 := Scalar.muli arg0 c38_i32
  let v1 : BitVec 32 := Scalar.addi v0 arg1
  let c255_i32 : BitVec 32 := 255#32
  let v2 : BitVec 32 := Scalar.minsi v1 c255_i32
  let c0_i32 : BitVec 32 := 0#32
  let c0_i32_0 : BitVec 32 := 0#32
  ![v2.toNat, c0_i32.toNat]

def cc0_transform_9 (i : grid0.Coords) : Fin 2 → Nat :=
  let arg0 : BitVec 32 := BitVec.ofNat 32 (i 0).val
  let arg1 : BitVec 32 := BitVec.ofNat 32 (i 1).val
  let c38_i32 : BitVec 32 := 38#32
  let v0 : BitVec 32 := Scalar.muli arg0 c38_i32
  let v1 : BitVec 32 := Scalar.addi v0 arg1
  let c255_i32 : BitVec 32 := 255#32
  let v2 : BitVec 32 := Scalar.minsi v1 c255_i32
  let c0_i32 : BitVec 32 := 0#32
  let c0_i32_0 : BitVec 32 := 0#32
  ![v2.toNat, c0_i32.toNat]

def cc0_transform_10 (i : grid0.Coords) : Fin 3 → Nat :=
  let arg0 : BitVec 32 := BitVec.ofNat 32 (i 0).val
  let arg1 : BitVec 32 := BitVec.ofNat 32 (i 1).val
  let c38_i32 : BitVec 32 := 38#32
  let v0 : BitVec 32 := Scalar.muli arg0 c38_i32
  let v1 : BitVec 32 := Scalar.addi v0 arg1
  let c227_i32 : BitVec 32 := 227#32
  let v2 : BitVec 32 := Scalar.minsi v1 c227_i32
  let c76_i32 : BitVec 32 := 76#32
  let v3 : BitVec 32 := Scalar.divsi v2 c76_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c0_i32_1 : BitVec 32 := 0#32
  let v9 : BitVec 1 := Scalar.cmpi .sgt c76_i32 c0_i32_1
  let v10 : BitVec 32 := Scalar.extui v9
  let c0_i32_2 : BitVec 32 := 0#32
  let v11 : BitVec 1 := Scalar.cmpi .slt c76_i32 c0_i32_2
  let v12 : BitVec 32 := Scalar.extui v11
  let v13 : BitVec 32 := Scalar.subi v10 v12
  let v14 : BitVec 1 := Scalar.cmpi .ne v8 v13
  let v15 : BitVec 32 := Scalar.remsi v2 c76_i32
  let c0_i32_3 : BitVec 32 := 0#32
  let v16 : BitVec 1 := Scalar.cmpi .ne v15 c0_i32_3
  let v17 : BitVec 1 := Scalar.andi v14 v16
  let c1_i32 : BitVec 32 := 1#32
  let v18 : BitVec 32 := Scalar.subi v3 c1_i32
  let v19 : BitVec 32 := Scalar.select v17 v18 v3
  let c76_i32_4 : BitVec 32 := 76#32
  let c0_i32_5 : BitVec 32 := 0#32
  let v20 : BitVec 1 := Scalar.cmpi .eq c76_i32_4 c0_i32_5
  let c1_i32_6 : BitVec 32 := 1#32
  let v21 : BitVec 32 := Scalar.select v20 c1_i32_6 c76_i32_4
  let v22 : BitVec 32 := Scalar.remsi v2 v21
  let c0_i32_7 : BitVec 32 := 0#32
  let v23 : BitVec 1 := Scalar.cmpi .ne v22 c0_i32_7
  let c0_i32_8 : BitVec 32 := 0#32
  let v24 : BitVec 1 := Scalar.cmpi .slt v22 c0_i32_8
  let c0_i32_9 : BitVec 32 := 0#32
  let v25 : BitVec 1 := Scalar.cmpi .slt v21 c0_i32_9
  let v26 : BitVec 1 := Scalar.xori v24 v25
  let v27 : BitVec 1 := Scalar.andi v26 v23
  let v28 : BitVec 32 := Scalar.addi v22 v21
  let v29 : BitVec 32 := Scalar.select v27 v28 v22
  let c38_i32_10 : BitVec 32 := 38#32
  let v30 : BitVec 32 := Scalar.muli arg0 c38_i32_10
  let v31 : BitVec 32 := Scalar.addi v30 arg1
  let c227_i32_11 : BitVec 32 := 227#32
  let v32 : BitVec 32 := Scalar.minsi v31 c227_i32_11
  let c76_i32_12 : BitVec 32 := 76#32
  let v33 : BitVec 32 := Scalar.divsi v32 c76_i32_12
  let c0_i32_13 : BitVec 32 := 0#32
  let v34 : BitVec 1 := Scalar.cmpi .sgt v32 c0_i32_13
  let v35 : BitVec 32 := Scalar.extui v34
  let c0_i32_14 : BitVec 32 := 0#32
  let v36 : BitVec 1 := Scalar.cmpi .slt v32 c0_i32_14
  let v37 : BitVec 32 := Scalar.extui v36
  let v38 : BitVec 32 := Scalar.subi v35 v37
  let c0_i32_15 : BitVec 32 := 0#32
  let v39 : BitVec 1 := Scalar.cmpi .sgt c76_i32_12 c0_i32_15
  let v40 : BitVec 32 := Scalar.extui v39
  let c0_i32_16 : BitVec 32 := 0#32
  let v41 : BitVec 1 := Scalar.cmpi .slt c76_i32_12 c0_i32_16
  let v42 : BitVec 32 := Scalar.extui v41
  let v43 : BitVec 32 := Scalar.subi v40 v42
  let v44 : BitVec 1 := Scalar.cmpi .ne v38 v43
  let v45 : BitVec 32 := Scalar.remsi v32 c76_i32_12
  let c0_i32_17 : BitVec 32 := 0#32
  let v46 : BitVec 1 := Scalar.cmpi .ne v45 c0_i32_17
  let v47 : BitVec 1 := Scalar.andi v44 v46
  let c1_i32_18 : BitVec 32 := 1#32
  let v48 : BitVec 32 := Scalar.subi v33 c1_i32_18
  let v49 : BitVec 32 := Scalar.select v47 v48 v33
  let c76_i32_19 : BitVec 32 := 76#32
  let c0_i32_20 : BitVec 32 := 0#32
  let v50 : BitVec 1 := Scalar.cmpi .eq c76_i32_19 c0_i32_20
  let c1_i32_21 : BitVec 32 := 1#32
  let v51 : BitVec 32 := Scalar.select v50 c1_i32_21 c76_i32_19
  let v52 : BitVec 32 := Scalar.remsi v32 v51
  let c0_i32_22 : BitVec 32 := 0#32
  let v53 : BitVec 1 := Scalar.cmpi .ne v52 c0_i32_22
  let c0_i32_23 : BitVec 32 := 0#32
  let v54 : BitVec 1 := Scalar.cmpi .slt v52 c0_i32_23
  let c0_i32_24 : BitVec 32 := 0#32
  let v55 : BitVec 1 := Scalar.cmpi .slt v51 c0_i32_24
  let v56 : BitVec 1 := Scalar.xori v54 v55
  let v57 : BitVec 1 := Scalar.andi v56 v53
  let v58 : BitVec 32 := Scalar.addi v52 v51
  let v59 : BitVec 32 := Scalar.select v57 v58 v52
  let c0_i32_25 : BitVec 32 := 0#32
  let c0_i32_26 : BitVec 32 := 0#32
  ![v19.toNat, v59.toNat, c0_i32_25.toNat]

abbrev stage0_0 : Fin 1 → Memref sig .tc .vmem S2048x4096 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 2 → Memref sig .tc .vmem S1x512x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S32x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S32x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S64x4096 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x256x4096 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S2048x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S32x4096 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S32x4096 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S64x4096 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x256x4096 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== ReferenceIdeal.lean ====
abbrev S16384x4096 : Shape := ⟨2, ![16384, 4096]⟩
abbrev S4x4096x19472 : Shape := ⟨3, ![4, 4096, 19472]⟩
abbrev S4x2048x4096 : Shape := ⟨3, ![4, 2048, 4096]⟩
abbrev S4x4096x4096 : Shape := ⟨3, ![4, 4096, 4096]⟩
abbrev S1x4096x19472 : Shape := ⟨3, ![1, 4096, 19472]⟩
abbrev S4096x19472 : Shape := ⟨2, ![4096, 19472]⟩
abbrev S16384x19472 : Shape := ⟨2, ![16384, 19472]⟩
abbrev S16384x1024 : Shape := ⟨2, ![16384, 1024]⟩
abbrev S16384x2048 : Shape := ⟨2, ![16384, 2048]⟩
abbrev S16384x16 : Shape := ⟨2, ![16384, 16]⟩
abbrev S16384x512 : Shape := ⟨2, ![16384, 512]⟩
abbrev S16384x19456 : Shape := ⟨2, ![16384, 19456]⟩
abbrev S3x4096x19472 : Shape := ⟨3, ![3, 4096, 19472]⟩
abbrev S3x4096x1024 : Shape := ⟨3, ![3, 4096, 1024]⟩
abbrev S3x4096x2048 : Shape := ⟨3, ![3, 4096, 2048]⟩
abbrev S3x4096x16 : Shape := ⟨3, ![3, 4096, 16]⟩
abbrev S3x4096x512 : Shape := ⟨3, ![3, 4096, 512]⟩
abbrev S3x4096x4096 : Shape := ⟨3, ![3, 4096, 4096]⟩
abbrev S3x4096x19456 : Shape := ⟨3, ![3, 4096, 19456]⟩
abbrev S3x19456x4096 : Shape := ⟨3, ![3, 19456, 4096]⟩
abbrev S8192x4096 : Shape := ⟨2, ![8192, 4096]⟩

abbrev nBuf : Space → Nat
  | .hbm => 43
  | .vmem => 0
  | .smem => 0
  | _ => 0

abbrev bufTy : (tb : Table) → Fin (tcTables nBuf tb) → BufTy
  | .hbm, ⟨0, _⟩ => ⟨S16384x4096, .bf16⟩
  | .hbm, ⟨1, _⟩ => ⟨S4x4096x19472, .f32⟩
  | .hbm, ⟨2, _⟩ => ⟨S4x2048x4096, .f32⟩
  | .hbm, ⟨3, _⟩ => ⟨S4x2048x4096, .f32⟩
  | .hbm, ⟨4, _⟩ => ⟨S4x4096x4096, .f32⟩
  | .hbm, ⟨5, _⟩ => ⟨S16384x4096, .f32⟩
  | .hbm, ⟨6, _⟩ => ⟨S1x4096x19472, .f32⟩
  | .hbm, ⟨7, _⟩ => ⟨S4096x19472, .f32⟩
  | .hbm, ⟨8, _⟩ => ⟨S16384x19472, .f32⟩
  | .hbm, ⟨9, _⟩ => ⟨S16384x1024, .f32⟩
  | .hbm, ⟨10, _⟩ => ⟨S16384x1024, .f32⟩
  | .hbm, ⟨11, _⟩ => ⟨S16384x2048, .f32⟩
  | .hbm, ⟨12, _⟩ => ⟨S16384x2048, .f32⟩
  | .hbm, ⟨13, _⟩ => ⟨S16384x16, .f32⟩
  | .hbm, ⟨14, _⟩ => ⟨S16384x2048, .f32⟩
  | .hbm, ⟨15, _⟩ => ⟨S16384x512, .f32⟩
  | .hbm, ⟨16, _⟩ => ⟨S16384x512, .f32⟩
  | .hbm, ⟨17, _⟩ => ⟨S16384x2048, .f32⟩
  | .hbm, ⟨18, _⟩ => ⟨S16384x4096, .f32⟩
  | .hbm, ⟨19, _⟩ => ⟨S16384x4096, .f32⟩
  | .hbm, ⟨20, _⟩ => ⟨S16384x19456, .f32⟩
  | .hbm, ⟨21, _⟩ => ⟨S3x4096x19472, .f32⟩
  | .hbm, ⟨22, _⟩ => ⟨S3x4096x1024, .f32⟩
  | .hbm, ⟨23, _⟩ => ⟨S3x4096x1024, .f32⟩
  | .hbm, ⟨24, _⟩ => ⟨S3x4096x2048, .f32⟩
  | .hbm, ⟨25, _⟩ => ⟨S3x4096x2048, .f32⟩
  | .hbm, ⟨26, _⟩ => ⟨S3x4096x16, .f32⟩
  | .hbm, ⟨27, _⟩ => ⟨S3x4096x2048, .f32⟩
  | .hbm, ⟨28, _⟩ => ⟨S3x4096x512, .f32⟩
  | .hbm, ⟨29, _⟩ => ⟨S3x4096x512, .f32⟩
  | .hbm, ⟨30, _⟩ => ⟨S3x4096x2048, .f32⟩
  | .hbm, ⟨31, _⟩ => ⟨S3x4096x4096, .f32⟩
  | .hbm, ⟨32, _⟩ => ⟨S3x4096x4096, .f32⟩
  | .hbm, ⟨33, _⟩ => ⟨S3x4096x19456, .f32⟩
  | .hbm, ⟨34, _⟩ => ⟨S3x19456x4096, .f32⟩
  | .hbm, ⟨35, _⟩ => ⟨S16384x19456, .bf16⟩
  | .hbm, ⟨36, _⟩ => ⟨S8192x4096, .f32⟩
  | .hbm, ⟨37, _⟩ => ⟨S8192x4096, .bf16⟩
  | .hbm, ⟨38, _⟩ => ⟨S8192x4096, .f32⟩
  | .hbm, ⟨39, _⟩ => ⟨S8192x4096, .bf16⟩
  | .hbm, ⟨40, _⟩ => ⟨S16384x4096, .f32⟩
  | .hbm, ⟨41, _⟩ => ⟨S16384x4096, .bf16⟩
  | .hbm, ⟨42, _⟩ => ⟨S3x19456x4096, .bf16⟩
  | _, _ => ⟨S16384x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩
abbrev main_v32 : Ref sig .tc := ⟨.hbm, 37, rfl⟩
abbrev main_v33 : Ref sig .tc := ⟨.hbm, 38, rfl⟩
abbrev main_v34 : Ref sig .tc := ⟨.hbm, 39, rfl⟩
abbrev main_v35 : Ref sig .tc := ⟨.hbm, 40, rfl⟩
abbrev main_v36 : Ref sig .tc := ⟨.hbm, 41, rfl⟩
abbrev main_v37 : Ref sig .tc := ⟨.hbm, 42, rfl⟩

abbrev nD : Nat := 1
abbrev τ : Topo := Topo.v7x

variable {F : FTy → Type} [FloatOps F]
-- ==== Kernel2.lean ====
abbrev S16384x4096 : Shape := ⟨2, ![16384, 4096]⟩
abbrev S3x19456x4096 : Shape := ⟨3, ![3, 19456, 4096]⟩
abbrev S16384x19456 : Shape := ⟨2, ![16384, 19456]⟩
abbrev S2048x4096 : Shape := ⟨2, ![2048, 4096]⟩
abbrev S1x1024x4096 : Shape := ⟨3, ![1, 1024, 4096]⟩
abbrev S2048x1024 : Shape := ⟨2, ![2048, 1024]⟩
abbrev S1024x4096 : Shape := ⟨2, ![1024, 4096]⟩

abbrev nBuf : Space → Nat
  | .hbm => 3
  | .vmem => 5
  | .smem => 0
  | _ => 0

abbrev bufTy : (tb : Table) → Fin (tcTables nBuf tb) → BufTy
  | .hbm, ⟨0, _⟩ => ⟨S16384x4096, .bf16⟩
  | .hbm, ⟨1, _⟩ => ⟨S3x19456x4096, .bf16⟩
  | .hbm, ⟨2, _⟩ => ⟨S16384x19456, .bf16⟩
  | .local _ .vmem, ⟨0, _⟩ => ⟨S2048x4096, .bf16⟩
  | .local _ .vmem, ⟨1, _⟩ => ⟨S1x1024x4096, .bf16⟩
  | .local _ .vmem, ⟨2, _⟩ => ⟨S1x1024x4096, .bf16⟩
  | .local _ .vmem, ⟨3, _⟩ => ⟨S2048x1024, .bf16⟩
  | .local _ .vmem, ⟨4, _⟩ => ⟨S2048x1024, .bf16⟩
  | _, _ => ⟨S16384x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![8, 19], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  ![c1_i32.toNat, arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S2048x4096 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 2 → Memref sig .tc .vmem S1x1024x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference2Ideal.lean ====
abbrev S16384x4096 : Shape := ⟨2, ![16384, 4096]⟩
abbrev S3x19456x4096 : Shape := ⟨3, ![3, 19456, 4096]⟩
abbrev S1x19456x4096 : Shape := ⟨3, ![1, 19456, 4096]⟩
abbrev S19456x4096 : Shape := ⟨2, ![19456, 4096]⟩
abbrev S4096x19456 : Shape := ⟨2, ![4096, 19456]⟩
abbrev S16384x19456 : Shape := ⟨2, ![16384, 19456]⟩

abbrev nBuf : Space → Nat
  | .hbm => 9
  | .vmem => 0
  | .smem => 0
  | _ => 0

abbrev bufTy : (tb : Table) → Fin (tcTables nBuf tb) → BufTy
  | .hbm, ⟨0, _⟩ => ⟨S16384x4096, .bf16⟩
  | .hbm, ⟨1, _⟩ => ⟨S3x19456x4096, .bf16⟩
  | .hbm, ⟨2, _⟩ => ⟨S16384x4096, .f32⟩
  | .hbm, ⟨3, _⟩ => ⟨S1x19456x4096, .bf16⟩
  | .hbm, ⟨4, _⟩ => ⟨S19456x4096, .bf16⟩
  | .hbm, ⟨5, _⟩ => ⟨S19456x4096, .f32⟩
  | .hbm, ⟨6, _⟩ => ⟨S4096x19456, .f32⟩
  | .hbm, ⟨7, _⟩ => ⟨S16384x19456, .f32⟩
  | .hbm, ⟨8, _⟩ => ⟨S16384x19456, .bf16⟩
  | _, _ => ⟨S16384x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩

abbrev nD : Nat := 1
abbrev τ : Topo := Topo.v7x

variable {F : FTy → Type} [FloatOps F]
-- ==== Kernel3.lean ====
abbrev S16384x4096 : Shape := ⟨2, ![16384, 4096]⟩
abbrev S1024x4096 : Shape := ⟨2, ![1024, 4096]⟩
abbrev S4096x1024 : Shape := ⟨2, ![4096, 1024]⟩
abbrev S1024x1024 : Shape := ⟨2, ![1024, 1024]⟩

abbrev nBuf : Space → Nat
  | .hbm => 4
  | .vmem => 8
  | .smem => 0
  | _ => 0

abbrev bufTy : (tb : Table) → Fin (tcTables nBuf tb) → BufTy
  | .hbm, ⟨0, _⟩ => ⟨S16384x4096, .bf16⟩
  | .hbm, ⟨1, _⟩ => ⟨S16384x4096, .bf16⟩
  | .hbm, ⟨2, _⟩ => ⟨S16384x4096, .f32⟩
  | .hbm, ⟨3, _⟩ => ⟨S16384x4096, .f32⟩
  | .local _ .vmem, ⟨0, _⟩ => ⟨S1024x4096, .bf16⟩
  | .local _ .vmem, ⟨1, _⟩ => ⟨S1024x4096, .bf16⟩
  | .local _ .vmem, ⟨2, _⟩ => ⟨S4096x1024, .bf16⟩
  | .local _ .vmem, ⟨3, _⟩ => ⟨S4096x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | _, _ => ⟨S16384x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![16, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c2_i32 : BitVec 32 := 2#32
  let c0_i32 : BitVec 32 := 0#32
  ![c2_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference3Ideal.lean ====
abbrev S16384x4096 : Shape := ⟨2, ![16384, 4096]⟩
abbrev S4x4096x4096 : Shape := ⟨3, ![4, 4096, 4096]⟩
abbrev S1x4096x4096 : Shape := ⟨3, ![1, 4096, 4096]⟩
abbrev S4096x4096 : Shape := ⟨2, ![4096, 4096]⟩

abbrev nBuf : Space → Nat
  | .hbm => 10
  | .vmem => 0
  | .smem => 0
  | _ => 0

abbrev bufTy : (tb : Table) → Fin (tcTables nBuf tb) → BufTy
  | .hbm, ⟨0, _⟩ => ⟨S16384x4096, .bf16⟩
  | .hbm, ⟨1, _⟩ => ⟨S16384x4096, .bf16⟩
  | .hbm, ⟨2, _⟩ => ⟨S16384x4096, .f32⟩
  | .hbm, ⟨3, _⟩ => ⟨S16384x4096, .f32⟩
  | .hbm, ⟨4, _⟩ => ⟨S4x4096x4096, .bf16⟩
  | .hbm, ⟨5, _⟩ => ⟨S1x4096x4096, .bf16⟩
  | .hbm, ⟨6, _⟩ => ⟨S4096x4096, .bf16⟩
  | .hbm, ⟨7, _⟩ => ⟨S4096x4096, .f32⟩
  | .hbm, ⟨8, _⟩ => ⟨S16384x4096, .f32⟩
  | .hbm, ⟨9, _⟩ => ⟨S16384x4096, .f32⟩
  | _, _ => ⟨S16384x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel4.lean ====
abbrev S16384x2048 : Shape := ⟨2, ![16384, 2048]⟩
abbrev S8192x4096 : Shape := ⟨2, ![8192, 4096]⟩
abbrev S16384x19456 : Shape := ⟨2, ![16384, 19456]⟩
abbrev S4x2x4096 : Shape := ⟨3, ![4, 2, 4096]⟩
abbrev S1x2x4096 : Shape := ⟨3, ![1, 2, 4096]⟩
abbrev S2x4096 : Shape := ⟨2, ![2, 4096]⟩
abbrev S16384x4096 : Shape := ⟨2, ![16384, 4096]⟩
abbrev S1024x2048 : Shape := ⟨2, ![1024, 2048]⟩
abbrev S2048x1024 : Shape := ⟨2, ![2048, 1024]⟩
abbrev S1024x1024 : Shape := ⟨2, ![1024, 1024]⟩
abbrev S2x1024 : Shape := ⟨2, ![2, 1024]⟩
abbrev S1x256x1024 : Shape := ⟨3, ![1, 256, 1024]⟩
abbrev S256x2048 : Shape := ⟨2, ![256, 2048]⟩
abbrev S256x1024 : Shape := ⟨2, ![256, 1024]⟩
abbrev S1x1024 : Shape := ⟨2, ![1, 1024]⟩

abbrev nBuf : Space → Nat
  | .hbm => 9
  | .vmem => 17
  | .smem => 0
  | _ => 0

abbrev bufTy : (tb : Table) → Fin (tcTables nBuf tb) → BufTy
  | .hbm, ⟨0, _⟩ => ⟨S16384x2048, .bf16⟩
  | .hbm, ⟨1, _⟩ => ⟨S16384x2048, .bf16⟩
  | .hbm, ⟨2, _⟩ => ⟨S8192x4096, .bf16⟩
  | .hbm, ⟨3, _⟩ => ⟨S8192x4096, .bf16⟩
  | .hbm, ⟨4, _⟩ => ⟨S16384x19456, .bf16⟩
  | .hbm, ⟨5, _⟩ => ⟨S4x2x4096, .f32⟩
  | .hbm, ⟨6, _⟩ => ⟨S1x2x4096, .f32⟩
  | .hbm, ⟨7, _⟩ => ⟨S2x4096, .f32⟩
  | .hbm, ⟨8, _⟩ => ⟨S16384x4096, .bf16⟩
  | .local _ .vmem, ⟨0, _⟩ => ⟨S1024x2048, .bf16⟩
  | .local _ .vmem, ⟨1, _⟩ => ⟨S1024x2048, .bf16⟩
  | .local _ .vmem, ⟨2, _⟩ => ⟨S1024x2048, .bf16⟩
  | .local _ .vmem, ⟨3, _⟩ => ⟨S1024x2048, .bf16⟩
  | .local _ .vmem, ⟨4, _⟩ => ⟨S2048x1024, .bf16⟩
  | .local _ .vmem, ⟨5, _⟩ => ⟨S2048x1024, .bf16⟩
  | .local _ .vmem, ⟨6, _⟩ => ⟨S2048x1024, .bf16⟩
  | .local _ .vmem, ⟨7, _⟩ => ⟨S2048x1024, .bf16⟩
  | .local _ .vmem, ⟨8, _⟩ => ⟨S1024x1024, .bf16⟩
  | .local _ .vmem, ⟨9, _⟩ => ⟨S1024x1024, .bf16⟩
  | .local _ .vmem, ⟨10, _⟩ => ⟨S1024x1024, .bf16⟩
  | .local _ .vmem, ⟨11, _⟩ => ⟨S1024x1024, .bf16⟩
  | .local _ .vmem, ⟨12, _⟩ => ⟨S2x1024, .f32⟩
  | .local _ .vmem, ⟨13, _⟩ => ⟨S2x1024, .f32⟩
  | .local _ .vmem, ⟨14, _⟩ => ⟨S1024x1024, .bf16⟩
  | .local _ .vmem, ⟨15, _⟩ => ⟨S1024x1024, .bf16⟩
  | .local _ .vmem, ⟨16, _⟩ => ⟨S1x256x1024, .f32⟩
  | _, _ => ⟨S16384x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_scratch0 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![16, 4], ![false, false]⟩

def k0_off1 (i : grid0.Coords) : Fin 3 → Nat :=
  let arg0 : BitVec 32 := BitVec.ofNat 32 (i 0).val
  let c0_i32 : BitVec 32 := 0#32
  let v0 : BitVec 32 := Scalar.minsi arg0 c0_i32
  let v13 : Index := Scalar.indexCast v0
  let c0_7 : Index := 0#32
  let c0_8 : Index := 0#32
  ![v13.toNat, 0, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c2_i32 : BitVec 32 := 2#32
  let c0_i32 : BitVec 32 := 0#32
  ![c2_i32.toNat, arg1.toNat]

def cc0_transform_3 (i : grid0.Coords) : Fin 2 → Nat :=
  let arg0 : BitVec 32 := BitVec.ofNat 32 (i 0).val
  let arg1 : BitVec 32 := BitVec.ofNat 32 (i 1).val
  let c2_i32 : BitVec 32 := 2#32
  let c0_i32 : BitVec 32 := 0#32
  ![c2_i32.toNat, arg1.toNat]

def cc0_transform_4 (i : grid0.Coords) : Fin 2 → Nat :=
  let arg0 : BitVec 32 := BitVec.ofNat 32 (i 0).val
  let arg1 : BitVec 32 := BitVec.ofNat 32 (i 1).val
  let c11_i32 : BitVec 32 := 11#32
  let v0 : BitVec 32 := Scalar.addi c11_i32 arg1
  let c0_i32 : BitVec 32 := 0#32
  ![arg0.toNat, v0.toNat]

def cc0_transform_5 (i : grid0.Coords) : Fin 2 → Nat :=
  let arg0 : BitVec 32 := BitVec.ofNat 32 (i 0).val
  let arg1 : BitVec 32 := BitVec.ofNat 32 (i 1).val
  let c15_i32 : BitVec 32 := 15#32
  let v0 : BitVec 32 := Scalar.addi c15_i32 arg1
  let c0_i32 : BitVec 32 := 0#32
  ![arg0.toNat, v0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S2048x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S2x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S1024x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== Reference4Ideal.lean ====
abbrev S16384x2048 : Shape := ⟨2, ![16384, 2048]⟩
abbrev S8192x4096 : Shape := ⟨2, ![8192, 4096]⟩
abbrev S16384x19456 : Shape := ⟨2, ![16384, 19456]⟩
abbrev S4x2x4096 : Shape := ⟨3, ![4, 2, 4096]⟩
abbrev S4x2048x4096 : Shape := ⟨3, ![4, 2048, 4096]⟩
abbrev S1x2048x4096 : Shape := ⟨3, ![1, 2048, 4096]⟩
abbrev S2048x4096 : Shape := ⟨2, ![2048, 4096]⟩
abbrev S16384x4096 : Shape := ⟨2, ![16384, 4096]⟩
abbrev S1x1x4096 : Shape := ⟨3, ![1, 1, 4096]⟩
abbrev S4096 : Shape := ⟨1, ![4096]⟩
abbrev S1x4096 : Shape := ⟨2, ![1, 4096]⟩
abbrev S_ : Shape := ⟨0, ![]⟩

abbrev nBuf : Space → Nat
  | .hbm => 52
  | .vmem => 0
  | .smem => 0
  | _ => 0

abbrev bufTy : (tb : Table) → Fin (tcTables nBuf tb) → BufTy
  | .hbm, ⟨0, _⟩ => ⟨S16384x2048, .bf16⟩
  | .hbm, ⟨1, _⟩ => ⟨S16384x2048, .bf16⟩
  | .hbm, ⟨2, _⟩ => ⟨S8192x4096, .bf16⟩
  | .hbm, ⟨3, _⟩ => ⟨S8192x4096, .bf16⟩
  | .hbm, ⟨4, _⟩ => ⟨S16384x19456, .bf16⟩
  | .hbm, ⟨5, _⟩ => ⟨S4x2x4096, .f32⟩
  | .hbm, ⟨6, _⟩ => ⟨S16384x2048, .f32⟩
  | .hbm, ⟨7, _⟩ => ⟨S4x2048x4096, .bf16⟩
  | .hbm, ⟨8, _⟩ => ⟨S1x2048x4096, .bf16⟩
  | .hbm, ⟨9, _⟩ => ⟨S2048x4096, .bf16⟩
  | .hbm, ⟨10, _⟩ => ⟨S2048x4096, .f32⟩
  | .hbm, ⟨11, _⟩ => ⟨S16384x4096, .f32⟩
  | .hbm, ⟨12, _⟩ => ⟨S16384x2048, .f32⟩
  | .hbm, ⟨13, _⟩ => ⟨S4x2048x4096, .bf16⟩
  | .hbm, ⟨14, _⟩ => ⟨S1x2048x4096, .bf16⟩
  | .hbm, ⟨15, _⟩ => ⟨S2048x4096, .bf16⟩
  | .hbm, ⟨16, _⟩ => ⟨S2048x4096, .f32⟩
  | .hbm, ⟨17, _⟩ => ⟨S16384x4096, .f32⟩
  | .hbm, ⟨18, _⟩ => ⟨S16384x4096, .bf16⟩
  | .hbm, ⟨19, _⟩ => ⟨S16384x4096, .f32⟩
  | .hbm, ⟨20, _⟩ => ⟨S16384x4096, .bf16⟩
  | .hbm, ⟨21, _⟩ => ⟨S16384x4096, .f32⟩
  | .hbm, ⟨22, _⟩ => ⟨S1x1x4096, .f32⟩
  | .hbm, ⟨23, _⟩ => ⟨S4096, .f32⟩
  | .hbm, ⟨24, _⟩ => ⟨S1x4096, .f32⟩
  | .hbm, ⟨25, _⟩ => ⟨S16384x4096, .f32⟩
  | .hbm, ⟨26, _⟩ => ⟨S16384x4096, .f32⟩
  | .hbm, ⟨27, _⟩ => ⟨S16384x4096, .f32⟩
  | .hbm, ⟨28, _⟩ => ⟨S16384x4096, .f32⟩
  | .hbm, ⟨29, _⟩ => ⟨S_, .f32⟩
  | .hbm, ⟨30, _⟩ => ⟨S16384x4096, .f32⟩
  | .hbm, ⟨31, _⟩ => ⟨S16384x4096, .f32⟩
  | .hbm, ⟨32, _⟩ => ⟨S_, .f32⟩
  | .hbm, ⟨33, _⟩ => ⟨S16384x4096, .f32⟩
  | .hbm, ⟨34, _⟩ => ⟨S16384x4096, .f32⟩
  | .hbm, ⟨35, _⟩ => ⟨S16384x4096, .f32⟩
  | .hbm, ⟨36, _⟩ => ⟨S1x1x4096, .f32⟩
  | .hbm, ⟨37, _⟩ => ⟨S4096, .f32⟩
  | .hbm, ⟨38, _⟩ => ⟨S1x4096, .f32⟩
  | .hbm, ⟨39, _⟩ => ⟨S16384x4096, .f32⟩
  | .hbm, ⟨40, _⟩ => ⟨S16384x4096, .f32⟩
  | .hbm, ⟨41, _⟩ => ⟨S16384x4096, .f32⟩
  | .hbm, ⟨42, _⟩ => ⟨S16384x4096, .f32⟩
  | .hbm, ⟨43, _⟩ => ⟨S_, .f32⟩
  | .hbm, ⟨44, _⟩ => ⟨S16384x4096, .f32⟩
  | .hbm, ⟨45, _⟩ => ⟨S16384x4096, .f32⟩
  | .hbm, ⟨46, _⟩ => ⟨S_, .f32⟩
  | .hbm, ⟨47, _⟩ => ⟨S16384x4096, .f32⟩
  | .hbm, ⟨48, _⟩ => ⟨S16384x4096, .f32⟩
  | .hbm, ⟨49, _⟩ => ⟨S16384x4096, .f32⟩
  | .hbm, ⟨50, _⟩ => ⟨S16384x4096, .f32⟩
  | .hbm, ⟨51, _⟩ => ⟨S16384x4096, .bf16⟩
  | _, _ => ⟨S16384x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_cst : Ref sig .tc := ⟨.hbm, 29, rfl⟩
abbrev main_v23 : Ref sig .tc := ⟨.hbm, 30, rfl⟩
abbrev main_v24 : Ref sig .tc := ⟨.hbm, 31, rfl⟩
abbrev main_cst_0 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_cst_1 : Ref sig .tc := ⟨.hbm, 43, rfl⟩
abbrev main_v35 : Ref sig .tc := ⟨.hbm, 44, rfl⟩
abbrev main_v36 : Ref sig .tc := ⟨.hbm, 45, rfl⟩
abbrev main_cst_2 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩

abbrev nD : Nat := 1
abbrev τ : Topo := Topo.v7x

variable {F : FTy → Type} [FloatOps F]
-- ==== Kernel5.lean ====
abbrev S16384x4096 : Shape := ⟨2, ![16384, 4096]⟩
abbrev S4096 : Shape := ⟨1, ![4096]⟩
abbrev S1x4096 : Shape := ⟨2, ![1, 4096]⟩
abbrev S512x4096 : Shape := ⟨2, ![512, 4096]⟩
abbrev S512 : Shape := ⟨1, ![512]⟩
abbrev S512x1 : Shape := ⟨2, ![512, 1]⟩

abbrev nBuf : Space → Nat
  | .hbm => 4
  | .vmem => 5
  | .smem => 0
  | _ => 0

abbrev bufTy : (tb : Table) → Fin (tcTables nBuf tb) → BufTy
  | .hbm, ⟨0, _⟩ => ⟨S16384x4096, .f32⟩
  | .hbm, ⟨1, _⟩ => ⟨S4096, .f32⟩
  | .hbm, ⟨2, _⟩ => ⟨S1x4096, .f32⟩
  | .hbm, ⟨3, _⟩ => ⟨S16384x4096, .f32⟩
  | .local _ .vmem, ⟨0, _⟩ => ⟨S512x4096, .f32⟩
  | .local _ .vmem, ⟨1, _⟩ => ⟨S512x4096, .f32⟩
  | .local _ .vmem, ⟨2, _⟩ => ⟨S1x4096, .f32⟩
  | .local _ .vmem, ⟨3, _⟩ => ⟨S512x4096, .f32⟩
  | .local _ .vmem, ⟨4, _⟩ => ⟨S512x4096, .f32⟩
  | _, _ => ⟨S16384x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference5Ideal.lean ====
abbrev S16384x4096 : Shape := ⟨2, ![16384, 4096]⟩
abbrev S4096 : Shape := ⟨1, ![4096]⟩
abbrev S_ : Shape := ⟨0, ![]⟩
abbrev S16384 : Shape := ⟨1, ![16384]⟩
abbrev S16384x1 : Shape := ⟨2, ![16384, 1]⟩
abbrev S1x4096 : Shape := ⟨2, ![1, 4096]⟩

abbrev nBuf : Space → Nat
  | .hbm => 18
  | .vmem => 0
  | .smem => 0
  | _ => 0

abbrev bufTy : (tb : Table) → Fin (tcTables nBuf tb) → BufTy
  | .hbm, ⟨0, _⟩ => ⟨S16384x4096, .f32⟩
  | .hbm, ⟨1, _⟩ => ⟨S4096, .f32⟩
  | .hbm, ⟨2, _⟩ => ⟨S16384x4096, .f32⟩
  | .hbm, ⟨3, _⟩ => ⟨S_, .f32⟩
  | .hbm, ⟨4, _⟩ => ⟨S16384, .f32⟩
  | .hbm, ⟨5, _⟩ => ⟨S16384x1, .f32⟩
  | .hbm, ⟨6, _⟩ => ⟨S_, .f32⟩
  | .hbm, ⟨7, _⟩ => ⟨S16384x1, .f32⟩
  | .hbm, ⟨8, _⟩ => ⟨S16384x1, .f32⟩
  | .hbm, ⟨9, _⟩ => ⟨S_, .f32⟩
  | .hbm, ⟨10, _⟩ => ⟨S16384x1, .f32⟩
  | .hbm, ⟨11, _⟩ => ⟨S16384x1, .f32⟩
  | .hbm, ⟨12, _⟩ => ⟨S16384x1, .f32⟩
  | .hbm, ⟨13, _⟩ => ⟨S16384x4096, .f32⟩
  | .hbm, ⟨14, _⟩ => ⟨S16384x4096, .f32⟩
  | .hbm, ⟨15, _⟩ => ⟨S1x4096, .f32⟩
  | .hbm, ⟨16, _⟩ => ⟨S16384x4096, .f32⟩
  | .hbm, ⟨17, _⟩ => ⟨S16384x4096, .f32⟩
  | _, _ => ⟨S16384x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩

abbrev nD : Nat := 1
abbrev τ : Topo := Topo.v7x

variable {F : FTy → Type} [FloatOps F]
-- ==== Kernel6.lean ====
abbrev S16384x4096 : Shape := ⟨2, ![16384, 4096]⟩
abbrev S4x4096 : Shape := ⟨2, ![4, 4096]⟩
abbrev S4x4096x19472 : Shape := ⟨3, ![4, 4096, 19472]⟩
abbrev S4x16x1024 : Shape := ⟨3, ![4, 16, 1024]⟩
abbrev S4x1024 : Shape := ⟨2, ![4, 1024]⟩
abbrev S4x19472x4096 : Shape := ⟨3, ![4, 19472, 4096]⟩
abbrev S1x16x4096 : Shape := ⟨3, ![1, 16, 4096]⟩
abbrev S16x4096 : Shape := ⟨2, ![16, 4096]⟩
abbrev S_ : Shape := ⟨0, ![]⟩
abbrev S128x4096 : Shape := ⟨2, ![128, 4096]⟩
abbrev S1x16x1024 : Shape := ⟨3, ![1, 16, 1024]⟩
abbrev S16x1024 : Shape := ⟨2, ![16, 1024]⟩
abbrev S128x1024 : Shape := ⟨2, ![128, 1024]⟩
abbrev S1x4096 : Shape := ⟨2, ![1, 4096]⟩
abbrev S4096 : Shape := ⟨1, ![4096]⟩
abbrev S1x1024 : Shape := ⟨2, ![1, 1024]⟩
abbrev S1024 : Shape := ⟨1, ![1024]⟩
abbrev S16384x1024 : Shape := ⟨2, ![16384, 1024]⟩
abbrev S512x4096 : Shape := ⟨2, ![512, 4096]⟩
abbrev S512x1024 : Shape := ⟨2, ![512, 1024]⟩
abbrev S64x64 : Shape := ⟨2, ![64, 64]⟩
abbrev S128 : Shape := ⟨1, ![128]⟩
abbrev S128x1 : Shape := ⟨2, ![128, 1]⟩
abbrev S128x128 : Shape := ⟨2, ![128, 128]⟩
abbrev S64x1024 : Shape := ⟨2, ![64, 1024]⟩

abbrev nBuf : Space → Nat
  | .hbm => 25
  | .vmem => 10
  | .smem => 0
  | _ => 0

abbrev bufTy : (tb : Table) → Fin (tcTables nBuf tb) → BufTy
  | .hbm, ⟨0, _⟩ => ⟨S16384x4096, .f32⟩
  | .hbm, ⟨1, _⟩ => ⟨S4x4096, .f32⟩
  | .hbm, ⟨2, _⟩ => ⟨S4x4096x19472, .f32⟩
  | .hbm, ⟨3, _⟩ => ⟨S4x16x1024, .f32⟩
  | .hbm, ⟨4, _⟩ => ⟨S4x1024, .f32⟩
  | .hbm, ⟨5, _⟩ => ⟨S4x19472x4096, .f32⟩
  | .hbm, ⟨6, _⟩ => ⟨S1x16x4096, .f32⟩
  | .hbm, ⟨7, _⟩ => ⟨S16x4096, .f32⟩
  | .hbm, ⟨8, _⟩ => ⟨S_, .i32⟩
  | .hbm, ⟨9, _⟩ => ⟨S_, .f32⟩
  | .hbm, ⟨10, _⟩ => ⟨S128x4096, .f32⟩
  | .hbm, ⟨11, _⟩ => ⟨S1x16x1024, .f32⟩
  | .hbm, ⟨12, _⟩ => ⟨S16x1024, .f32⟩
  | .hbm, ⟨13, _⟩ => ⟨S_, .i32⟩
  | .hbm, ⟨14, _⟩ => ⟨S_, .f32⟩
  | .hbm, ⟨15, _⟩ => ⟨S128x1024, .f32⟩
  | .hbm, ⟨16, _⟩ => ⟨S128x1024, .bf16⟩
  | .hbm, ⟨17, _⟩ => ⟨S1x4096, .f32⟩
  | .hbm, ⟨18, _⟩ => ⟨S4096, .f32⟩
  | .hbm, ⟨19, _⟩ => ⟨S1x4096, .f32⟩
  | .hbm, ⟨20, _⟩ => ⟨S1x1024, .f32⟩
  | .hbm, ⟨21, _⟩ => ⟨S1024, .f32⟩
  | .hbm, ⟨22, _⟩ => ⟨S1x1024, .f32⟩
  | .hbm, ⟨23, _⟩ => ⟨S16384x4096, .bf16⟩
  | .hbm, ⟨24, _⟩ => ⟨S16384x1024, .f32⟩
  | .local _ .vmem, ⟨0, _⟩ => ⟨S512x4096, .f32⟩
  | .local _ .vmem, ⟨1, _⟩ => ⟨S512x4096, .f32⟩
  | .local _ .vmem, ⟨2, _⟩ => ⟨S1x4096, .f32⟩
  | .local _ .vmem, ⟨3, _⟩ => ⟨S128x4096, .f32⟩
  | .local _ .vmem, ⟨4, _⟩ => ⟨S128x1024, .bf16⟩
  | .local _ .vmem, ⟨5, _⟩ => ⟨S1x1024, .f32⟩
  | .local _ .vmem, ⟨6, _⟩ => ⟨S512x4096, .bf16⟩
  | .local _ .vmem, ⟨7, _⟩ => ⟨S512x4096, .bf16⟩
  | .local _ .vmem, ⟨8, _⟩ => ⟨S512x1024, .f32⟩
  | .local _ .vmem, ⟨9, _⟩ => ⟨S512x1024, .f32⟩
  | _, _ => ⟨S16384x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_c : Ref sig .tc := ⟨.hbm, 8, rfl⟩
abbrev main_call0_v0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_c_0 : Ref sig .tc := ⟨.hbm, 13, rfl⟩
abbrev main_call1_v0 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14_0 : Ref sig .tc := ⟨.hbm, 23, rfl⟩
abbrev main_v14_1 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x4096 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference6Ideal.lean ====
abbrev S16384x4096 : Shape := ⟨2, ![16384, 4096]⟩
abbrev S4x4096 : Shape := ⟨2, ![4, 4096]⟩
abbrev S4x4096x19472 : Shape := ⟨3, ![4, 4096, 19472]⟩
abbrev S4x16x1024 : Shape := ⟨3, ![4, 16, 1024]⟩
abbrev S4x1024 : Shape := ⟨2, ![4, 1024]⟩
abbrev S_ : Shape := ⟨0, ![]⟩
abbrev S16384 : Shape := ⟨1, ![16384]⟩
abbrev S16384x1 : Shape := ⟨2, ![16384, 1]⟩
abbrev S1x4096 : Shape := ⟨2, ![1, 4096]⟩
abbrev S4096 : Shape := ⟨1, ![4096]⟩
abbrev S1x4096x16 : Shape := ⟨3, ![1, 4096, 16]⟩
abbrev S4096x16 : Shape := ⟨2, ![4096, 16]⟩
abbrev S16384x16 : Shape := ⟨2, ![16384, 16]⟩
abbrev S1x16x1024 : Shape := ⟨3, ![1, 16, 1024]⟩
abbrev S16x1024 : Shape := ⟨2, ![16, 1024]⟩
abbrev S16384x1024 : Shape := ⟨2, ![16384, 1024]⟩
abbrev S1x1024 : Shape := ⟨2, ![1, 1024]⟩
abbrev S1024 : Shape := ⟨1, ![1024]⟩
abbrev S256x64x1024 : Shape := ⟨3, ![256, 64, 1024]⟩

abbrev nBuf : Space → Nat
  | .hbm => 65
  | .vmem => 0
  | .smem => 0
  | _ => 0

abbrev bufTy : (tb : Table) → Fin (tcTables nBuf tb) → BufTy
  | .hbm, ⟨0, _⟩ => ⟨S16384x4096, .f32⟩
  | .hbm, ⟨1, _⟩ => ⟨S4x4096, .f32⟩
  | .hbm, ⟨2, _⟩ => ⟨S4x4096x19472, .f32⟩
  | .hbm, ⟨3, _⟩ => ⟨S4x16x1024, .f32⟩
  | .hbm, ⟨4, _⟩ => ⟨S4x1024, .f32⟩
  | .hbm, ⟨5, _⟩ => ⟨S16384x4096, .f32⟩
  | .hbm, ⟨6, _⟩ => ⟨S_, .f32⟩
  | .hbm, ⟨7, _⟩ => ⟨S16384, .f32⟩
  | .hbm, ⟨8, _⟩ => ⟨S16384x1, .f32⟩
  | .hbm, ⟨9, _⟩ => ⟨S_, .f32⟩
  | .hbm, ⟨10, _⟩ => ⟨S16384x1, .f32⟩
  | .hbm, ⟨11, _⟩ => ⟨S16384x1, .f32⟩
  | .hbm, ⟨12, _⟩ => ⟨S_, .f32⟩
  | .hbm, ⟨13, _⟩ => ⟨S16384x1, .f32⟩
  | .hbm, ⟨14, _⟩ => ⟨S16384x1, .f32⟩
  | .hbm, ⟨15, _⟩ => ⟨S16384x1, .f32⟩
  | .hbm, ⟨16, _⟩ => ⟨S16384x4096, .f32⟩
  | .hbm, ⟨17, _⟩ => ⟨S16384x4096, .f32⟩
  | .hbm, ⟨18, _⟩ => ⟨S1x4096, .f32⟩
  | .hbm, ⟨19, _⟩ => ⟨S4096, .f32⟩
  | .hbm, ⟨20, _⟩ => ⟨S1x4096, .f32⟩
  | .hbm, ⟨21, _⟩ => ⟨S16384x4096, .f32⟩
  | .hbm, ⟨22, _⟩ => ⟨S16384x4096, .f32⟩
  | .hbm, ⟨23, _⟩ => ⟨S1x4096x16, .f32⟩
  | .hbm, ⟨24, _⟩ => ⟨S4096x16, .f32⟩
  | .hbm, ⟨25, _⟩ => ⟨S16384x16, .f32⟩
  | .hbm, ⟨26, _⟩ => ⟨S1x16x1024, .f32⟩
  | .hbm, ⟨27, _⟩ => ⟨S16x1024, .f32⟩
  | .hbm, ⟨28, _⟩ => ⟨S16384x1024, .f32⟩
  | .hbm, ⟨29, _⟩ => ⟨S1x1024, .f32⟩
  | .hbm, ⟨30, _⟩ => ⟨S1024, .f32⟩
  | .hbm, ⟨31, _⟩ => ⟨S1x1024, .f32⟩
  | .hbm, ⟨32, _⟩ => ⟨S16384x1024, .f32⟩
  | .hbm, ⟨33, _⟩ => ⟨S16384x1024, .f32⟩
  | .hbm, ⟨34, _⟩ => ⟨S16384x1024, .f32⟩
  | .hbm, ⟨35, _⟩ => ⟨S_, .f32⟩
  | .hbm, ⟨36, _⟩ => ⟨S16384x1024, .f32⟩
  | .hbm, ⟨37, _⟩ => ⟨S16384x1024, .f32⟩
  | .hbm, ⟨38, _⟩ => ⟨S16384x1024, .f32⟩
  | .hbm, ⟨39, _⟩ => ⟨S16384x1024, .f32⟩
  | .hbm, ⟨40, _⟩ => ⟨S16384x1024, .i1⟩
  | .hbm, ⟨41, _⟩ => ⟨S16384x1024, .f32⟩
  | .hbm, ⟨42, _⟩ => ⟨S16384x1024, .f32⟩
  | .hbm, ⟨43, _⟩ => ⟨S16384x1024, .f32⟩
  | .hbm, ⟨44, _⟩ => ⟨S16384x1024, .f32⟩
  | .hbm, ⟨45, _⟩ => ⟨S16384x1024, .f32⟩
  | .hbm, ⟨46, _⟩ => ⟨S16384x1024, .f32⟩
  | .hbm, ⟨47, _⟩ => ⟨S16384x1024, .f32⟩
  | .hbm, ⟨48, _⟩ => ⟨S16384x1024, .f32⟩
  | .hbm, ⟨49, _⟩ => ⟨S16384x1024, .f32⟩
  | .hbm, ⟨50, _⟩ => ⟨S_, .f32⟩
  | .hbm, ⟨51, _⟩ => ⟨S16384x1024, .f32⟩
  | .hbm, ⟨52, _⟩ => ⟨S16384x1024, .f32⟩
  | .hbm, ⟨53, _⟩ => ⟨S_, .f32⟩
  | .hbm, ⟨54, _⟩ => ⟨S16384x1024, .f32⟩
  | .hbm, ⟨55, _⟩ => ⟨S16384x1024, .f32⟩
  | .hbm, ⟨56, _⟩ => ⟨S256x64x1024, .f32⟩
  | .hbm, ⟨57, _⟩ => ⟨S_, .f32⟩
  | .hbm, ⟨58, _⟩ => ⟨S_, .f32⟩
  | .hbm, ⟨59, _⟩ => ⟨S256x64x1024, .f32⟩
  | .hbm, ⟨60, _⟩ => ⟨S16384x1024, .f32⟩
  | .hbm, ⟨61, _⟩ => ⟨S16384x4096, .bf16⟩
  | .hbm, ⟨62, _⟩ => ⟨S_, .f32⟩
  | .hbm, ⟨63, _⟩ => ⟨S16384x1024, .f32⟩
  | .hbm, ⟨64, _⟩ => ⟨S16384x1024, .f32⟩
  | _, _ => ⟨S16384x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_call0_v0 : Ref sig .tc := ⟨.hbm, 34, rfl⟩
abbrev main_call0_call0_cst : Ref sig .tc := ⟨.hbm, 35, rfl⟩
abbrev main_call0_call0_v0 : Ref sig .tc := ⟨.hbm, 36, rfl⟩
abbrev main_call0_call0_v1 : Ref sig .tc := ⟨.hbm, 37, rfl⟩
abbrev main_call0_call0_v2 : Ref sig .tc := ⟨.hbm, 38, rfl⟩
abbrev main_call0_call0_v3 : Ref sig .tc := ⟨.hbm, 39, rfl⟩
abbrev main_call0_call0_v4 : Ref sig .tc := ⟨.hbm, 40, rfl⟩
abbrev main_call0_call0_v5 : Ref sig .tc := ⟨.hbm, 41, rfl⟩
abbrev main_call0_call0_v6 : Ref sig .tc := ⟨.hbm, 42, rfl⟩
abbrev main_call0_call0_v7 : Ref sig .tc := ⟨.hbm, 43, rfl⟩
abbrev main_call0_call0_v8 : Ref sig .tc := ⟨.hbm, 44, rfl⟩
abbrev main_call0_call0_v9 : Ref sig .tc := ⟨.hbm, 45, rfl⟩
abbrev main_call0_call0_v10 : Ref sig .tc := ⟨.hbm, 46, rfl⟩
abbrev main_call0_call0_v11 : Ref sig .tc := ⟨.hbm, 47, rfl⟩
abbrev main_call0_v1 : Ref sig .tc := ⟨.hbm, 48, rfl⟩
abbrev main_v26 : Ref sig .tc := ⟨.hbm, 49, rfl⟩
abbrev main_cst_2 : Ref sig .tc := ⟨.hbm, 50, rfl⟩
abbrev main_v27 : Ref sig .tc := ⟨.hbm, 51, rfl⟩
abbrev main_v28 : Ref sig .tc := ⟨.hbm, 52, rfl⟩
abbrev main_cst_3 : Ref sig .tc := ⟨.hbm, 53, rfl⟩
abbrev main_v29 : Ref sig .tc := ⟨.hbm, 54, rfl⟩
abbrev main_v30 : Ref sig .tc := ⟨.hbm, 55, rfl⟩
abbrev main_v31 : Ref sig .tc := ⟨.hbm, 56, rfl⟩
abbrev main_call1_call0_cst : Ref sig .tc := ⟨.hbm, 57, rfl⟩
abbrev main_call1_call0_v0 : Ref sig .tc := ⟨.hbm, 58, rfl⟩
abbrev main_v32 : Ref sig .tc := ⟨.hbm, 59, rfl⟩
abbrev main_v33 : Ref sig .tc := ⟨.hbm, 60, rfl⟩
abbrev main_v34 : Ref sig .tc := ⟨.hbm, 61, rfl⟩
abbrev main_cst_4 : Ref sig .tc := ⟨.hbm, 62, rfl⟩
abbrev main_v35 : Ref sig .tc := ⟨.hbm, 63, rfl⟩
abbrev main_v36 : Ref sig .tc := ⟨.hbm, 64, rfl⟩

abbrev nD : Nat := 1
abbrev τ : Topo := Topo.v7x

variable {F : FTy → Type} [FloatOps F]
-- ==== Kernel7.lean ====
abbrev S16384x19456 : Shape := ⟨2, ![16384, 19456]⟩
abbrev S16384x1024 : Shape := ⟨2, ![16384, 1024]⟩
abbrev S4x256 : Shape := ⟨2, ![4, 256]⟩
abbrev S256x64x1024 : Shape := ⟨3, ![256, 64, 1024]⟩
abbrev S_ : Shape := ⟨0, ![]⟩
abbrev S1x256 : Shape := ⟨2, ![1, 256]⟩
abbrev S256 : Shape := ⟨1, ![256]⟩
abbrev S16384x2048 : Shape := ⟨2, ![16384, 2048]⟩
abbrev S1024x1024 : Shape := ⟨2, ![1024, 1024]⟩
abbrev S1024x2048 : Shape := ⟨2, ![1024, 2048]⟩
abbrev S8x256x128 : Shape := ⟨3, ![8, 256, 128]⟩
abbrev S64x64 : Shape := ⟨2, ![64, 64]⟩
abbrev S64x128 : Shape := ⟨2, ![64, 128]⟩
abbrev S64x256 : Shape := ⟨2, ![64, 256]⟩
abbrev S1x128 : Shape := ⟨2, ![1, 128]⟩
abbrev S1x256x128 : Shape := ⟨3, ![1, 256, 128]⟩
abbrev S256x128 : Shape := ⟨2, ![256, 128]⟩
abbrev S64 : Shape := ⟨1, ![64]⟩
abbrev S64x1 : Shape := ⟨2, ![64, 1]⟩

abbrev nBuf : Space → Nat
  | .hbm => 12
  | .vmem => 14
  | .smem => 0
  | _ => 0

abbrev bufTy : (tb : Table) → Fin (tcTables nBuf tb) → BufTy
  | .hbm, ⟨0, _⟩ => ⟨S16384x19456, .bf16⟩
  | .hbm, ⟨1, _⟩ => ⟨S16384x1024, .f32⟩
  | .hbm, ⟨2, _⟩ => ⟨S4x256, .f32⟩
  | .hbm, ⟨3, _⟩ => ⟨S256x64x1024, .f32⟩
  | .hbm, ⟨4, _⟩ => ⟨S_, .f32⟩
  | .hbm, ⟨5, _⟩ => ⟨S_, .f32⟩
  | .hbm, ⟨6, _⟩ => ⟨S256x64x1024, .f32⟩
  | .hbm, ⟨7, _⟩ => ⟨S16384x1024, .f32⟩
  | .hbm, ⟨8, _⟩ => ⟨S1x256, .f32⟩
  | .hbm, ⟨9, _⟩ => ⟨S256, .f32⟩
  | .hbm, ⟨10, _⟩ => ⟨S1x256, .f32⟩
  | .hbm, ⟨11, _⟩ => ⟨S16384x2048, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x2048, .bf16⟩
  | .local _ .vmem, ⟨5, _⟩ => ⟨S1024x2048, .bf16⟩
  | .local _ .vmem, ⟨6, _⟩ => ⟨S1024x2048, .bf16⟩
  | .local _ .vmem, ⟨7, _⟩ => ⟨S1024x2048, .bf16⟩
  | .local _ .vmem, ⟨8, _⟩ => ⟨S1024x1024, .f32⟩
  | .local _ .vmem, ⟨9, _⟩ => ⟨S1024x1024, .f32⟩
  | .local _ .vmem, ⟨10, _⟩ => ⟨S1x256, .f32⟩
  | .local _ .vmem, ⟨11, _⟩ => ⟨S1024x2048, .bf16⟩
  | .local _ .vmem, ⟨12, _⟩ => ⟨S1024x2048, .bf16⟩
  | .local _ .vmem, ⟨13, _⟩ => ⟨S8x256x128, .f32⟩
  | _, _ => ⟨S16384x19456, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_call0_call0_cst : Ref sig .tc := ⟨.hbm, 4, rfl⟩
abbrev main_call0_call0_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg6_1 : Ref sig .tc := ⟨.vmem, 12, rfl⟩
abbrev cc0_scratch0 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨2, ![4, 4], ![false, false]⟩

def cc0_transform_0 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c1_i32 : BitVec 32 := 1#32
  let c0_i32 : BitVec 32 := 0#32
  ![v1.toNat, c1_i32.toNat]

def cc0_transform_2 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c1_i32 : BitVec 32 := 1#32
  let c0_i32 : BitVec 32 := 0#32
  ![v1.toNat, c1_i32.toNat]

def cc0_transform_3 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c2_i32 : BitVec 32 := 2#32
  let c0_i32 : BitVec 32 := 0#32
  ![v1.toNat, c2_i32.toNat]

def cc0_transform_4 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1024x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 1 → Memref sig .tc .vmem S1x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1024x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== Kernel7Ideal.lean ====
variable {F : FTy → Type} [FloatOps F] [Named F]
def κ : String → Option EReal := fun
  | "log2e" => some (((Real.log 2)⁻¹ : ℝ) : EReal)
  | _ => none
-- ==== Reference7Ideal.lean ====
abbrev S16384x19456 : Shape := ⟨2, ![16384, 19456]⟩
abbrev S16384x1024 : Shape := ⟨2, ![16384, 1024]⟩
abbrev S4x256 : Shape := ⟨2, ![4, 256]⟩
abbrev S4x64x64x8x128 : Shape := ⟨5, ![4, 64, 64, 8, 128]⟩
abbrev S4x8x64x64x128 : Shape := ⟨5, ![4, 8, 64, 64, 128]⟩
abbrev S_ : Shape := ⟨0, ![]⟩
abbrev S16384x2048 : Shape := ⟨2, ![16384, 2048]⟩
abbrev S4x64x64x8x256 : Shape := ⟨5, ![4, 64, 64, 8, 256]⟩
abbrev S4x8x64x64x256 : Shape := ⟨5, ![4, 8, 64, 64, 256]⟩
abbrev S256x64x1024 : Shape := ⟨3, ![256, 64, 1024]⟩
abbrev S4x8x64x1x128 : Shape := ⟨5, ![4, 8, 64, 1, 128]⟩
abbrev S4x8x64x64x64 : Shape := ⟨5, ![4, 8, 64, 64, 64]⟩
abbrev S64x64 : Shape := ⟨2, ![64, 64]⟩
abbrev S4x8x64x128 : Shape := ⟨4, ![4, 8, 64, 128]⟩
abbrev S64x4x8x64x128 : Shape := ⟨5, ![64, 4, 8, 64, 128]⟩
abbrev S64x4x8x64x256 : Shape := ⟨5, ![64, 4, 8, 64, 256]⟩
abbrev S64x4x8x128 : Shape := ⟨4, ![64, 4, 8, 128]⟩
abbrev S4x8x128x256 : Shape := ⟨4, ![4, 8, 128, 256]⟩
abbrev S1x4x8x64x128 : Shape := ⟨5, ![1, 4, 8, 64, 128]⟩
abbrev S1x4x8x64x256 : Shape := ⟨5, ![1, 4, 8, 64, 256]⟩
abbrev S4x8x64x256 : Shape := ⟨4, ![4, 8, 64, 256]⟩
abbrev S1x4x8x128 : Shape := ⟨4, ![1, 4, 8, 128]⟩
abbrev S4x8x128 : Shape := ⟨3, ![4, 8, 128]⟩
abbrev S4x8x128x1 : Shape := ⟨4, ![4, 8, 128, 1]⟩
abbrev S1x256 : Shape := ⟨2, ![1, 256]⟩
abbrev S256 : Shape := ⟨1, ![256]⟩
abbrev S4x64x64x8 : Shape := ⟨4, ![4, 64, 64, 8]⟩
abbrev S4x64x64x8x1 : Shape := ⟨5, ![4, 64, 64, 8, 1]⟩
abbrev S1x1x1x1x256 : Shape := ⟨5, ![1, 1, 1, 1, 256]⟩

abbrev nBuf : Space → Nat
  | .hbm => 149
  | .vmem => 0
  | .smem => 0
  | _ => 0

abbrev hbmTy0_0 (i : Nat) : BufTy := match i % 128 with
  | 0 => ⟨S16384x19456, .bf16⟩
  | 1 => ⟨S16384x1024, .f32⟩
  | 2 => ⟨S4x256, .f32⟩
  | 3 => ⟨S16384x1024, .bf16⟩
  | 4 => ⟨S16384x1024, .f32⟩
  | 5 => ⟨S4x64x64x8x128, .f32⟩
  | 6 => ⟨S4x8x64x64x128, .f32⟩
  | 7 => ⟨S_, .f32⟩
  | 8 => ⟨S4x8x64x64x128, .f32⟩
  | 9 => ⟨S4x8x64x64x128, .f32⟩
  | 10 => ⟨S16384x1024, .bf16⟩
  | 11 => ⟨S16384x1024, .f32⟩
  | 12 => ⟨S4x64x64x8x128, .f32⟩
  | 13 => ⟨S4x8x64x64x128, .f32⟩
  | 14 => ⟨S16384x2048, .bf16⟩
  | 15 => ⟨S16384x2048, .f32⟩
  | 16 => ⟨S4x64x64x8x256, .f32⟩
  | 17 => ⟨S4x8x64x64x256, .f32⟩
  | 18 => ⟨S256x64x1024, .f32⟩
  | 19 => ⟨S_, .f32⟩
  | 20 => ⟨S_, .f32⟩
  | 21 => ⟨S256x64x1024, .f32⟩
  | 22 => ⟨S4x64x64x8x128, .f32⟩
  | 23 => ⟨S4x8x64x64x128, .f32⟩
  | 24 => ⟨S4x8x64x1x128, .f32⟩
  | 25 => ⟨S4x8x64x1x128, .f32⟩
  | 26 => ⟨S4x8x64x64x128, .f32⟩
  | 27 => ⟨S4x8x64x64x128, .f32⟩
  | 28 => ⟨S4x8x64x64x128, .f32⟩
  | 29 => ⟨S4x8x64x64x128, .f32⟩
  | 30 => ⟨S4x8x64x64x128, .f32⟩
  | 31 => ⟨S4x8x64x64x128, .f32⟩
  | 32 => ⟨S4x8x64x64x128, .f32⟩
  | 33 => ⟨S4x8x64x64x128, .f32⟩
  | 34 => ⟨S4x8x64x64x64, .f32⟩
  | 35 => ⟨S_, .i1⟩
  | 36 => ⟨S64x64, .i1⟩
  | 37 => ⟨S64x64, .i32⟩
  | 38 => ⟨S_, .i32⟩
  | 39 => ⟨S64x64, .i32⟩
  | 40 => ⟨S64x64, .i32⟩
  | 41 => ⟨S64x64, .i32⟩
  | 42 => ⟨S64x64, .i1⟩
  | 43 => ⟨S_, .i1⟩
  | 44 => ⟨S64x64, .i1⟩
  | 45 => ⟨S64x64, .i1⟩
  | 46 => ⟨S_, .f32⟩
  | 47 => ⟨S_, .f32⟩
  | 48 => ⟨S4x8x64x64x64, .i1⟩
  | 49 => ⟨S4x8x64x64x64, .f32⟩
  | 50 => ⟨S4x8x64x64x64, .f32⟩
  | 51 => ⟨S4x8x64x64x256, .f32⟩
  | 52 => ⟨S4x8x64x64x128, .f32⟩
  | 53 => ⟨S4x8x64x64x128, .f32⟩
  | 54 => ⟨S4x8x64x64x128, .f32⟩
  | 55 => ⟨S4x8x64x64x128, .f32⟩
  | 56 => ⟨S4x8x64x64x128, .f32⟩
  | 57 => ⟨S4x8x64x64x128, .f32⟩
  | 58 => ⟨S4x8x64x128, .f32⟩
  | 59 => ⟨S4x8x64x128, .f32⟩
  | 60 => ⟨S64x4x8x64x128, .f32⟩
  | 61 => ⟨S64x4x8x64x128, .f32⟩
  | 62 => ⟨S64x4x8x64x256, .f32⟩
  | 63 => ⟨S64x4x8x128, .f32⟩
  | 64 => ⟨S_, .f32⟩
  | 65 => ⟨S4x8x128x256, .f32⟩
  | 66 => ⟨S_, .f32⟩
  | 67 => ⟨S64x4x8x64x256, .f32⟩
  | 68 => ⟨S_, .i32⟩
  | 69 => ⟨S64x4x8x64x128, .f32⟩
  | 70 => ⟨S64x4x8x64x128, .f32⟩
  | 71 => ⟨S64x4x8x64x256, .f32⟩
  | 72 => ⟨S64x4x8x128, .f32⟩
  | 73 => ⟨S_, .i32⟩
  | 74 => ⟨S4x8x128x256, .f32⟩
  | 75 => ⟨S64x4x8x64x256, .f32⟩
  | 76 => ⟨S_, .i32⟩
  | 77 => ⟨S_, .i1⟩
  | 78 => ⟨S_, .i32⟩
  | 79 => ⟨S_, .i32⟩
  | 80 => ⟨S_, .i32⟩
  | 81 => ⟨S_, .i32⟩
  | 82 => ⟨S1x4x8x64x128, .f32⟩
  | 83 => ⟨S4x8x64x128, .f32⟩
  | 84 => ⟨S_, .i32⟩
  | 85 => ⟨S_, .i32⟩
  | 86 => ⟨S_, .i32⟩
  | 87 => ⟨S_, .i32⟩
  | 88 => ⟨S1x4x8x64x128, .f32⟩
  | 89 => ⟨S4x8x64x128, .f32⟩
  | 90 => ⟨S_, .i32⟩
  | 91 => ⟨S_, .i32⟩
  | 92 => ⟨S_, .i32⟩
  | 93 => ⟨S_, .i32⟩
  | 94 => ⟨S1x4x8x64x256, .f32⟩
  | 95 => ⟨S4x8x64x256, .f32⟩
  | 96 => ⟨S_, .i32⟩
  | 97 => ⟨S_, .i32⟩
  | 98 => ⟨S_, .i32⟩
  | 99 => ⟨S1x4x8x128, .f32⟩
  | 100 => ⟨S4x8x128, .f32⟩
  | 101 => ⟨S4x8x64x256, .f32⟩
  | 102 => ⟨S4x8x128x1, .f32⟩
  | 103 => ⟨S4x8x128x256, .f32⟩
  | 104 => ⟨S4x8x128x256, .f32⟩
  | 105 => ⟨S4x8x128x256, .f32⟩
  | 106 => ⟨S4x8x128x256, .f32⟩
  | 107 => ⟨S1x4x8x64x256, .f32⟩
  | 108 => ⟨S_, .i32⟩
  | 109 => ⟨S_, .i32⟩
  | 110 => ⟨S_, .i32⟩
  | 111 => ⟨S_, .i32⟩
  | 112 => ⟨S64x4x8x64x256, .f32⟩
  | 113 => ⟨S_, .i32⟩
  | 114 => ⟨S_, .i32⟩
  | 115 => ⟨S4x8x64x64x256, .f32⟩
  | 116 => ⟨S4x8x64x64x256, .f32⟩
  | 117 => ⟨S4x64x64x8x256, .f32⟩
  | 118 => ⟨S1x256, .f32⟩
  | 119 => ⟨S256, .f32⟩
  | 120 => ⟨S4x64x64x8x256, .f32⟩
  | 121 => ⟨S_, .f32⟩
  | 122 => ⟨S4x64x64x8, .f32⟩
  | 123 => ⟨S4x64x64x8x1, .f32⟩
  | 124 => ⟨S_, .f32⟩
  | 125 => ⟨S4x64x64x8x1, .f32⟩
  | 126 => ⟨S4x64x64x8x1, .f32⟩
  | 127 => ⟨S_, .f32⟩
  | _ => ⟨S16384x19456, .bf16⟩

abbrev hbmTy0_1 (i : Nat) : BufTy := match i % 128 with
  | 0 => ⟨S4x64x64x8x1, .f32⟩
  | 1 => ⟨S4x64x64x8x1, .f32⟩
  | 2 => ⟨S4x64x64x8x1, .f32⟩
  | 3 => ⟨S4x64x64x8x256, .f32⟩
  | 4 => ⟨S4x64x64x8x256, .f32⟩
  | 5 => ⟨S1x1x1x1x256, .f32⟩
  | 6 => ⟨S4x64x64x8x256, .f32⟩
  | 7 => ⟨S4x64x64x8x256, .f32⟩
  | 8 => ⟨S16384x2048, .f32⟩
  | 9 => ⟨S16384x2048, .bf16⟩
  | 10 => ⟨S16384x2048, .bf16⟩
  | 11 => ⟨S16384x2048, .bf16⟩
  | 12 => ⟨S16384x2048, .bf16⟩
  | 13 => ⟨S_, .bf16⟩
  | 14 => ⟨S16384x2048, .bf16⟩
  | 15 => ⟨S16384x2048, .bf16⟩
  | 16 => ⟨S_, .bf16⟩
  | 17 => ⟨S16384x2048, .bf16⟩
  | 18 => ⟨S16384x2048, .bf16⟩
  | 19 => ⟨S16384x2048, .bf16⟩
  | 20 => ⟨S16384x2048, .bf16⟩
  | _ => ⟨S16384x19456, .bf16⟩

abbrev hbmTy (i : Nat) : BufTy := match i / 128 with
  | 0 => hbmTy0_0 i
  | 1 => hbmTy0_1 i
  | _ => ⟨S16384x19456, .bf16⟩

abbrev bufTy : (tb : Table) → Fin (tcTables nBuf tb) → BufTy
  | .hbm, ⟨i, _⟩ => hbmTy i
  | _, _ => ⟨S16384x19456, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_call0_call0_cst : Ref sig .tc := ⟨.hbm, 19, rfl⟩
abbrev main_call0_call0_v0 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_c : Ref sig .tc := ⟨.hbm, 35, rfl⟩
abbrev main_v29 : Ref sig .tc := ⟨.hbm, 36, rfl⟩
abbrev main_call1_v0 : Ref sig .tc := ⟨.hbm, 37, rfl⟩
abbrev main_call1_c : Ref sig .tc := ⟨.hbm, 38, rfl⟩
abbrev main_call1_v1 : Ref sig .tc := ⟨.hbm, 39, rfl⟩
abbrev main_call1_v2 : Ref sig .tc := ⟨.hbm, 40, rfl⟩
abbrev main_call1_v3 : Ref sig .tc := ⟨.hbm, 41, rfl⟩
abbrev main_call1_v4 : Ref sig .tc := ⟨.hbm, 42, rfl⟩
abbrev main_call1_c_0 : Ref sig .tc := ⟨.hbm, 43, rfl⟩
abbrev main_call1_v5 : Ref sig .tc := ⟨.hbm, 44, rfl⟩
abbrev main_v30 : Ref sig .tc := ⟨.hbm, 45, rfl⟩
abbrev main_cst_0 : Ref sig .tc := ⟨.hbm, 46, rfl⟩
abbrev main_call2_v0 : Ref sig .tc := ⟨.hbm, 47, rfl⟩
abbrev main_call2_v1 : Ref sig .tc := ⟨.hbm, 48, rfl⟩
abbrev main_call2_v2 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_cst_1 : Ref sig .tc := ⟨.hbm, 64, rfl⟩
abbrev main_v45 : Ref sig .tc := ⟨.hbm, 65, rfl⟩
abbrev main_cst_2 : Ref sig .tc := ⟨.hbm, 66, rfl⟩
abbrev main_v46 : Ref sig .tc := ⟨.hbm, 67, rfl⟩
abbrev main_c_3 : Ref sig .tc := ⟨.hbm, 68, rfl⟩
abbrev main_v47_0 : Ref sig .tc := ⟨.hbm, 69, rfl⟩
abbrev main_v47_1 : Ref sig .tc := ⟨.hbm, 70, rfl⟩
abbrev main_v47_2 : Ref sig .tc := ⟨.hbm, 71, rfl⟩
abbrev main_v47_3 : Ref sig .tc := ⟨.hbm, 72, rfl⟩
abbrev main_v47_4 : Ref sig .tc := ⟨.hbm, 73, rfl⟩
abbrev main_v47_5 : Ref sig .tc := ⟨.hbm, 74, rfl⟩
abbrev main_v47_6 : Ref sig .tc := ⟨.hbm, 75, rfl⟩
abbrev main_while0c_c_13 : Ref sig .tc := ⟨.hbm, 76, rfl⟩
abbrev main_while0c_v71 : Ref sig .tc := ⟨.hbm, 77, rfl⟩
abbrev main_while0b_call3_c : Ref sig .tc := ⟨.hbm, 78, rfl⟩
abbrev main_while0b_call3_c_0 : Ref sig .tc := ⟨.hbm, 79, rfl⟩
abbrev main_while0b_call3_c_1 : Ref sig .tc := ⟨.hbm, 80, rfl⟩
abbrev main_while0b_call3_c_2 : Ref sig .tc := ⟨.hbm, 81, rfl⟩
abbrev main_while0b_call3_v0 : Ref sig .tc := ⟨.hbm, 82, rfl⟩
abbrev main_while0b_v71 : Ref sig .tc := ⟨.hbm, 83, rfl⟩
abbrev main_while0b_call4_c : Ref sig .tc := ⟨.hbm, 84, rfl⟩
abbrev main_while0b_call4_c_0 : Ref sig .tc := ⟨.hbm, 85, rfl⟩
abbrev main_while0b_call4_c_1 : Ref sig .tc := ⟨.hbm, 86, rfl⟩
abbrev main_while0b_call4_c_2 : Ref sig .tc := ⟨.hbm, 87, rfl⟩
abbrev main_while0b_call4_v0 : Ref sig .tc := ⟨.hbm, 88, rfl⟩
abbrev main_while0b_v72 : Ref sig .tc := ⟨.hbm, 89, rfl⟩
abbrev main_while0b_call5_c : Ref sig .tc := ⟨.hbm, 90, rfl⟩
abbrev main_while0b_call5_c_0 : Ref sig .tc := ⟨.hbm, 91, rfl⟩
abbrev main_while0b_call5_c_1 : Ref sig .tc := ⟨.hbm, 92, rfl⟩
abbrev main_while0b_call5_c_2 : Ref sig .tc := ⟨.hbm, 93, rfl⟩
abbrev main_while0b_call5_v0 : Ref sig .tc := ⟨.hbm, 94, rfl⟩
abbrev main_while0b_v73 : Ref sig .tc := ⟨.hbm, 95, rfl⟩
abbrev main_while0b_call6_c : Ref sig .tc := ⟨.hbm, 96, rfl⟩
abbrev main_while0b_call6_c_0 : Ref sig .tc := ⟨.hbm, 97, rfl⟩
abbrev main_while0b_call6_c_1 : Ref sig .tc := ⟨.hbm, 98, rfl⟩
abbrev main_while0b_call6_v0 : Ref sig .tc := ⟨.hbm, 99, rfl⟩
abbrev main_while0b_v74 : Ref sig .tc := ⟨.hbm, 100, rfl⟩
abbrev main_while0b_v75 : Ref sig .tc := ⟨.hbm, 101, rfl⟩
abbrev main_while0b_v76 : Ref sig .tc := ⟨.hbm, 102, rfl⟩
abbrev main_while0b_v77 : Ref sig .tc := ⟨.hbm, 103, rfl⟩
abbrev main_while0b_v78 : Ref sig .tc := ⟨.hbm, 104, rfl⟩
abbrev main_while0b_v79 : Ref sig .tc := ⟨.hbm, 105, rfl⟩
abbrev main_while0b_v80 : Ref sig .tc := ⟨.hbm, 106, rfl⟩
abbrev main_while0b_call7_v0 : Ref sig .tc := ⟨.hbm, 107, rfl⟩
abbrev main_while0b_call7_c : Ref sig .tc := ⟨.hbm, 108, rfl⟩
abbrev main_while0b_call7_c_0 : Ref sig .tc := ⟨.hbm, 109, rfl⟩
abbrev main_while0b_call7_c_1 : Ref sig .tc := ⟨.hbm, 110, rfl⟩
abbrev main_while0b_call7_c_2 : Ref sig .tc := ⟨.hbm, 111, rfl⟩
abbrev main_while0b_v81 : Ref sig .tc := ⟨.hbm, 112, rfl⟩
abbrev main_while0b_c_13 : Ref sig .tc := ⟨.hbm, 113, rfl⟩
abbrev main_while0b_v82 : Ref sig .tc := ⟨.hbm, 114, rfl⟩
abbrev main_v48 : Ref sig .tc := ⟨.hbm, 115, rfl⟩
abbrev main_v49 : Ref sig .tc := ⟨.hbm, 116, rfl⟩
abbrev main_v50 : Ref sig .tc := ⟨.hbm, 117, rfl⟩
abbrev main_v51 : Ref sig .tc := ⟨.hbm, 118, rfl⟩
abbrev main_v52 : Ref sig .tc := ⟨.hbm, 119, rfl⟩
abbrev main_v53 : Ref sig .tc := ⟨.hbm, 120, rfl⟩
abbrev main_cst_4 : Ref sig .tc := ⟨.hbm, 121, rfl⟩
abbrev main_v54 : Ref sig .tc := ⟨.hbm, 122, rfl⟩
abbrev main_v55 : Ref sig .tc := ⟨.hbm, 123, rfl⟩
abbrev main_cst_5 : Ref sig .tc := ⟨.hbm, 124, rfl⟩
abbrev main_v56 : Ref sig .tc := ⟨.hbm, 125, rfl⟩
abbrev main_v57 : Ref sig .tc := ⟨.hbm, 126, rfl⟩
abbrev main_cst_6 : Ref sig .tc := ⟨.hbm, 127, rfl⟩
abbrev main_v58 : Ref sig .tc := ⟨.hbm, 128, rfl⟩
abbrev main_v59 : Ref sig .tc := ⟨.hbm, 129, rfl⟩
abbrev main_v60 : Ref sig .tc := ⟨.hbm, 130, rfl⟩
abbrev main_v61 : Ref sig .tc := ⟨.hbm, 131, rfl⟩
abbrev main_v62 : Ref sig .tc := ⟨.hbm, 132, rfl⟩
abbrev main_v63 : Ref sig .tc := ⟨.hbm, 133, rfl⟩
abbrev main_v64 : Ref sig .tc := ⟨.hbm, 134, rfl⟩
abbrev main_v65 : Ref sig .tc := ⟨.hbm, 135, rfl⟩
abbrev main_v66 : Ref sig .tc := ⟨.hbm, 136, rfl⟩
abbrev main_v67 : Ref sig .tc := ⟨.hbm, 137, rfl⟩
abbrev main_v68 : Ref sig .tc := ⟨.hbm, 138, rfl⟩
abbrev main_call8_v0 : Ref sig .tc := ⟨.hbm, 139, rfl⟩
abbrev main_call8_v1 : Ref sig .tc := ⟨.hbm, 140, rfl⟩
abbrev main_call8_cst : Ref sig .tc := ⟨.hbm, 141, rfl⟩
abbrev main_call8_v2 : Ref sig .tc := ⟨.hbm, 142, rfl⟩
abbrev main_call8_v3 : Ref sig .tc := ⟨.hbm, 143, rfl⟩
abbrev main_call8_cst_0 : Ref sig .tc := ⟨.hbm, 144, rfl⟩
abbrev main_call8_v4 : Ref sig .tc := ⟨.hbm, 145, rfl⟩
abbrev main_call8_v5 : Ref sig .tc := ⟨.hbm, 146, rfl⟩
abbrev main_v69 : Ref sig .tc := ⟨.hbm, 147, rfl⟩
abbrev main_v70 : Ref sig .tc := ⟨.hbm, 148, rfl⟩

abbrev nD : Nat := 1
abbrev τ : Topo := Topo.v7x

variable {F : FTy → Type} [FloatOps F]

abbrev main_while0_count : Scf.Loop 32 := ⟨0#32, 64#32, 1#32⟩
-- ==== Proof.InProjCast.lean ====
/-
  The input projection of layer 0, its four arrays of weights: what the kernel leaves in each of them.

  The kernel walks 304 grid points. Next to the block of the projection it casts, at each point, one block of rows of
  three weight arrays (windows 7, 8, 9: 256 blocks each, so the last 49 points repeat the last block) and packs one block
  of 256 columns of one later layer's input projection (window 10: 228 blocks, its source read at an element offset).
  Each array is stated whole, as one function of the arrays the region finds, and met block by block.
-/
module

public import proofs.«01_k».proof.Proof.Gen.KernelIdeal.Value

@[expose] public section

set_option maxRecDepth 16384

noncomputable section

namespace Cert.KernelIdeal.InProj

open Cert.KernelIdeal Cert.KernelIdeal.Gen Idealize.ShloMosaic Idealize.ShloMosaic.TcCoe Idealize.SL.Sem
open Idealize.ShloMosaic.Pipeline (Dat)

variable {F : FTy → Type} [FloatOps F]
variable (m : (ℓ : Loc nD τ sig) → Buf (Elt F) ℓ)

theorem hz2 : (![0, 0] : Fin 2 → Nat) = fun _ => 0 := funext fun a => by fin_cases a <;> rfl
theorem hz3 : (![0, 0, 0] : Fin 3 → Nat) = fun _ => 0 := funext fun a => by fin_cases a <;> rfl

/-- The column of the layer's input projection that column `n` of the packed order is: the rank-16 decay columns are
    dropped and the sliding-window gate moves before the keys and values. -/
def srcCol (n : ℕ) : ℕ :=
  if n < 6144 then n else if n < 8192 then n + 16 else if n < 10240 then n + 1040 else if n < 11264 then n - 2032 else n + 16

theorem srcCol_lt {n : ℕ} (h : n < 19456) : srcCol n < 19472 := by unfold srcCol; split_ifs <;> omega

/-- Inside a block of 512 columns the packed order moves with the source's. -/
theorem srcCol_block512 (j r : ℕ) (hr : r < 512) : srcCol (j * 512 + r) = srcCol (j * 512) + r := by
  unfold srcCol; split_ifs <;> omega

/-- Inside a block of 256 columns the packed order moves with the source's. -/
theorem srcCol_block256 (j r : ℕ) (hr : r < 256) : srcCol (j * 256 + r) = srcCol (j * 256) + r := by
  unfold srcCol; split_ifs <;> omega

/-! ## Where each window's block lies, decided once over the grid -/

theorem N_eq : cfg0.N = 304 := by decide

set_option maxHeartbeats 4000000 in
theorem rows_facts : ∀ t : Fin cfg0.N,
    (win0_2.index t 0 = min t.val 255 ∧ win0_2.index t 1 = 0) ∧ (win0_7.index t 0 = min t.val 255 ∧ win0_7.index t 1 = 0)
    ∧ (win0_3.index t 0 = min t.val 255 ∧ win0_3.index t 1 = 0) ∧ (win0_8.index t 0 = min t.val 255 ∧ win0_8.index t 1 = 0)
    ∧ (win0_4.index t 0 = min t.val 255 ∧ win0_4.index t 1 = 0) ∧ (win0_9.index t 0 = min t.val 255 ∧ win0_9.index t 1 = 0) :=
  (by decide +kernel : ∀ t : Fin grid0.N, _)

set_option maxHeartbeats 4000000 in
theorem pack_facts : ∀ t : Fin cfg0.N,
    (win0_5.index t 0 = min t.val 227 / 76 + 1 ∧ win0_5.index t 1 = srcCol (min t.val 227 % 76 * 256) ∧ win0_5.index t 2 = 0)
    ∧ (win0_10.index t 0 = min t.val 227 / 76 ∧ win0_10.index t 1 = min t.val 227 % 76 ∧ win0_10.index t 2 = 0) :=
  (by decide +kernel : ∀ t : Fin grid0.N, _)

set_option maxHeartbeats 4000000 in
theorem flush_facts : ∀ t : Fin cfg0.N,
    (win0_7.flush t = true ↔ (t.val < 255 ∨ t.val = 303)) ∧ (win0_8.flush t = true ↔ (t.val < 255 ∨ t.val = 303))
    ∧ (win0_9.flush t = true ↔ (t.val < 255 ∨ t.val = 303)) ∧ (win0_10.flush t = true ↔ (t.val < 227 ∨ t.val = 303)) :=
  (by decide +kernel : ∀ t : Fin grid0.N, _)

set_option maxHeartbeats 4000000 in
theorem proj_facts : ∀ t : Fin cfg0.N,
    (win0_0.index t 0 = t.val / 38 ∧ win0_0.index t 1 = 0)
    ∧ (win0_1.index t 0 = 0 ∧ win0_1.index t 1 = srcCol (t.val % 38 * 512) ∧ win0_1.index t 2 = 0)
    ∧ (win0_6.index t 0 = t.val / 38 ∧ win0_6.index t 1 = t.val % 38) :=
  (by decide +kernel : ∀ t : Fin grid0.N, _)

/-! ## The cast arrays -/

/-- An array of `f32` rounded to `bf16` element by element. -/
abbrev castOf {S : Shape} (x : Vec F S .f32) : Vec F S .bf16 := fun i => FloatOps.truncf .bf16 bitsLt_bf16_f32 (x i)

theorem flushed7_eq (c : Dev nD) (t : Fin cfg0.N) (hf : (cfg0.win 7).flush t = true) :
    (dats m 0 c).flushed 7 t = ((cfg0.win 7).blk t).view.read (Elt F) (castOf (V m c main_v1)) := by
  rw [Value.flushed7]
  unfold out0_7
  funext y
  show View.canon _ y = _
  rw [Value.canon7_eq, View.ld_unit_zero (S := S32x4096) hz2]
  obtain ⟨⟨h0, h1⟩, ⟨h2, h3⟩, -⟩ := rows_facts t
  show FloatOps.truncf .bf16 bitsLt_bf16_f32 (V m c main_v1 _) = FloatOps.truncf .bf16 bitsLt_bf16_f32 (V m c main_v1 _)
  refine congrArg _ (congrArg _ (funext fun a => Fin.ext ?_))
  match a with
  | ⟨0, _⟩ => show win0_2.index t 0 * 32 + 1 * (y 0).val = win0_7.index t 0 * 32 + 1 * (y 0).val; rw [h0, h2]
  | ⟨1, _⟩ => show win0_2.index t 1 * 4096 + 1 * (y 1).val = win0_7.index t 1 * 4096 + 1 * (y 1).val; rw [h1, h3]

theorem final7 (c : Dev nD) : (dats m 0 c).arrAt 7 cfg0.N = castOf (V m c main_v1) :=
  (dats m 0 c).arrAt_eq_of_cover 7 _ (flushed7_eq m c) fun i => by
    have hi0 : (i 0 : Nat) < 8192 := (i 0).isLt
    have hi1 : (i 1 : Nat) < 4096 := (i 1).isLt
    have hN := N_eq
    refine ⟨⟨if (i 0 : Nat) / 32 < 255 then (i 0 : Nat) / 32 else 303, by split_ifs <;> omega⟩, (flush_facts _).1.mpr (by dsimp only; split_ifs <;> omega), ?_⟩
    generalize ht : (⟨if (i 0 : Nat) / 32 < 255 then (i 0 : Nat) / 32 else 303, _⟩ : Fin cfg0.N) = t
    have hv : t.val = if (i 0 : Nat) / 32 < 255 then (i 0 : Nat) / 32 else 303 := by rw [← ht]
    obtain ⟨-, ⟨h2, h3⟩, -⟩ := rows_facts t
    show i ∈ ((View.whole main_v4_1).slice (win0_7.rect t)).set
    rw [View.set_slice_whole, Rect.mem_set_unit]
    intro a
    match a with
    | ⟨0, _⟩ =>
      show win0_7.index t 0 * 32 ≤ (i 0 : Nat) ∧ (i 0 : Nat) < win0_7.index t 0 * 32 + 32
      rw [h2, hv]; split_ifs <;> omega
    | ⟨1, _⟩ =>
      show win0_7.index t 1 * 4096 ≤ (i 1 : Nat) ∧ (i 1 : Nat) < win0_7.index t 1 * 4096 + 4096
      rw [h3]; omega

theorem flushed8_eq (c : Dev nD) (t : Fin cfg0.N) (hf : (cfg0.win 8).flush t = true) :
    (dats m 0 c).flushed 8 t = ((cfg0.win 8).blk t).view.read (Elt F) (castOf (V m c main_v2)) := by
  rw [Value.flushed8]
  unfold out0_8
  funext y
  show View.canon _ y = _
  rw [Value.canon8_eq, View.ld_unit_zero (S := S32x4096) hz2]
  obtain ⟨-, -, ⟨h0, h1⟩, ⟨h2, h3⟩, -⟩ := rows_facts t
  show FloatOps.truncf .bf16 bitsLt_bf16_f32 (V m c main_v2 _) = FloatOps.truncf .bf16 bitsLt_bf16_f32 (V m c main_v2 _)
  refine congrArg _ (congrArg _ (funext fun a => Fin.ext ?_))
  match a with
  | ⟨0, _⟩ => show win0_3.index t 0 * 32 + 1 * (y 0).val = win0_8.index t 0 * 32 + 1 * (y 0).val; rw [h0, h2]
  | ⟨1, _⟩ => show win0_3.index t 1 * 4096 + 1 * (y 1).val = win0_8.index t 1 * 4096 + 1 * (y 1).val; rw [h1, h3]

theorem final8 (c : Dev nD) : (dats m 0 c).arrAt 8 cfg0.N = castOf (V m c main_v2) :=
  (dats m 0 c).arrAt_eq_of_cover 8 _ (flushed8_eq m c) fun i => by
    have hi0 : (i 0 : Nat) < 8192 := (i 0).isLt
    have hi1 : (i 1 : Nat) < 4096 := (i 1).isLt
    have hN := N_eq
    refine ⟨⟨if (i 0 : Nat) / 32 < 255 then (i 0 : Nat) / 32 else 303, by split_ifs <;> omega⟩, (flush_facts _).2.1.mpr (by dsimp only; split_ifs <;> omega), ?_⟩
    generalize ht : (⟨if (i 0 : Nat) / 32 < 255 then (i 0 : Nat) / 32 else 303, _⟩ : Fin cfg0.N) = t
    have hv : t.val = if (i 0 : Nat) / 32 < 255 then (i 0 : Nat) / 32 else 303 := by rw [← ht]
    obtain ⟨-, -, -, ⟨h2, h3⟩, -⟩ := rows_facts t
    show i ∈ ((View.whole main_v4_2).slice (win0_8.rect t)).set
    rw [View.set_slice_whole, Rect.mem_set_unit]
    intro a
    match a with
    | ⟨0, _⟩ =>
      show win0_8.index t 0 * 32 ≤ (i 0 : Nat) ∧ (i 0 : Nat) < win0_8.index t 0 * 32 + 32
      rw [h2, hv]; split_ifs <;> omega
    | ⟨1, _⟩ =>
      show win0_8.index t 1 * 4096 ≤ (i 1 : Nat) ∧ (i 1 : Nat) < win0_8.index t 1 * 4096 + 4096
      rw [h3]; omega

theorem flushed9_eq (c : Dev nD) (t : Fin cfg0.N) (hf : (cfg0.win 9).flush t = true) :
    (dats m 0 c).flushed 9 t = ((cfg0.win 9).blk t).view.read (Elt F) (castOf (V m c main_v3)) := by
  rw [Value.flushed9]
  unfold out0_9
  funext y
  show View.canon _ y = _
  rw [Value.canon9_eq, View.ld_unit_zero (S := S64x4096) hz2]
  obtain ⟨-, -, -, -, ⟨h0, h1⟩, ⟨h2, h3⟩⟩ := rows_facts t
  show FloatOps.truncf .bf16 bitsLt_bf16_f32 (V m c main_v3 _) = FloatOps.truncf .bf16 bitsLt_bf16_f32 (V m c main_v3 _)
  refine congrArg _ (congrArg _ (funext fun a => Fin.ext ?_))
  match a with
  | ⟨0, _⟩ => show win0_4.index t 0 * 64 + 1 * (y 0).val = win0_9.index t 0 * 64 + 1 * (y 0).val; rw [h0, h2]
  | ⟨1, _⟩ => show win0_4.index t 1 * 4096 + 1 * (y 1).val = win0_9.index t 1 * 4096 + 1 * (y 1).val; rw [h1, h3]

theorem final9 (c : Dev nD) : (dats m 0 c).arrAt 9 cfg0.N = castOf (V m c main_v3) :=
  (dats m 0 c).arrAt_eq_of_cover 9 _ (flushed9_eq m c) fun i => by
    have hi0 : (i 0 : Nat) < 16384 := (i 0).isLt
    have hi1 : (i 1 : Nat) < 4096 := (i 1).isLt
    have hN := N_eq
    refine ⟨⟨if (i 0 : Nat) / 64 < 255 then (i 0 : Nat) / 64 else 303, by split_ifs <;> omega⟩, (flush_facts _).2.2.1.mpr (by dsimp only; split_ifs <;> omega), ?_⟩
    generalize ht : (⟨if (i 0 : Nat) / 64 < 255 then (i 0 : Nat) / 64 else 303, _⟩ : Fin cfg0.N) = t
    have hv : t.val = if (i 0 : Nat) / 64 < 255 then (i 0 : Nat) / 64 else 303 := by rw [← ht]
    obtain ⟨-, -, -, -, -, ⟨h2, h3⟩⟩ := rows_facts t
    show i ∈ ((View.whole main_v4_3).slice (win0_9.rect t)).set
    rw [View.set_slice_whole, Rect.mem_set_unit]
    intro a
    match a with
    | ⟨0, _⟩ =>
      show win0_9.index t 0 * 64 ≤ (i 0 : Nat) ∧ (i 0 : Nat) < win0_9.index t 0 * 64 + 64
      rw [h2, hv]; split_ifs <;> omega
    | ⟨1, _⟩ =>
      show win0_9.index t 1 * 4096 ≤ (i 1 : Nat) ∧ (i 1 : Nat) < win0_9.index t 1 * 4096 + 4096
      rw [h3]; omega

/-! ## The packed array -/

theorem packIdx_lt (i : S3x19456x4096.Idx) :
    ((i 0).val + 1 < 4) ∧ srcCol (i 1).val < 19472 ∧ (i 2).val < 4096 :=
  ⟨by have : (i 0).val < 3 := (i 0).isLt; omega, srcCol_lt (i 1).isLt, (i 2).isLt⟩

/-- The element of the weights, their input and output axes exchanged, that element `i` of the packed array is. -/
abbrev packIdx (i : S3x19456x4096.Idx) : S4x19472x4096.Idx := fun a => match a with
  | ⟨0, _⟩ => ⟨(i 0).val + 1, (packIdx_lt i).1⟩
  | ⟨1, _⟩ => ⟨srcCol (i 1).val, (packIdx_lt i).2.1⟩
  | ⟨2, _⟩ => ⟨(i 2).val, (packIdx_lt i).2.2⟩

/-- The packed weights of the later layers, rounded to `bf16`. -/
abbrev packed (x : Vec F S4x19472x4096 .f32) : Vec F S3x19456x4096 .bf16 :=
  fun i => FloatOps.truncf .bf16 bitsLt_bf16_f32 (x (packIdx i))

theorem flushed10_eq (c : Dev nD) (t : Fin cfg0.N) (hf : (cfg0.win 10).flush t = true) :
    (dats m 0 c).flushed 10 t = ((cfg0.win 10).blk t).view.read (Elt F) (packed (V m c main_v0)) := by
  rw [Value.flushed10]
  unfold out0_10
  funext y
  show View.canon _ y = _
  rw [Value.canon10_eq, View.ld_unit_zero (S := S1x256x4096) hz3]
  obtain ⟨⟨h0, h1, h2⟩, h3, h4, h5⟩ := pack_facts t
  have hy0 : (y 0).val < 1 := (y 0).isLt
  have hy1 : (y 1).val < 256 := (y 1).isLt
  show FloatOps.truncf .bf16 bitsLt_bf16_f32 (V m c main_v0 _) = FloatOps.truncf .bf16 bitsLt_bf16_f32 (V m c main_v0 _)
  refine congrArg _ (congrArg _ (funext fun a => Fin.ext ?_))
  match a with
  | ⟨0, _⟩ => show win0_5.index t 0 + 1 * 0 = (win0_10.index t 0 * 1 + 1 * (y 0).val) + 1; rw [h0, h3]; omega
  | ⟨1, _⟩ =>
    show win0_5.index t 1 + 1 * (y 1).val = srcCol (win0_10.index t 1 * 256 + 1 * (y 1).val)
    rw [h1, h4, Nat.one_mul, srcCol_block256 _ _ hy1]
  | ⟨2, _⟩ => show win0_5.index t 2 + 1 * (y 2).val = win0_10.index t 2 * 4096 + 1 * (y 2).val; rw [h2, h5]

theorem final10 (c : Dev nD) : (dats m 0 c).arrAt 10 cfg0.N = packed (V m c main_v0) :=
  (dats m 0 c).arrAt_eq_of_cover 10 _ (flushed10_eq m c) fun i => by
    have hi0 : (i 0 : Nat) < 3 := (i 0).isLt
    have hi1 : (i 1 : Nat) < 19456 := (i 1).isLt
    have hi2 : (i 2 : Nat) < 4096 := (i 2).isLt
    have hN := N_eq
    have hq : (i 1 : Nat) / 256 < 76 := by omega
    obtain ⟨q, hqe⟩ : ∃ q, q = (i 0 : Nat) * 76 + (i 1 : Nat) / 256 := ⟨_, rfl⟩
    have hq0 : q / 76 = (i 0 : Nat) := by omega
    have hq1 : q % 76 = (i 1 : Nat) / 256 := by omega
    refine ⟨⟨if q < 227 then q else 303, by split_ifs <;> omega⟩, (flush_facts _).2.2.2.mpr (by dsimp only; split_ifs <;> omega), ?_⟩
    generalize ht : (⟨if q < 227 then q else 303, _⟩ : Fin cfg0.N) = t
    have hv : t.val = if q < 227 then q else 303 := by rw [← ht]
    have hm : min t.val 227 = q := by rw [hv]; split_ifs <;> omega
    obtain ⟨-, h3, h4, h5⟩ := pack_facts t
    rw [hm] at h3 h4
    show i ∈ ((View.whole main_v4_4).slice (win0_10.rect t)).set
    rw [View.set_slice_whole, Rect.mem_set_unit]
    intro a
    match a with
    | ⟨0, _⟩ =>
      show win0_10.index t 0 * 1 ≤ (i 0 : Nat) ∧ (i 0 : Nat) < win0_10.index t 0 * 1 + 1
      rw [h3]; omega
    | ⟨1, _⟩ =>
      show win0_10.index t 1 * 256 ≤ (i 1 : Nat) ∧ (i 1 : Nat) < win0_10.index t 1 * 256 + 256
      rw [h4]; omega
    | ⟨2, _⟩ =>
      show win0_10.index t 2 * 4096 ≤ (i 2 : Nat) ∧ (i 2 : Nat) < win0_10.index t 2 * 4096 + 4096
      rw [h5]; omega

end Cert.KernelIdeal.InProj

end
-- ==== Proof.InProjDot.lean ====
/-
  The input projection of layer 0: the block product each grid point writes, and the projection as one array.

  Point `t` of the 8 × 38 grid multiplies 2048 rows of the activations with 512 columns of the weights, the columns taken
  at the element offset the packed order gives them. At the extended reals a rounding is the identity, so the array the
  kernel leaves is the product read in the packed order.
-/
module

public import proofs.«01_k».proof.Proof.InProjCast
public import Idealize.ShloMosaic.Lib.MatmulPlain

@[expose] public section

set_option maxRecDepth 16384

noncomputable section

namespace Cert.KernelIdeal.InProj

open Cert.KernelIdeal Cert.KernelIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ)

/-- The block product at an index. -/
theorem pay1_apply (v0 : Vec Ideal S1x512x4096 .f32) (v3 : Vec Ideal S2048x4096 .bf16) (r : Fin 2048) (n : Fin 512) :
    k0_pay1 (F := Ideal) v0 v3 (ix2 r n) = ∑ k : Fin 4096, v3 (ix2 r k) * v0 (ix3 0 n k) := by
  refine (Ideal.matmul_transposedRhs_apply (φ₁ := .bf16) (φ₂ := .bf16) (M := 2048) (K := 4096) (N := 512) none v3
    (truncf .bf16 (shapeCast S512x4096 v0 shapeCasts_S1x512x4096_S512x4096) bitsLt_bf16_f32)
    (constant S2048x512 .f32 0x00000000#32) r n).trans ?_
  have h0 : (constant S2048x512 .f32 0x00000000#32 : FVec Ideal S2048x512 .f32) (ix2 r n) = (0 : EReal) := Ideal.ofBits_zero_f32
  rw [h0, zero_add]
  refine Finset.sum_congr rfl fun k _ => ?_
  have h1 : shapeCast S512x4096 v0 shapeCasts_S1x512x4096_S512x4096 (ix2 n k) = v0 (ix3 0 n k) :=
    (shapeCast_dropUnit_apply ![512, 4096] v0 shapeCasts_S1x512x4096_S512x4096 (ix2 n k)).trans
      (congrArg v0 (funext fun a => match a with | ⟨0, _⟩ => rfl | ⟨1, _⟩ => rfl | ⟨2, _⟩ => rfl))
  exact congrArg (fun e : EReal => v3 (ix2 r k) * e) h1

/-- The element of the weights, their axes exchanged, that row `k` and packed column `n` of layer 0 are. -/
abbrev projIdx (n : Fin 19456) (k : Fin 4096) : S4x19472x4096.Idx := fun a => match a with
  | ⟨0, _⟩ => ⟨0, Nat.succ_pos 3⟩
  | ⟨1, _⟩ => ⟨srcCol n.val, srcCol_lt n.isLt⟩
  | ⟨2, _⟩ => ⟨k.val, k.isLt⟩

/-- The projection in the packed order. -/
def proj (x : Vec Ideal S16384x4096 .bf16) (w : Vec Ideal S4x19472x4096 .f32) : Vec Ideal S16384x19456 .bf16 :=
  fun i => ∑ k : Fin 4096, x (ix2 (i 0) k) * w (projIdx (i 1) k)

/-- Window 0's block at an index: the rows of the activations. -/
theorem iblk0_apply (c : Dev nD) (t : Fin cfg0.N) (r : Fin 2048) (k : Fin 4096) (i : S16384x4096.Idx)
    (h0 : (i 0).val = t.val / 38 * 2048 + r.val) (h1 : (i 1).val = k.val) :
    iblk m c 0 t (ix2 r k) = V m c main_arg0 i := by
  obtain ⟨⟨e0, e1⟩, -⟩ := proj_facts t
  refine congrArg (V m c main_arg0) (funext fun a => Fin.ext ?_)
  match a with
  | ⟨0, _⟩ => show win0_0.index t 0 * 2048 + 1 * r.val = (i 0).val; rw [e0, h0]; omega
  | ⟨1, _⟩ => show win0_0.index t 1 * 4096 + 1 * k.val = (i 1).val; rw [e1, h1]; omega

/-- Window 1's block at an index: the columns of the weights at the packed order's element offset. -/
theorem iblk1_apply (c : Dev nD) (t : Fin cfg0.N) (n : Fin 512) (k : Fin 4096) (i : S4x19472x4096.Idx)
    (h0 : (i 0).val = 0) (h1 : (i 1).val = srcCol (t.val % 38 * 512 + n.val)) (h2 : (i 2).val = k.val) :
    iblk m c 1 t (ix3 0 n k) = V m c main_v0 i := by
  obtain ⟨-, ⟨e0, e1, e2⟩, -⟩ := proj_facts t
  refine congrArg (V m c main_v0) (funext fun a => Fin.ext ?_)
  match a with
  | ⟨0, _⟩ => show win0_1.index t 0 + 1 * 0 = (i 0).val; rw [e0, h0]
  | ⟨1, _⟩ => show win0_1.index t 1 + 1 * n.val = (i 1).val; rw [e1, h1, srcCol_block512 _ _ n.isLt, Nat.one_mul]
  | ⟨2, _⟩ => show win0_1.index t 2 + 1 * k.val = (i 2).val; rw [e2, h2]; omega

/-- Point `t`'s block product is the projection at the element its index lies under. -/
theorem block6_apply (c : Dev nD) (t : Fin cfg0.N) (r : Fin 2048) (n : Fin 512) (i : S16384x19456.Idx)
    (h0 : (i 0).val = t.val / 38 * 2048 + r.val) (h1 : (i 1).val = t.val % 38 * 512 + n.val) :
    k0_pay1 (F := Ideal) (iblk m c 1 t) (iblk m c 0 t) (ix2 r n) = proj (V m c main_arg0) (V m c main_v0) i := by
  refine (pay1_apply _ _ r n).trans (Finset.sum_congr rfl fun k _ => ?_)
  rw [iblk0_apply m c t r k (ix2 (i 0) k) h0 rfl, iblk1_apply m c t n k (projIdx (i 1) k) rfl (by show srcCol (i 1).val = _; rw [h1]) rfl]

theorem flushed6_eq (c : Dev nD) (t : Fin cfg0.N) (hf : (cfg0.win 6).flush t = true) :
    (dats m 0 c).flushed 6 t = ((cfg0.win 6).blk t).view.read (Elt Ideal) (proj (V m c main_arg0) (V m c main_v0)) := by
  rw [Value.flushed6]
  unfold out0_6
  rw [View.canon_unit_zero hz2, View.ld_unit_zero (S := S1x512x4096) hz3, View.ld_unit_zero (S := S2048x4096) hz2]
  obtain ⟨-, -, h5, h6⟩ := proj_facts t
  funext y
  obtain ⟨r, n, rfl⟩ : ∃ (r : Fin 2048) (n : Fin 512), y = ix2 r n := ⟨y 0, y 1, eq_ix2 y⟩
  refine block6_apply m c t r n _ ?_ ?_
  · show win0_6.index t 0 * 2048 + 1 * r.val = _; rw [h5]; omega
  · show win0_6.index t 1 * 512 + 1 * n.val = _; rw [h6]; omega

theorem final6 (c : Dev nD) : (dats m 0 c).arrAt 6 cfg0.N = proj (V m c main_arg0) (V m c main_v0) :=
  (dats m 0 c).arrAt_eq_of_cover 6 _ (flushed6_eq m c) fun i => by
    have hi0 : (i 0 : Nat) < 16384 := (i 0).isLt
    have hi1 : (i 1 : Nat) < 19456 := (i 1).isLt
    have hN := N_eq
    refine ⟨⟨(i 0 : Nat) / 2048 * 38 + (i 1 : Nat) / 512, by omega⟩, flush0_6 _, ?_⟩
    generalize ht : (⟨(i 0 : Nat) / 2048 * 38 + (i 1 : Nat) / 512, _⟩ : Fin cfg0.N) = t
    have hv : t.val = (i 0 : Nat) / 2048 * 38 + (i 1 : Nat) / 512 := by rw [← ht]
    obtain ⟨-, -, h5, h6⟩ := proj_facts t
    show i ∈ ((View.whole main_v4_0).slice (win0_6.rect t)).set
    rw [View.set_slice_whole, Rect.mem_set_unit]
    intro a
    match a with
    | ⟨0, _⟩ =>
      show win0_6.index t 0 * 2048 ≤ (i 0 : Nat) ∧ (i 0 : Nat) < win0_6.index t 0 * 2048 + 2048
      rw [h5, hv]; omega
    | ⟨1, _⟩ =>
      show win0_6.index t 1 * 512 ≤ (i 1 : Nat) ∧ (i 1 : Nat) < win0_6.index t 1 * 512 + 512
      rw [h6, hv]; omega

end Cert.KernelIdeal.InProj

end
-- ==== Proof.InProjRef.lean ====
/-
  The reference of the input projection of layer 0, read at an index: the joined column pieces are the projection's
  columns in the packed order, and so are the joined pieces of the later layers' weights.
-/
module

public import proofs.«01_k».proof.Proof.InProjDot
public import proofs.«01_k».proof.Proof.Gen.ReferenceIdeal.Read
public import Idealize.ShloMosaic.Lib.MatmulPlain

@[expose] public section

set_option maxRecDepth 16384

noncomputable section

namespace Cert.ReferenceIdeal.InProj

open Cert.ReferenceIdeal Cert.ReferenceIdeal.Gen Cert.ReferenceIdeal.Read Idealize.ShloMosaic Idealize.ShloMosaic.TcCoe Idealize.SL.Sem
open Idealize.ShloMosaic.ValueIdx
open Cert.KernelIdeal.InProj (srcCol srcCol_lt)

variable {F : FTy → Type} [FloatOps F]

/-- The joined pieces of the projection at row `r` and packed column `n`. -/
theorem v15_apply (x0 : Vec F S16384x4096 .bf16) (x1 : Vec F S4x4096x19472 .f32) (r : Fin 16384) (n : Fin 19456) :
    val_main_v15 (F := F) x0 x1 (ix2 r n) = val_main_v3 (F := F) x0 x1 (ix2 r ⟨srcCol n.val, srcCol_lt n.isLt⟩) := by
  have hn := n.isLt
  unfold val_main_v15
  by_cases h0 : n.val < 1024
  · refine (concatenate_apply_piece 1 _ _ (ix2 r n) 0 (by show 0 < 10; decide) S16384x1024 (val_main_v4 x0 x1) rfl rfl 0 rfl (ix2 r ⟨n.val - 0, by omega⟩)
      (fun b hb => match b, hb with | ⟨0, _⟩, _ => rfl | ⟨1, _⟩, hb => absurd rfl hb) (by show 0 + (n.val - 0) = n.val; omega)).trans ?_
    refine (val_main_v4_apply x0 x1 _).trans (congrArg _ (funext fun a => Fin.ext ?_))
    match a with
    | ⟨0, _⟩ => rfl
    | ⟨1, _⟩ => show n.val - 0 = srcCol n.val; unfold srcCol; split_ifs <;> omega
  by_cases h1 : n.val < 2048
  · refine (concatenate_apply_piece 1 _ _ (ix2 r n) 1 (by show 1 < 10; decide) S16384x1024 (val_main_v5 x0 x1) rfl rfl 1024 (by show [1024].sum = 1024; rfl) (ix2 r ⟨n.val - 1024, by omega⟩)
      (fun b hb => match b, hb with | ⟨0, _⟩, _ => rfl | ⟨1, _⟩, hb => absurd rfl hb) (by show 1024 + (n.val - 1024) = n.val; omega)).trans ?_
    refine (val_main_v5_apply x0 x1 _).trans (congrArg _ (funext fun a => Fin.ext ?_))
    match a with
    | ⟨0, _⟩ => rfl
    | ⟨1, _⟩ => show 1024 + (n.val - 1024) = srcCol n.val; unfold srcCol; split_ifs <;> omega
  by_cases h2 : n.val < 4096
  · refine (concatenate_apply_piece 1 _ _ (ix2 r n) 2 (by show 2 < 10; decide) S16384x2048 (val_main_v6 x0 x1) rfl rfl 2048 (by show [1024, 1024].sum = 2048; rfl) (ix2 r ⟨n.val - 2048, by omega⟩)
      (fun b hb => match b, hb with | ⟨0, _⟩, _ => rfl | ⟨1, _⟩, hb => absurd rfl hb) (by show 2048 + (n.val - 2048) = n.val; omega)).trans ?_
    refine (val_main_v6_apply x0 x1 _).trans (congrArg _ (funext fun a => Fin.ext ?_))
    match a with
    | ⟨0, _⟩ => rfl
    | ⟨1, _⟩ => show 2048 + (n.val - 2048) = srcCol n.val; unfold srcCol; split_ifs <;> omega
  by_cases h3 : n.val < 6144
  · refine (concatenate_apply_piece 1 _ _ (ix2 r n) 3 (by show 3 < 10; decide) S16384x2048 (val_main_v7 x0 x1) rfl rfl 4096 (by show [1024, 1024, 2048].sum = 4096; rfl) (ix2 r ⟨n.val - 4096, by omega⟩)
      (fun b hb => match b, hb with | ⟨0, _⟩, _ => rfl | ⟨1, _⟩, hb => absurd rfl hb) (by show 4096 + (n.val - 4096) = n.val; omega)).trans ?_
    refine (val_main_v7_apply x0 x1 _).trans (congrArg _ (funext fun a => Fin.ext ?_))
    match a with
    | ⟨0, _⟩ => rfl
    | ⟨1, _⟩ => show 4096 + (n.val - 4096) = srcCol n.val; unfold srcCol; split_ifs <;> omega
  by_cases h4 : n.val < 8192
  · refine (concatenate_apply_piece 1 _ _ (ix2 r n) 4 (by show 4 < 10; decide) S16384x2048 (val_main_v9 x0 x1) rfl rfl 6144 (by show [1024, 1024, 2048, 2048].sum = 6144; rfl) (ix2 r ⟨n.val - 6144, by omega⟩)
      (fun b hb => match b, hb with | ⟨0, _⟩, _ => rfl | ⟨1, _⟩, hb => absurd rfl hb) (by show 6144 + (n.val - 6144) = n.val; omega)).trans ?_
    refine (val_main_v9_apply x0 x1 _).trans (congrArg _ (funext fun a => Fin.ext ?_))
    match a with
    | ⟨0, _⟩ => rfl
    | ⟨1, _⟩ => show 6160 + (n.val - 6144) = srcCol n.val; unfold srcCol; split_ifs <;> omega
  by_cases h5 : n.val < 10240
  · refine (concatenate_apply_piece 1 _ _ (ix2 r n) 5 (by show 5 < 10; decide) S16384x2048 (val_main_v12 x0 x1) rfl rfl 8192 (by show [1024, 1024, 2048, 2048, 2048].sum = 8192; rfl) (ix2 r ⟨n.val - 8192, by omega⟩)
      (fun b hb => match b, hb with | ⟨0, _⟩, _ => rfl | ⟨1, _⟩, hb => absurd rfl hb) (by show 8192 + (n.val - 8192) = n.val; omega)).trans ?_
    refine (val_main_v12_apply x0 x1 _).trans (congrArg _ (funext fun a => Fin.ext ?_))
    match a with
    | ⟨0, _⟩ => rfl
    | ⟨1, _⟩ => show 9232 + (n.val - 8192) = srcCol n.val; unfold srcCol; split_ifs <;> omega
  by_cases h6 : n.val < 10752
  · refine (concatenate_apply_piece 1 _ _ (ix2 r n) 6 (by show 6 < 10; decide) S16384x512 (val_main_v10 x0 x1) rfl rfl 10240 (by show [1024, 1024, 2048, 2048, 2048, 2048].sum = 10240; rfl) (ix2 r ⟨n.val - 10240, by omega⟩)
      (fun b hb => match b, hb with | ⟨0, _⟩, _ => rfl | ⟨1, _⟩, hb => absurd rfl hb) (by show 10240 + (n.val - 10240) = n.val; omega)).trans ?_
    refine (val_main_v10_apply x0 x1 _).trans (congrArg _ (funext fun a => Fin.ext ?_))
    match a with
    | ⟨0, _⟩ => rfl
    | ⟨1, _⟩ => show 8208 + (n.val - 10240) = srcCol n.val; unfold srcCol; split_ifs <;> omega
  by_cases h7 : n.val < 11264
  · refine (concatenate_apply_piece 1 _ _ (ix2 r n) 7 (by show 7 < 10; decide) S16384x512 (val_main_v11 x0 x1) rfl rfl 10752 (by show [1024, 1024, 2048, 2048, 2048, 2048, 512].sum = 10752; rfl) (ix2 r ⟨n.val - 10752, by omega⟩)
      (fun b hb => match b, hb with | ⟨0, _⟩, _ => rfl | ⟨1, _⟩, hb => absurd rfl hb) (by show 10752 + (n.val - 10752) = n.val; omega)).trans ?_
    refine (val_main_v11_apply x0 x1 _).trans (congrArg _ (funext fun a => Fin.ext ?_))
    match a with
    | ⟨0, _⟩ => rfl
    | ⟨1, _⟩ => show 8720 + (n.val - 10752) = srcCol n.val; unfold srcCol; split_ifs <;> omega
  by_cases h8 : n.val < 15360
  · refine (concatenate_apply_piece 1 _ _ (ix2 r n) 8 (by show 8 < 10; decide) S16384x4096 (val_main_v13 x0 x1) rfl rfl 11264 (by show [1024, 1024, 2048, 2048, 2048, 2048, 512, 512].sum = 11264; rfl) (ix2 r ⟨n.val - 11264, by omega⟩)
      (fun b hb => match b, hb with | ⟨0, _⟩, _ => rfl | ⟨1, _⟩, hb => absurd rfl hb) (by show 11264 + (n.val - 11264) = n.val; omega)).trans ?_
    refine (val_main_v13_apply x0 x1 _).trans (congrArg _ (funext fun a => Fin.ext ?_))
    match a with
    | ⟨0, _⟩ => rfl
    | ⟨1, _⟩ => show 11280 + (n.val - 11264) = srcCol n.val; unfold srcCol; split_ifs <;> omega
  refine (concatenate_apply_piece 1 _ _ (ix2 r n) 9 (by show 9 < 10; decide) S16384x4096 (val_main_v14 x0 x1) rfl rfl 15360 (by show [1024, 1024, 2048, 2048, 2048, 2048, 512, 512, 4096].sum = 15360; rfl) (ix2 r ⟨n.val - 15360, by omega⟩)
    (fun b hb => match b, hb with | ⟨0, _⟩, _ => rfl | ⟨1, _⟩, hb => absurd rfl hb) (by show 15360 + (n.val - 15360) = n.val; omega)).trans ?_
  refine (val_main_v14_apply x0 x1 _).trans (congrArg _ (funext fun a => Fin.ext ?_))
  match a with
  | ⟨0, _⟩ => rfl
  | ⟨1, _⟩ => show 15376 + (n.val - 15360) = srcCol n.val; unfold srcCol; split_ifs <;> omega

/-- The joined pieces of the later layers' weights at layer `l`, row `k` and packed column `n`. -/
theorem v28_apply (x1 : Vec F S4x4096x19472 .f32) (l : Fin 3) (k : Fin 4096) (n : Fin 19456) :
    val_main_v28 (F := F) x1 (ix3 l k n) = val_main_v16 (F := F) x1 (ix3 l k ⟨srcCol n.val, srcCol_lt n.isLt⟩) := by
  have hn := n.isLt
  unfold val_main_v28
  by_cases h0 : n.val < 1024
  · refine (concatenate_apply_piece 2 _ _ (ix3 l k n) 0 (by show 0 < 10; decide) S3x4096x1024 (val_main_v17 x1) rfl rfl 0 rfl (ix3 l k ⟨n.val - 0, by omega⟩)
      (fun b hb => match b, hb with | ⟨0, _⟩, _ => rfl | ⟨1, _⟩, _ => rfl | ⟨2, _⟩, hb => absurd rfl hb) (by show 0 + (n.val - 0) = n.val; omega)).trans ?_
    refine (val_main_v17_apply x1 _).trans (congrArg _ (funext fun a => Fin.ext ?_))
    match a with
    | ⟨0, _⟩ => rfl
    | ⟨1, _⟩ => rfl
    | ⟨2, _⟩ => show n.val - 0 = srcCol n.val; unfold srcCol; split_ifs <;> omega
  by_cases h1 : n.val < 2048
  · refine (concatenate_apply_piece 2 _ _ (ix3 l k n) 1 (by show 1 < 10; decide) S3x4096x1024 (val_main_v18 x1) rfl rfl 1024 (by show [1024].sum = 1024; rfl) (ix3 l k ⟨n.val - 1024, by omega⟩)
      (fun b hb => match b, hb with | ⟨0, _⟩, _ => rfl | ⟨1, _⟩, _ => rfl | ⟨2, _⟩, hb => absurd rfl hb) (by show 1024 + (n.val - 1024) = n.val; omega)).trans ?_
    refine (val_main_v18_apply x1 _).trans (congrArg _ (funext fun a => Fin.ext ?_))
    match a with
    | ⟨0, _⟩ => rfl
    | ⟨1, _⟩ => rfl
    | ⟨2, _⟩ => show 1024 + (n.val - 1024) = srcCol n.val; unfold srcCol; split_ifs <;> omega
  by_cases h2 : n.val < 4096
  · refine (concatenate_apply_piece 2 _ _ (ix3 l k n) 2 (by show 2 < 10; decide) S3x4096x2048 (val_main_v19 x1) rfl rfl 2048 (by show [1024, 1024].sum = 2048; rfl) (ix3 l k ⟨n.val - 2048, by omega⟩)
      (fun b hb => match b, hb with | ⟨0, _⟩, _ => rfl | ⟨1, _⟩, _ => rfl | ⟨2, _⟩, hb => absurd rfl hb) (by show 2048 + (n.val - 2048) = n.val; omega)).trans ?_
    refine (val_main_v19_apply x1 _).trans (congrArg _ (funext fun a => Fin.ext ?_))
    match a with
    | ⟨0, _⟩ => rfl
    | ⟨1, _⟩ => rfl
    | ⟨2, _⟩ => show 2048 + (n.val - 2048) = srcCol n.val; unfold srcCol; split_ifs <;> omega
  by_cases h3 : n.val < 6144
  · refine (concatenate_apply_piece 2 _ _ (ix3 l k n) 3 (by show 3 < 10; decide) S3x4096x2048 (val_main_v20 x1) rfl rfl 4096 (by show [1024, 1024, 2048].sum = 4096; rfl) (ix3 l k ⟨n.val - 4096, by omega⟩)
      (fun b hb => match b, hb with | ⟨0, _⟩, _ => rfl | ⟨1, _⟩, _ => rfl | ⟨2, _⟩, hb => absurd rfl hb) (by show 4096 + (n.val - 4096) = n.val; omega)).trans ?_
    refine (val_main_v20_apply x1 _).trans (congrArg _ (funext fun a => Fin.ext ?_))
    match a with
    | ⟨0, _⟩ => rfl
    | ⟨1, _⟩ => rfl
    | ⟨2, _⟩ => show 4096 + (n.val - 4096) = srcCol n.val; unfold srcCol; split_ifs <;> omega
  by_cases h4 : n.val < 8192
  · refine (concatenate_apply_piece 2 _ _ (ix3 l k n) 4 (by show 4 < 10; decide) S3x4096x2048 (val_main_v22 x1) rfl rfl 6144 (by show [1024, 1024, 2048, 2048].sum = 6144; rfl) (ix3 l k ⟨n.val - 6144, by omega⟩)
      (fun b hb => match b, hb with | ⟨0, _⟩, _ => rfl | ⟨1, _⟩, _ => rfl | ⟨2, _⟩, hb => absurd rfl hb) (by show 6144 + (n.val - 6144) = n.val; omega)).trans ?_
    refine (val_main_v22_apply x1 _).trans (congrArg _ (funext fun a => Fin.ext ?_))
    match a with
    | ⟨0, _⟩ => rfl
    | ⟨1, _⟩ => rfl
    | ⟨2, _⟩ => show 6160 + (n.val - 6144) = srcCol n.val; unfold srcCol; split_ifs <;> omega
  by_cases h5 : n.val < 10240
  · refine (concatenate_apply_piece 2 _ _ (ix3 l k n) 5 (by show 5 < 10; decide) S3x4096x2048 (val_main_v25 x1) rfl rfl 8192 (by show [1024, 1024, 2048, 2048, 2048].sum = 8192; rfl) (ix3 l k ⟨n.val - 8192, by omega⟩)
      (fun b hb => match b, hb with | ⟨0, _⟩, _ => rfl | ⟨1, _⟩, _ => rfl | ⟨2, _⟩, hb => absurd rfl hb) (by show 8192 + (n.val - 8192) = n.val; omega)).trans ?_
    refine (val_main_v25_apply x1 _).trans (congrArg _ (funext fun a => Fin.ext ?_))
    match a with
    | ⟨0, _⟩ => rfl
    | ⟨1, _⟩ => rfl
    | ⟨2, _⟩ => show 9232 + (n.val - 8192) = srcCol n.val; unfold srcCol; split_ifs <;> omega
  by_cases h6 : n.val < 10752
  · refine (concatenate_apply_piece 2 _ _ (ix3 l k n) 6 (by show 6 < 10; decide) S3x4096x512 (val_main_v23 x1) rfl rfl 10240 (by show [1024, 1024, 2048, 2048, 2048, 2048].sum = 10240; rfl) (ix3 l k ⟨n.val - 10240, by omega⟩)
      (fun b hb => match b, hb with | ⟨0, _⟩, _ => rfl | ⟨1, _⟩, _ => rfl | ⟨2, _⟩, hb => absurd rfl hb) (by show 10240 + (n.val - 10240) = n.val; omega)).trans ?_
    refine (val_main_v23_apply x1 _).trans (congrArg _ (funext fun a => Fin.ext ?_))
    match a with
    | ⟨0, _⟩ => rfl
    | ⟨1, _⟩ => rfl
    | ⟨2, _⟩ => show 8208 + (n.val - 10240) = srcCol n.val; unfold srcCol; split_ifs <;> omega
  by_cases h7 : n.val < 11264
  · refine (concatenate_apply_piece 2 _ _ (ix3 l k n) 7 (by show 7 < 10; decide) S3x4096x512 (val_main_v24 x1) rfl rfl 10752 (by show [1024, 1024, 2048, 2048, 2048, 2048, 512].sum = 10752; rfl) (ix3 l k ⟨n.val - 10752, by omega⟩)
      (fun b hb => match b, hb with | ⟨0, _⟩, _ => rfl | ⟨1, _⟩, _ => rfl | ⟨2, _⟩, hb => absurd rfl hb) (by show 10752 + (n.val - 10752) = n.val; omega)).trans ?_
    refine (val_main_v24_apply x1 _).trans (congrArg _ (funext fun a => Fin.ext ?_))
    match a with
    | ⟨0, _⟩ => rfl
    | ⟨1, _⟩ => rfl
    | ⟨2, _⟩ => show 8720 + (n.val - 10752) = srcCol n.val; unfold srcCol; split_ifs <;> omega
  by_cases h8 : n.val < 15360
  · refine (concatenate_apply_piece 2 _ _ (ix3 l k n) 8 (by show 8 < 10; decide) S3x4096x4096 (val_main_v26 x1) rfl rfl 11264 (by show [1024, 1024, 2048, 2048, 2048, 2048, 512, 512].sum = 11264; rfl) (ix3 l k ⟨n.val - 11264, by omega⟩)
      (fun b hb => match b, hb with | ⟨0, _⟩, _ => rfl | ⟨1, _⟩, _ => rfl | ⟨2, _⟩, hb => absurd rfl hb) (by show 11264 + (n.val - 11264) = n.val; omega)).trans ?_
    refine (val_main_v26_apply x1 _).trans (congrArg _ (funext fun a => Fin.ext ?_))
    match a with
    | ⟨0, _⟩ => rfl
    | ⟨1, _⟩ => rfl
    | ⟨2, _⟩ => show 11280 + (n.val - 11264) = srcCol n.val; unfold srcCol; split_ifs <;> omega
  refine (concatenate_apply_piece 2 _ _ (ix3 l k n) 9 (by show 9 < 10; decide) S3x4096x4096 (val_main_v27 x1) rfl rfl 15360 (by show [1024, 1024, 2048, 2048, 2048, 2048, 512, 512, 4096].sum = 15360; rfl) (ix3 l k ⟨n.val - 15360, by omega⟩)
    (fun b hb => match b, hb with | ⟨0, _⟩, _ => rfl | ⟨1, _⟩, _ => rfl | ⟨2, _⟩, hb => absurd rfl hb) (by show 15360 + (n.val - 15360) = n.val; omega)).trans ?_
  refine (val_main_v27_apply x1 _).trans (congrArg _ (funext fun a => Fin.ext ?_))
  match a with
  | ⟨0, _⟩ => rfl
  | ⟨1, _⟩ => rfl
  | ⟨2, _⟩ => show 15376 + (n.val - 15360) = srcCol n.val; unfold srcCol; split_ifs <;> omega

open Cert.KernelIdeal (S4x19472x4096)
open Cert.KernelIdeal.InProj (castOf packed packIdx proj projIdx)

/-- The reference's projection, from the weights with their axes exchanged. -/
theorem proj_eq (x0 : Vec Ideal S16384x4096 .bf16) (x1 : Vec Ideal S4x4096x19472 .f32)
    (w : Vec Ideal S4x19472x4096 .f32) (hw : ∀ l n k, w (ix3 l n k) = x1 (ix3 l k n)) :
    val_main_v30 (F := Ideal) x0 x1 = proj x0 w := by
  funext i
  obtain ⟨r, n, rfl⟩ : ∃ (r : Fin 16384) (n : Fin 19456), i = ix2 r n := ⟨i 0, i 1, eq_ix2 i⟩
  refine (v15_apply x0 x1 r n).trans ((val_main_v3_apply x0 x1 _).trans ?_)
  refine Finset.sum_congr rfl fun k _ => ?_
  have hk := k.isLt
  have hc := srcCol_lt n.isLt
  have hl : lidx_main_v3 (ix2 r ⟨srcCol n.val, srcCol_lt n.isLt⟩) k = ix2 r k :=
    funext fun a => match a with | ⟨0, _⟩ => rfl | ⟨1, _⟩ => rfl
  have hr : idx_main_v1 (idx_main_v2 (ridx_main_v3 (ix2 r ⟨srcCol n.val, srcCol_lt n.isLt⟩) k))
      = ix3 0 k ⟨srcCol n.val, srcCol_lt n.isLt⟩ := funext fun a => Fin.ext (match a with
    | ⟨0, _⟩ => rfl
    | ⟨1, _⟩ => by show (k.val * 19472 + srcCol n.val) / 19472 % 4096 = k.val; omega
    | ⟨2, _⟩ => by show (k.val * 19472 + srcCol n.val) % 19472 = srcCol n.val; omega)
  have hp : projIdx n k = ix3 0 ⟨srcCol n.val, srcCol_lt n.isLt⟩ k :=
    funext fun a => match a with | ⟨0, _⟩ => rfl | ⟨1, _⟩ => rfl | ⟨2, _⟩ => rfl
  rw [val_main_v0_apply, val_main_v2_apply, val_main_v1_apply, hl, hr]
  show x0 (ix2 r k) * x1 _ = x0 (ix2 r k) * w (projIdx n k)
  rw [hp, hw]

/-- The reference's packed weights, from the weights with their axes exchanged. -/
theorem packed_eq (x1 : Vec F S4x4096x19472 .f32) (w : Vec F S4x19472x4096 .f32)
    (hw : ∀ l n k, w (ix3 l n k) = x1 (ix3 l k n)) : val_main_v37 (F := F) x1 = packed w := by
  funext i
  obtain ⟨l, n, k, rfl⟩ : ∃ (l : Fin 3) (n : Fin 19456) (k : Fin 4096), i = ix3 l n k := ⟨i 0, i 1, i 2, eq_ix3 i⟩
  have hl := l.isLt
  refine (val_main_v37_apply x1 _).trans (congrArg (FloatOps.truncf .bf16 bitsLt_bf16_f32) ?_)
  have hi : idx_main_v29 (ix3 l n k) = ix3 l k n := funext fun a => match a with | ⟨0, _⟩ => rfl | ⟨1, _⟩ => rfl | ⟨2, _⟩ => rfl
  have hp : packIdx (ix3 l n k) = ix3 ⟨l.val + 1, by omega⟩ ⟨srcCol n.val, srcCol_lt n.isLt⟩ k :=
    funext fun a => match a with | ⟨0, _⟩ => rfl | ⟨1, _⟩ => rfl | ⟨2, _⟩ => rfl
  rw [val_main_v29_apply, hi, v28_apply, val_main_v16_apply, hp, hw]
  exact congrArg x1 (funext fun a => Fin.ext (match a with
    | ⟨0, _⟩ => Nat.add_comm 1 l.val
    | ⟨1, _⟩ => rfl
    | ⟨2, _⟩ => rfl))

end Cert.ReferenceIdeal.InProj

end
-- ==== Proof.InProjClaims.lean ====
/-
  The claims of the input projection of layer 0, assembled.
-/
module

public import proofs.«01_k».proof.Defs
public import proofs.«01_k».proof.Proof.InProjDot
public import proofs.«01_k».proof.Proof.InProjRef
public import Idealize.ShloMosaic.Lib.StableHlo.Run
public import Idealize.ShloMosaic.Lib.Quiescent

@[expose] public section

set_option maxRecDepth 16384

noncomputable section

namespace Cert.KernelIdeal.InProj

open Cert.KernelIdeal Cert.KernelIdeal.Gen Idealize.ShloMosaic Idealize.ShloMosaic.TcCoe Idealize.SL.Sem
open Idealize.ShloMosaic.ValueIdx

variable {F : FTy → Type} [FloatOps F]
variable (m : (ℓ : Loc nD τ sig) → Buf (Elt F) ℓ)

/-- The weights as the region finds them: their input and output axes exchanged. -/
theorem V_v0 (c : Dev nD) : V m c main_v0
    = transpose S4x19472x4096 [0, 2, 1] (m ((c : Thread nD τ).loc main_arg1)) transposes_S4x4096x19472_S4x19472x4096_0_2_1 := by
  unfold V; after_results

theorem V_v1 (c : Dev nD) : V m c main_v1
    = shapeCast S8192x4096 (m ((c : Thread nD τ).loc main_arg2)) shapeCasts_S4x2048x4096_S8192x4096 := by
  unfold V; after_results; rfl

theorem V_v2 (c : Dev nD) : V m c main_v2
    = shapeCast S8192x4096 (m ((c : Thread nD τ).loc main_arg3)) shapeCasts_S4x2048x4096_S8192x4096 := by
  unfold V; after_results; rfl

theorem V_v3 (c : Dev nD) : V m c main_v3
    = shapeCast S16384x4096 (m ((c : Thread nD τ).loc main_arg4)) shapeCasts_S4x4096x4096_S16384x4096 := by
  unfold V; after_results; rfl

theorem transpose_ix3 (x : Vec F S4x4096x19472 .f32) (l : Fin 4) (n : Fin 19472) (k : Fin 4096) :
    transpose S4x19472x4096 [0, 2, 1] x transposes_S4x4096x19472_S4x19472x4096_0_2_1 (ix3 l n k) = x (ix3 l k n) :=
  transpose_apply _ _ _ _ _ (fun a => match a with | ⟨0, _⟩ => rfl | ⟨1, _⟩ => rfl | ⟨2, _⟩ => rfl)

end Cert.KernelIdeal.InProj

namespace Cert.Proof.InProj

open Idealize.ShloMosaic Idealize.SL.Sem

theorem frame_R : Cert.quiescent_ReferenceIdeal (hReferenceIdeal := Cert.ReferenceIdeal.Gen.facts) := by
  intro m ρ _
  exact (θ_run Cert.ReferenceIdeal.defs _ _).mono (fun r h => ⟨fun c => (h c).2.2.2.2.2, sem_eq_zero_of_no_sems (by decide) r.2⟩)
    (Cert.ReferenceIdeal.Value.run (F := Ideal) m ρ)

theorem algebraic : Cert.algebraic_KernelIdeal_ReferenceIdeal (hKernelIdeal := Cert.KernelIdeal.Gen.facts)
    (hReferenceIdeal := Cert.ReferenceIdeal.Gen.facts) := by
  intro m g m' g' _ hagree
  refine ⟨fun c => Cert.KernelIdeal.InProj.proj (Cert.KernelIdeal.Gen.V m c Cert.KernelIdeal.main_arg0) (Cert.KernelIdeal.Gen.V m c Cert.KernelIdeal.main_v0),
    fun c => Cert.KernelIdeal.InProj.castOf (Cert.KernelIdeal.Gen.V m c Cert.KernelIdeal.main_v1),
    fun c => Cert.KernelIdeal.InProj.castOf (Cert.KernelIdeal.Gen.V m c Cert.KernelIdeal.main_v2),
    fun c => Cert.KernelIdeal.InProj.castOf (Cert.KernelIdeal.Gen.V m c Cert.KernelIdeal.main_v3),
    fun c => Cert.KernelIdeal.InProj.packed (Cert.KernelIdeal.Gen.V m c Cert.KernelIdeal.main_v0),
    (θ_run _ _ _).mono (fun r h c => ?_) (Cert.KernelIdeal.Value.run_blocks (F := Ideal) m g),
    (θ_run _ _ _).mono (fun r h c => ?_) (Cert.ReferenceIdeal.Value.run (F := Ideal) m' g')⟩
  · obtain ⟨h0, h1, h2, h3, h4, hk⟩ := h c
    exact ⟨h0.trans (Cert.KernelIdeal.InProj.final6 m c), h1.trans (Cert.KernelIdeal.InProj.final7 m c),
      h2.trans (Cert.KernelIdeal.InProj.final8 m c), h3.trans (Cert.KernelIdeal.InProj.final9 m c),
      h4.trans (Cert.KernelIdeal.InProj.final10 m c), hk⟩
  · obtain ⟨h0, h1, h2, h3, h4, hk⟩ := h c
    obtain ⟨a0, a1, a2, a3, a4⟩ := hagree c
    refine ⟨h0.trans ?_, h1.trans ?_, h2.trans ?_, h3.trans ?_, h4.trans ?_, hk⟩ <;> clear h0 h1 h2 h3 h4 hk <;> beta_reduce
    · rw [Cert.ReferenceIdeal.Read.val_main_v30_eq, a0, a1, Cert.KernelIdeal.Gen.V_main_arg0, Cert.KernelIdeal.InProj.V_v0]
      exact Cert.ReferenceIdeal.InProj.proj_eq _ _ _ (Cert.KernelIdeal.InProj.transpose_ix3 _)
    · rw [a2, Cert.KernelIdeal.InProj.V_v1]; rfl
    · rw [a3, Cert.KernelIdeal.InProj.V_v2]; rfl
    · rw [a4, Cert.KernelIdeal.InProj.V_v3]; rfl
    · rw [Cert.ReferenceIdeal.Read.val_main_v37_eq, a1, Cert.KernelIdeal.InProj.V_v0]
      exact Cert.ReferenceIdeal.InProj.packed_eq _ _ (Cert.KernelIdeal.InProj.transpose_ix3 _)

end Cert.Proof.InProj

end
-- ==== Proof.Packed.lean ====
/-
  The input projection of a later layer: the weights come packed, so every block of the product is read at whole tiles.

  Point `t` of the 8 × 19 grid multiplies 2048 rows of the activations with 1024 packed columns of the weights.
-/
module

public import proofs.«01_k».proof.Defs
public import proofs.«01_k».proof.Proof.Gen.Kernel2Ideal.Value
public import proofs.«01_k».proof.Proof.Gen.Reference2Ideal.Read
public import Idealize.ShloMosaic.Lib.MatmulPlain
public import Idealize.ShloMosaic.Lib.ValueIdx
public import Idealize.ShloMosaic.Lib.Quiescent

@[expose] public section

set_option maxRecDepth 16384

noncomputable section

namespace Cert.Kernel2Ideal.Packed

open Cert.Kernel2Ideal Cert.Kernel2Ideal.Gen Idealize.ShloMosaic Idealize.ShloMosaic.TcCoe Idealize.SL.Sem
open Idealize.ShloMosaic.ValueIdx
open Idealize.ShloMosaic.Pipeline (Dat)

theorem hz2 : (![0, 0] : Fin 2 → Nat) = fun _ => 0 := funext fun a => match a with | ⟨0, _⟩ => rfl | ⟨1, _⟩ => rfl
theorem hz3 : (![0, 0, 0] : Fin 3 → Nat) = fun _ => 0 :=
  funext fun a => match a with | ⟨0, _⟩ => rfl | ⟨1, _⟩ => rfl | ⟨2, _⟩ => rfl

theorem N_eq : cfg0.N = 152 := (by decide +kernel : grid0.N = 152)

/-- Where each window's block lies at every point. -/
theorem facts_idx : ∀ t : Fin cfg0.N,
    (win0_0.index t 0 = t.val / 19 ∧ win0_0.index t 1 = 0)
    ∧ (win0_1.index t 0 = 1 ∧ win0_1.index t 1 = t.val % 19 ∧ win0_1.index t 2 = 0)
    ∧ (win0_2.index t 0 = t.val / 19 ∧ win0_2.index t 1 = t.val % 19) :=
  (by decide +kernel : ∀ t : Fin grid0.N,
    (win0_0.index t 0 = t.val / 19 ∧ win0_0.index t 1 = 0)
    ∧ (win0_1.index t 0 = 1 ∧ win0_1.index t 1 = t.val % 19 ∧ win0_1.index t 2 = 0)
    ∧ (win0_2.index t 0 = t.val / 19 ∧ win0_2.index t 1 = t.val % 19))

/-- The block product at an index. -/
theorem pay1_apply (v0 : Vec Ideal S1x1024x4096 .bf16) (v2 : Vec Ideal S2048x4096 .bf16) (r : Fin 2048) (n : Fin 1024) :
    k0_pay1 (F := Ideal) v0 v2 (ix2 r n) = ∑ k : Fin 4096, v2 (ix2 r k) * v0 (ix3 0 n k) := by
  refine (Ideal.matmul_transposedRhs_apply (φ₁ := .bf16) (φ₂ := .bf16) (M := 2048) (K := 4096) (N := 1024) none v2
    (shapeCast S1024x4096 v0 shapeCasts_S1x1024x4096_S1024x4096) (constant S2048x1024 .f32 0x00000000#32) r n).trans ?_
  have h0 : (constant S2048x1024 .f32 0x00000000#32 : FVec Ideal S2048x1024 .f32) (ix2 r n) = (0 : EReal) := Ideal.ofBits_zero_f32
  rw [h0, zero_add]
  refine Finset.sum_congr rfl fun k _ => ?_
  have h1 : shapeCast S1024x4096 v0 shapeCasts_S1x1024x4096_S1024x4096 (ix2 n k) = v0 (ix3 0 n k) :=
    (shapeCast_dropUnit_apply ![1024, 4096] v0 shapeCasts_S1x1024x4096_S1024x4096 (ix2 n k)).trans
      (congrArg v0 (funext fun a => match a with | ⟨0, _⟩ => rfl | ⟨1, _⟩ => rfl | ⟨2, _⟩ => rfl))
  exact congrArg (fun e : EReal => v2 (ix2 r k) * e) h1

/-- The projection by the packed weights of the layer. -/
def proj (x : Vec Ideal S16384x4096 .bf16) (w : Vec Ideal S3x19456x4096 .bf16) : Vec Ideal S16384x19456 .bf16 :=
  fun i => ∑ k : Fin 4096, x (ix2 (i 0) k) * w (ix3 1 (i 1) k)

variable (m : (ℓ : Loc nD τ sig) → Buf (Elt Ideal) ℓ)

theorem iblk0_apply (c : Dev nD) (t : Fin cfg0.N) (r : Fin 2048) (k : Fin 4096) (i : S16384x4096.Idx)
    (h0 : (i 0).val = t.val / 19 * 2048 + r.val) (h1 : (i 1).val = k.val) :
    iblk m c 0 t (ix2 r k) = V m c main_arg0 i := by
  obtain ⟨⟨e0, e1⟩, -⟩ := facts_idx t
  refine congrArg (V m c main_arg0) (funext fun a => Fin.ext ?_)
  match a with
  | ⟨0, _⟩ => show win0_0.index t 0 * 2048 + 1 * r.val = (i 0).val; rw [e0, h0]; omega
  | ⟨1, _⟩ => show win0_0.index t 1 * 4096 + 1 * k.val = (i 1).val; rw [e1, h1]; omega

theorem iblk1_apply (c : Dev nD) (t : Fin cfg0.N) (n : Fin 1024) (k : Fin 4096) (i : S3x19456x4096.Idx)
    (h0 : (i 0).val = 1) (h1 : (i 1).val = t.val % 19 * 1024 + n.val) (h2 : (i 2).val = k.val) :
    iblk m c 1 t (ix3 0 n k) = V m c main_arg1 i := by
  obtain ⟨-, ⟨e0, e1, e2⟩, -⟩ := facts_idx t
  refine congrArg (V m c main_arg1) (funext fun a => Fin.ext ?_)
  match a with
  | ⟨0, _⟩ => show win0_1.index t 0 * 1 + 1 * 0 = (i 0).val; rw [e0, h0]
  | ⟨1, _⟩ => show win0_1.index t 1 * 1024 + 1 * n.val = (i 1).val; rw [e1, h1]; omega
  | ⟨2, _⟩ => show win0_1.index t 2 * 4096 + 1 * k.val = (i 2).val; rw [e2, h2]; omega

theorem block_apply (c : Dev nD) (t : Fin cfg0.N) (r : Fin 2048) (n : Fin 1024) (i : S16384x19456.Idx)
    (h0 : (i 0).val = t.val / 19 * 2048 + r.val) (h1 : (i 1).val = t.val % 19 * 1024 + n.val) :
    k0_pay1 (F := Ideal) (iblk m c 1 t) (iblk m c 0 t) (ix2 r n) = proj (V m c main_arg0) (V m c main_arg1) i := by
  refine (pay1_apply _ _ r n).trans (Finset.sum_congr rfl fun k _ => ?_)
  rw [iblk0_apply m c t r k (ix2 (i 0) k) h0 rfl, iblk1_apply m c t n k (ix3 1 (i 1) k) rfl h1 rfl]

theorem flushed_eq (c : Dev nD) (t : Fin cfg0.N) (hf : (cfg0.win 2).flush t = true) :
    (dats m 0 c).flushed 2 t = ((cfg0.win 2).blk t).view.read (Elt Ideal) (proj (V m c main_arg0) (V m c main_arg1)) := by
  rw [Value.flushed2]
  unfold out0_2
  rw [View.canon_unit_zero hz2, View.ld_unit_zero (S := S1x1024x4096) hz3, View.ld_unit_zero (S := S2048x4096) hz2]
  obtain ⟨-, -, h5, h6⟩ := facts_idx t
  funext y
  obtain ⟨r, n, rfl⟩ : ∃ (r : Fin 2048) (n : Fin 1024), y = ix2 r n := ⟨y 0, y 1, eq_ix2 y⟩
  refine block_apply m c t r n _ ?_ ?_
  · show win0_2.index t 0 * 2048 + 1 * r.val = _; rw [h5]; omega
  · show win0_2.index t 1 * 1024 + 1 * n.val = _; rw [h6]; omega

/-- The array the kernel leaves is the projection. -/
theorem final (c : Dev nD) : (dats m 0 c).arrAt 2 cfg0.N = proj (V m c main_arg0) (V m c main_arg1) :=
  (dats m 0 c).arrAt_eq_of_cover 2 _ (flushed_eq m c) fun i => by
    have hi0 : (i 0 : Nat) < 16384 := (i 0).isLt
    have hi1 : (i 1 : Nat) < 19456 := (i 1).isLt
    have hN := N_eq
    refine ⟨⟨(i 0 : Nat) / 2048 * 19 + (i 1 : Nat) / 1024, by omega⟩, flush0_2 _, ?_⟩
    generalize ht : (⟨(i 0 : Nat) / 2048 * 19 + (i 1 : Nat) / 1024, _⟩ : Fin cfg0.N) = t
    have hv : t.val = (i 0 : Nat) / 2048 * 19 + (i 1 : Nat) / 1024 := by rw [← ht]
    obtain ⟨-, -, h5, h6⟩ := facts_idx t
    show i ∈ ((View.whole main_v0).slice (win0_2.rect t)).set
    rw [View.set_slice_whole, Rect.mem_set_unit]
    intro a
    match a with
    | ⟨0, _⟩ =>
      show win0_2.index t 0 * 2048 ≤ (i 0 : Nat) ∧ (i 0 : Nat) < win0_2.index t 0 * 2048 + 2048
      rw [h5, hv]; omega
    | ⟨1, _⟩ =>
      show win0_2.index t 1 * 1024 ≤ (i 1 : Nat) ∧ (i 1 : Nat) < win0_2.index t 1 * 1024 + 1024
      rw [h6, hv]; omega

open Cert.Reference2Ideal.Read in
/-- The reference computes the same projection. -/
theorem ref_eq (x : Vec Ideal S16384x4096 .bf16) (w : Vec Ideal S3x19456x4096 .bf16) :
    val_main_v6 (F := Ideal) x w = proj x w := by
  funext i
  obtain ⟨r, n, rfl⟩ : ∃ (r : Fin 16384) (n : Fin 19456), i = ix2 r n := ⟨i 0, i 1, eq_ix2 i⟩
  refine (val_main_v5_apply x w (ix2 r n)).trans (Finset.sum_congr rfl fun k _ => ?_)
  have hk := k.isLt
  have hn := n.isLt
  have hl : lidx_main_v5 (ix2 r n) k = ix2 r k := funext fun a => match a with | ⟨0, _⟩ => rfl | ⟨1, _⟩ => rfl
  have hr : idx_main_v1 (idx_main_v2 (idx_main_v4 (ridx_main_v5 (ix2 r n) k))) = ix3 1 n k :=
    funext fun a => Fin.ext (match a with
      | ⟨0, _⟩ => rfl
      | ⟨1, _⟩ => by show (n.val * 4096 + k.val) / 4096 % 19456 = n.val; omega
      | ⟨2, _⟩ => by show (n.val * 4096 + k.val) % 4096 = k.val; omega)
  rw [val_main_v0_apply, val_main_v4_apply, val_main_v3_apply, val_main_v2_apply, val_main_v1_apply, hl, hr]
  rfl

end Cert.Kernel2Ideal.Packed

namespace Cert.Proof.Packed

open Idealize.ShloMosaic Idealize.SL.Sem

theorem frame_R : Cert.quiescent_Reference2Ideal (hReference2Ideal := Cert.Reference2Ideal.Gen.facts) := by
  intro m ρ _
  exact (θ_run Cert.Reference2Ideal.defs _ _).mono (fun r h => ⟨fun c => (h c).2, sem_eq_zero_of_no_sems (by decide) r.2⟩)
    (Cert.Reference2Ideal.Value.run (F := Ideal) m ρ)

theorem algebraic : Cert.algebraic_Kernel2Ideal_Reference2Ideal (hKernel2Ideal := Cert.Kernel2Ideal.Gen.facts)
    (hReference2Ideal := Cert.Reference2Ideal.Gen.facts) := by
  intro m g m' g' _ hagree
  refine ⟨fun c => Cert.Kernel2Ideal.Packed.proj (Cert.Kernel2Ideal.Gen.V m c Cert.Kernel2Ideal.main_arg0) (Cert.Kernel2Ideal.Gen.V m c Cert.Kernel2Ideal.main_arg1),
    (θ_run _ _ _).mono (fun r h c => ⟨(h c).1.trans (Cert.Kernel2Ideal.Packed.final m c), (h c).2⟩) (Cert.Kernel2Ideal.Value.run_blocks (F := Ideal) m g),
    (θ_run _ _ _).mono (fun r h c => ⟨(h c).1.trans ?_, (h c).2⟩) (Cert.Reference2Ideal.Value.run (F := Ideal) m' g')⟩
  obtain ⟨a0, a1⟩ := hagree c
  clear h
  beta_reduce
  rw [Cert.Reference2Ideal.Read.val_main_v6_eq, a0, a1, Cert.Kernel2Ideal.Gen.V_main_arg0, Cert.Kernel2Ideal.Gen.V_main_arg1]
  exact Cert.Kernel2Ideal.Packed.ref_eq _ _

end Cert.Proof.Packed

end
-- ==== Proof.OutProj.lean ====
/-
  The output projection with the residual: point `t` of the 16 × 4 grid adds to a block of the residual the product of 1024
  rows of the merged branches with 1024 columns of the layer's weights.
-/
module

public import proofs.«01_k».proof.Defs
public import proofs.«01_k».proof.Proof.Gen.Kernel3Ideal.Value
public import proofs.«01_k».proof.Proof.Gen.Reference3Ideal.Read
public import Idealize.ShloMosaic.Lib.MatmulPlain
public import Idealize.ShloMosaic.Lib.ValueIdx
public import Idealize.ShloMosaic.Lib.Quiescent

@[expose] public section

set_option maxRecDepth 16384

noncomputable section

namespace Cert.Kernel3Ideal.OutProj

open Cert.Kernel3Ideal Cert.Kernel3Ideal.Gen Idealize.ShloMosaic Idealize.ShloMosaic.TcCoe Idealize.SL.Sem
open Idealize.ShloMosaic.ValueIdx
open Idealize.ShloMosaic.Pipeline (Dat)

theorem hz2 : (![0, 0] : Fin 2 → Nat) = fun _ => 0 := funext fun a => match a with | ⟨0, _⟩ => rfl | ⟨1, _⟩ => rfl

theorem N_eq : cfg0.N = 64 := (by decide +kernel : grid0.N = 64)

/-- Where each window's block lies at every point. -/
theorem facts_idx : ∀ t : Fin cfg0.N,
    (win0_0.index t 0 = t.val / 4 ∧ win0_0.index t 1 = 0)
    ∧ (win0_1.index t 0 = 2 ∧ win0_1.index t 1 = t.val % 4)
    ∧ (win0_2.index t 0 = t.val / 4 ∧ win0_2.index t 1 = t.val % 4)
    ∧ (win0_3.index t 0 = t.val / 4 ∧ win0_3.index t 1 = t.val % 4) :=
  (by decide +kernel : ∀ t : Fin grid0.N,
    (win0_0.index t 0 = t.val / 4 ∧ win0_0.index t 1 = 0)
    ∧ (win0_1.index t 0 = 2 ∧ win0_1.index t 1 = t.val % 4)
    ∧ (win0_2.index t 0 = t.val / 4 ∧ win0_2.index t 1 = t.val % 4)
    ∧ (win0_3.index t 0 = t.val / 4 ∧ win0_3.index t 1 = t.val % 4))

/-- The block written, at an index. -/
theorem pay1_apply (v0 : Vec Ideal S1024x1024 .f32) (v1 : Vec Ideal S1024x4096 .bf16) (v2 : Vec Ideal S4096x1024 .bf16)
    (r n : Fin 1024) : k0_pay1 (F := Ideal) v0 v1 v2 (ix2 r n)
      = v0 (ix2 r n) + ∑ k : Fin 4096, (v1 (ix2 r k) : EReal) * v2 (ix2 k n) := by
  have h0 : (constant S1024x1024 .f32 0x00000000#32 : FVec Ideal S1024x1024 .f32) (ix2 r n) = (0 : EReal) := Ideal.ofBits_zero_f32
  have h := Ideal.matmul_plain_apply (φ₁ := .bf16) (φ₂ := .bf16) (M := 1024) (K := 4096) (N := 1024) none v1 v2
    (constant S1024x1024 .f32 0x00000000#32) r n
  rw [h0, zero_add] at h
  exact congrArg (fun e : EReal => v0 (ix2 r n) + e) h

/-- The row of the stacked weights of all layers that row `k` of this layer is. -/
abbrev wIdx (k n : Fin 4096) : S16384x4096.Idx := ix2 ⟨2 * 4096 + k.val, by have := k.isLt; omega⟩ n

/-- The residual plus the product. -/
def outp (x : Vec Ideal S16384x4096 .bf16) (w : Vec Ideal S16384x4096 .bf16) (z : Vec Ideal S16384x4096 .f32) :
    Vec Ideal S16384x4096 .f32 :=
  fun i => z i + ∑ k : Fin 4096, (x (ix2 (i 0) k) : EReal) * w (wIdx k (i 1))

variable (m : (ℓ : Loc nD τ sig) → Buf (Elt Ideal) ℓ)

theorem iblk0_apply (c : Dev nD) (t : Fin cfg0.N) (r : Fin 1024) (k : Fin 4096) (i : S16384x4096.Idx)
    (h0 : (i 0).val = t.val / 4 * 1024 + r.val) (h1 : (i 1).val = k.val) :
    iblk m c 0 t (ix2 r k) = V m c main_arg0 i := by
  obtain ⟨⟨e0, e1⟩, -⟩ := facts_idx t
  refine congrArg (V m c main_arg0) (funext fun a => Fin.ext ?_)
  match a with
  | ⟨0, _⟩ => show win0_0.index t 0 * 1024 + 1 * r.val = (i 0).val; rw [e0, h0]; omega
  | ⟨1, _⟩ => show win0_0.index t 1 * 4096 + 1 * k.val = (i 1).val; rw [e1, h1]; omega

theorem iblk1_apply (c : Dev nD) (t : Fin cfg0.N) (k : Fin 4096) (n : Fin 1024) (i : S16384x4096.Idx)
    (h0 : (i 0).val = 2 * 4096 + k.val) (h1 : (i 1).val = t.val % 4 * 1024 + n.val) :
    iblk m c 1 t (ix2 k n) = V m c main_arg1 i := by
  obtain ⟨-, ⟨e0, e1⟩, -⟩ := facts_idx t
  refine congrArg (V m c main_arg1) (funext fun a => Fin.ext ?_)
  match a with
  | ⟨0, _⟩ => show win0_1.index t 0 * 4096 + 1 * k.val = (i 0).val; rw [e0, h0]; omega
  | ⟨1, _⟩ => show win0_1.index t 1 * 1024 + 1 * n.val = (i 1).val; rw [e1, h1]; omega

theorem iblk2_apply (c : Dev nD) (t : Fin cfg0.N) (r n : Fin 1024) (i : S16384x4096.Idx)
    (h0 : (i 0).val = t.val / 4 * 1024 + r.val) (h1 : (i 1).val = t.val % 4 * 1024 + n.val) :
    iblk m c 2 t (ix2 r n) = V m c main_arg2 i := by
  obtain ⟨-, -, ⟨e0, e1⟩, -⟩ := facts_idx t
  refine congrArg (V m c main_arg2) (funext fun a => Fin.ext ?_)
  match a with
  | ⟨0, _⟩ => show win0_2.index t 0 * 1024 + 1 * r.val = (i 0).val; rw [e0, h0]; omega
  | ⟨1, _⟩ => show win0_2.index t 1 * 1024 + 1 * n.val = (i 1).val; rw [e1, h1]; omega

theorem block_apply (c : Dev nD) (t : Fin cfg0.N) (r n : Fin 1024) (i : S16384x4096.Idx)
    (h0 : (i 0).val = t.val / 4 * 1024 + r.val) (h1 : (i 1).val = t.val % 4 * 1024 + n.val) :
    k0_pay1 (F := Ideal) (iblk m c 2 t) (iblk m c 0 t) (iblk m c 1 t) (ix2 r n)
      = outp (V m c main_arg0) (V m c main_arg1) (V m c main_arg2) i := by
  refine (pay1_apply _ _ _ r n).trans ?_
  rw [iblk2_apply m c t r n i h0 h1]
  refine congrArg (fun e : EReal => (show EReal from V m c main_arg2 i) + e) (Finset.sum_congr rfl fun k _ => ?_)
  rw [iblk0_apply m c t r k (ix2 (i 0) k) h0 rfl, iblk1_apply m c t k n (wIdx k (i 1)) rfl h1]

theorem flushed_eq (c : Dev nD) (t : Fin cfg0.N) (hf : (cfg0.win 3).flush t = true) :
    (dats m 0 c).flushed 3 t
      = ((cfg0.win 3).blk t).view.read (Elt Ideal) (outp (V m c main_arg0) (V m c main_arg1) (V m c main_arg2)) := by
  rw [Value.flushed3]
  unfold out0_3
  rw [View.canon_unit_zero hz2, View.ld_unit_zero (S := S1024x1024) hz2, View.ld_unit_zero (S := S1024x4096) hz2,
    View.ld_unit_zero (S := S4096x1024) hz2]
  obtain ⟨-, -, -, h5, h6⟩ := facts_idx t
  funext y
  obtain ⟨r, n, rfl⟩ : ∃ (r : Fin 1024) (n : Fin 1024), y = ix2 r n := ⟨y 0, y 1, eq_ix2 y⟩
  refine block_apply m c t r n _ ?_ ?_
  · show win0_3.index t 0 * 1024 + 1 * r.val = _; rw [h5]; omega
  · show win0_3.index t 1 * 1024 + 1 * n.val = _; rw [h6]; omega

/-- The array the kernel leaves. -/
theorem final (c : Dev nD) :
    (dats m 0 c).arrAt 3 cfg0.N = outp (V m c main_arg0) (V m c main_arg1) (V m c main_arg2) :=
  (dats m 0 c).arrAt_eq_of_cover 3 _ (flushed_eq m c) fun i => by
    have hi0 : (i 0 : Nat) < 16384 := (i 0).isLt
    have hi1 : (i 1 : Nat) < 4096 := (i 1).isLt
    have hN := N_eq
    refine ⟨⟨(i 0 : Nat) / 1024 * 4 + (i 1 : Nat) / 1024, by omega⟩, flush0_3 _, ?_⟩
    generalize ht : (⟨(i 0 : Nat) / 1024 * 4 + (i 1 : Nat) / 1024, _⟩ : Fin cfg0.N) = t
    have hv : t.val = (i 0 : Nat) / 1024 * 4 + (i 1 : Nat) / 1024 := by rw [← ht]
    obtain ⟨-, -, -, h5, h6⟩ := facts_idx t
    show i ∈ ((View.whole main_v0).slice (win0_3.rect t)).set
    rw [View.set_slice_whole, Rect.mem_set_unit]
    intro a
    match a with
    | ⟨0, _⟩ =>
      show win0_3.index t 0 * 1024 ≤ (i 0 : Nat) ∧ (i 0 : Nat) < win0_3.index t 0 * 1024 + 1024
      rw [h5, hv]; omega
    | ⟨1, _⟩ =>
      show win0_3.index t 1 * 1024 ≤ (i 1 : Nat) ∧ (i 1 : Nat) < win0_3.index t 1 * 1024 + 1024
      rw [h6, hv]; omega

open Cert.Reference3Ideal.Read in
/-- The reference computes the same array. -/
theorem ref_eq (x : Vec Ideal S16384x4096 .bf16) (w : Vec Ideal S16384x4096 .bf16) (z : Vec Ideal S16384x4096 .f32) :
    val_main_v6 (F := Ideal) x w z = outp x w z := by
  funext i
  obtain ⟨r, n, rfl⟩ : ∃ (r : Fin 16384) (n : Fin 4096), i = ix2 r n := ⟨i 0, i 1, eq_ix2 i⟩
  refine congrArg (fun e : EReal => z (ix2 r n) + e)
    ((val_main_v5_apply x w (ix2 r n)).trans (Finset.sum_congr rfl fun k _ => ?_))
  have hk := k.isLt
  have hn := n.isLt
  have hl : lidx_main_v5 (ix2 r n) k = ix2 r k := funext fun a => match a with | ⟨0, _⟩ => rfl | ⟨1, _⟩ => rfl
  have hr : idx_main_v1 (idx_main_v2 (idx_main_v3 (ridx_main_v5 (ix2 r n) k))) = wIdx k n :=
    funext fun a => Fin.ext (match a with
      | ⟨0, _⟩ => by
        show (((2 + 0) * 4096 + (k.val * 4096 + n.val) / 4096 % 4096) * 4096 + (k.val * 4096 + n.val) % 4096) / 4096 = 2 * 4096 + k.val
        omega
      | ⟨1, _⟩ => by
        show (((2 + 0) * 4096 + (k.val * 4096 + n.val) / 4096 % 4096) * 4096 + (k.val * 4096 + n.val) % 4096) % 4096 = n.val
        omega)
  rw [val_main_v0_apply, val_main_v4_apply, val_main_v3_apply, val_main_v2_apply, val_main_v1_apply, hl, hr]
  rfl

end Cert.Kernel3Ideal.OutProj

namespace Cert.Proof.OutProj

open Idealize.ShloMosaic Idealize.SL.Sem

theorem frame_R : Cert.quiescent_Reference3Ideal (hReference3Ideal := Cert.Reference3Ideal.Gen.facts) := by
  intro m ρ _
  exact (θ_run Cert.Reference3Ideal.defs _ _).mono (fun r h => ⟨fun c => (h c).2, sem_eq_zero_of_no_sems (by decide) r.2⟩)
    (Cert.Reference3Ideal.Value.run (F := Ideal) m ρ)

theorem algebraic : Cert.algebraic_Kernel3Ideal_Reference3Ideal (hKernel3Ideal := Cert.Kernel3Ideal.Gen.facts)
    (hReference3Ideal := Cert.Reference3Ideal.Gen.facts) := by
  intro m g m' g' _ hagree
  refine ⟨fun c => Cert.Kernel3Ideal.OutProj.outp (Cert.Kernel3Ideal.Gen.V m c Cert.Kernel3Ideal.main_arg0)
      (Cert.Kernel3Ideal.Gen.V m c Cert.Kernel3Ideal.main_arg1) (Cert.Kernel3Ideal.Gen.V m c Cert.Kernel3Ideal.main_arg2),
    (θ_run _ _ _).mono (fun r h c => ⟨(h c).1.trans (Cert.Kernel3Ideal.OutProj.final m c), (h c).2⟩) (Cert.Kernel3Ideal.Value.run_blocks (F := Ideal) m g),
    (θ_run _ _ _).mono (fun r h c => ⟨(h c).1.trans ?_, (h c).2⟩) (Cert.Reference3Ideal.Value.run (F := Ideal) m' g')⟩
  obtain ⟨a0, a1, a2⟩ := hagree c
  clear h
  beta_reduce
  rw [Cert.Reference3Ideal.Read.val_main_v6_eq, a0, a1, a2, Cert.Kernel3Ideal.Gen.V_main_arg0,
    Cert.Kernel3Ideal.Gen.V_main_arg1, Cert.Kernel3Ideal.Gen.V_main_arg2]
  exact Cert.Kernel3Ideal.OutProj.ref_eq _ _ _

end Cert.Proof.OutProj

end
-- ==== Proof.Merge.lean ====
/-
  The merge of the two branches: point `t` of the 16 × 4 grid gates the product of 1024 rows of each branch with 1024
  columns of that branch's weights, and adds the two. The body does it in four bands of 256 rows, each passing through a
  scratch block.
-/
module

public import proofs.«01_k».proof.Defs
public import proofs.«01_k».proof.Proof.Gen.Kernel4Ideal.Value
public import proofs.«01_k».proof.Proof.Gen.Reference4Ideal.Read
public import Idealize.ShloMosaic.Lib.MatmulPlain
public import Idealize.ShloMosaic.Lib.ValueIdx
public import Idealize.ShloMosaic.Lib.IdealHost
public import Idealize.ShloMosaic.Lib.Pipeline.ValueKit.Tiles
public import Idealize.ShloMosaic.Lib.Quiescent
public import Idealize.ShloMosaic.Lib.Tactic

@[expose] public section

set_option maxRecDepth 16384

noncomputable section

namespace Cert.Kernel4Ideal.Merge

open Cert.Kernel4Ideal Cert.Kernel4Ideal.Gen Idealize.ShloMosaic Idealize.ShloMosaic.TcCoe Idealize.SL.Sem
open Idealize.ShloMosaic.ValueIdx
open Idealize.ShloMosaic.Pipeline (Dat)

theorem hz2 : (![0, 0] : Fin 2 → Nat) = fun _ => 0 := funext fun a => match a with | ⟨0, _⟩ => rfl | ⟨1, _⟩ => rfl

theorem N_eq : cfg0.N = 64 := (by decide +kernel : grid0.N = 64)

/-- Where each window's block lies at every point. -/
theorem facts_idx : ∀ t : Fin cfg0.N,
    (win0_0.index t 0 = t.val / 4 ∧ win0_0.index t 1 = 0) ∧ (win0_1.index t 0 = t.val / 4 ∧ win0_1.index t 1 = 0)
    ∧ (win0_2.index t 0 = 2 ∧ win0_2.index t 1 = t.val % 4) ∧ (win0_3.index t 0 = 2 ∧ win0_3.index t 1 = t.val % 4)
    ∧ (win0_4.index t 0 = t.val / 4 ∧ win0_4.index t 1 = 11 + t.val % 4)
    ∧ (win0_5.index t 0 = t.val / 4 ∧ win0_5.index t 1 = 15 + t.val % 4)
    ∧ (win0_6.index t 0 = 0 ∧ win0_6.index t 1 = t.val % 4) ∧ (win0_7.index t 0 = t.val / 4 ∧ win0_7.index t 1 = t.val % 4) :=
  (by decide +kernel : ∀ t : Fin grid0.N,
    (win0_0.index t 0 = t.val / 4 ∧ win0_0.index t 1 = 0) ∧ (win0_1.index t 0 = t.val / 4 ∧ win0_1.index t 1 = 0)
    ∧ (win0_2.index t 0 = 2 ∧ win0_2.index t 1 = t.val % 4) ∧ (win0_3.index t 0 = 2 ∧ win0_3.index t 1 = t.val % 4)
    ∧ (win0_4.index t 0 = t.val / 4 ∧ win0_4.index t 1 = 11 + t.val % 4)
    ∧ (win0_5.index t 0 = t.val / 4 ∧ win0_5.index t 1 = 15 + t.val % 4)
    ∧ (win0_6.index t 0 = 0 ∧ win0_6.index t 1 = t.val % 4) ∧ (win0_7.index t 0 = t.val / 4 ∧ win0_7.index t 1 = t.val % 4))

/-! ## The body's block -/

/-- One gated entry: the gate's value and bias through the logistic function, times the product's entry. -/
def gated (g b s : EReal) : EReal := Ideal.logistic (g + b) * s

/-- The block a point leaves, from its input blocks. -/
def merged (x0 x1 : Vec Ideal S1024x2048 .bf16) (x2 x3 : Vec Ideal S2048x1024 .bf16) (x4 x5 : Vec Ideal S1024x1024 .bf16)
    (x6 : Vec Ideal S2x1024 .f32) : Vec Ideal S1024x1024 .bf16 :=
  fun i => gated (x4 i) (x6 (ix2 0 (i 1))) (∑ k : Fin 2048, (x0 (ix2 (i 0) k) : EReal) * x2 (ix2 k (i 1)))
    + gated (x5 i) (x6 (ix2 1 (i 1))) (∑ k : Fin 2048, (x1 (ix2 (i 0) k) : EReal) * x3 (ix2 k (i 1)))

theorem pay3_eq (v : Vec Ideal S2x1024 .f32) : k0_pay3 (F := Ideal) v = v := by
  unfold k0_pay3
  funext i
  exact shapeCast_apply v shapeCasts_S2x1024_S2x1024 i i rfl

/-- The product of a band of rows, at an index. -/
theorem prod_apply (u : Vec Ideal S256x2048 .bf16) (w : Vec Ideal S2048x1024 .bf16) (r : Fin 256) (n : Fin 1024) :
    k0_pay8 (F := Ideal) u w (ix2 r n) = ∑ k : Fin 2048, (u (ix2 r k) : EReal) * w (ix2 k n) := by
  have h0 : (constant S256x1024 .f32 0x00000000#32 : FVec Ideal S256x1024 .f32) (ix2 r n) = (0 : EReal) := Ideal.ofBits_zero_f32
  have h := Ideal.matmul_plain_apply (φ₁ := .bf16) (φ₂ := .bf16) (M := 256) (K := 2048) (N := 1024) none u w
    (constant S256x1024 .f32 0x00000000#32) r n
  rw [h0, zero_add] at h
  exact h

/-- Row `d` of the two biases, repeated over a band's rows. -/
theorem bias0_apply (b : Vec Ideal S2x1024 .f32) (r : Fin 256) (n : Fin 1024) :
    broadcastTo S256x1024 (extractStridedSlice S1x1024 ![0, 0] b slices_S2x1024_o0_0_S1x1024) broadcasts_S1x1024_S256x1024 (ix2 r n)
      = b (ix2 0 n) :=
  (broadcastTo_apply _ broadcasts_S1x1024_S256x1024 (ix2 r n) (ix2 0 n) (fun a => match a with
    | ⟨0, _⟩ => rfl
    | ⟨1, _⟩ => rfl)).trans
  (extractStridedSlice_apply _ b slices_S2x1024_o0_0_S1x1024 (ix2 0 n) (ix2 0 n) (fun a => match a with
    | ⟨0, _⟩ => rfl
    | ⟨1, _⟩ => by show n.val = 0 + n.val; omega))

theorem bias1_apply (b : Vec Ideal S2x1024 .f32) (r : Fin 256) (n : Fin 1024) :
    broadcastTo S256x1024 (extractStridedSlice S1x1024 ![1, 0] b slices_S2x1024_o1_0_S1x1024) broadcasts_S1x1024_S256x1024 (ix2 r n)
      = b (ix2 1 n) :=
  (broadcastTo_apply _ broadcasts_S1x1024_S256x1024 (ix2 r n) (ix2 0 n) (fun a => match a with
    | ⟨0, _⟩ => rfl
    | ⟨1, _⟩ => rfl)).trans
  (extractStridedSlice_apply _ b slices_S2x1024_o1_0_S1x1024 (ix2 0 n) (ix2 1 n) (fun a => match a with
    | ⟨0, _⟩ => rfl
    | ⟨1, _⟩ => by show n.val = 0 + n.val; omega))

/-- The first branch's band, kept in the scratch block. -/
theorem first_apply (b : Vec Ideal S2x1024 .f32) (u : Vec Ideal S256x2048 .bf16) (w : Vec Ideal S2048x1024 .bf16)
    (g : Vec Ideal S256x1024 .bf16) (r : Fin 256) (n : Fin 1024) :
    k0_pay6 (F := Ideal) b u w g (ix3 0 r n)
      = gated (g (ix2 r n)) (b (ix2 0 n)) (∑ k : Fin 2048, (u (ix2 r k) : EReal) * w (ix2 k n)) := by
  unfold k0_pay6
  refine (shapeCast_addUnit_apply ![256, 1024] _ _ (ix3 0 r n)).trans ?_
  have hi : (fun a : Fin 2 => (ix3 (0 : Fin 1) r n : (⟨3, ![1, 256, 1024]⟩ : Shape).Idx) a.succ) = (ix2 r n : S256x1024.Idx) :=
    funext fun a => match a with | ⟨0, _⟩ => rfl | ⟨1, _⟩ => rfl
  refine (congrArg _ hi).trans ?_
  have hp := prod_apply u w r n
  have hb := bias0_apply b r n
  show FloatOps.mulf (F := Ideal) (φ := .f32) (FloatOps.logistic (FloatOps.addf (F := Ideal) (φ := .f32) (g (ix2 r n))
    (broadcastTo S256x1024 (extractStridedSlice S1x1024 ![0, 0] b slices_S2x1024_o0_0_S1x1024) broadcasts_S1x1024_S256x1024 (ix2 r n))))
      (k0_pay8 (F := Ideal) u w (ix2 r n)) = _
  rw [hb, hp]
  rfl

/-- The band written: the scratch block plus the second branch. -/
theorem second_apply (b : Vec Ideal S2x1024 .f32) (u : Vec Ideal S256x2048 .bf16) (w : Vec Ideal S2048x1024 .bf16)
    (g : Vec Ideal S256x1024 .bf16) (z : Vec Ideal S1x256x1024 .f32) (r : Fin 256) (n : Fin 1024) :
    k0_pay7 (F := Ideal) b u w g z (ix2 r n)
      = (z (ix3 0 r n) : EReal) + gated (g (ix2 r n)) (b (ix2 1 n)) (∑ k : Fin 2048, (u (ix2 r k) : EReal) * w (ix2 k n)) := by
  have hz : shapeCast S256x1024 z shapeCasts_S1x256x1024_S256x1024 (ix2 r n) = z (ix3 0 r n) :=
    (shapeCast_dropUnit_apply ![256, 1024] z _ (ix2 r n)).trans (congrArg z (funext fun a => match a with
      | ⟨0, _⟩ => rfl | ⟨1, _⟩ => rfl | ⟨2, _⟩ => rfl))
  have hp := prod_apply u w r n
  have hb := bias1_apply b r n
  show FloatOps.addf (F := Ideal) (φ := .f32) (shapeCast S256x1024 z shapeCasts_S1x256x1024_S256x1024 (ix2 r n))
    (FloatOps.mulf (F := Ideal) (φ := .f32) (FloatOps.logistic (FloatOps.addf (F := Ideal) (φ := .f32) (g (ix2 r n))
      (broadcastTo S256x1024 (extractStridedSlice S1x1024 ![1, 0] b slices_S2x1024_o1_0_S1x1024) broadcasts_S1x1024_S256x1024 (ix2 r n))))
      (k0_pay8 (F := Ideal) u w (ix2 r n))) = _
  rw [hb, hp, hz]
  rfl

/-- A band of 256 rows from row `o` on is the block's band there. -/
theorem band_apply (x0 x1 : Vec Ideal S1024x2048 .bf16) (x2 x3 : Vec Ideal S2048x1024 .bf16) (x4 x5 : Vec Ideal S1024x1024 .bf16)
    (x6 : Vec Ideal S2x1024 .f32) (o : Nat) (hu : ∀ a, (![o, 0] : Fin 2 → Nat) a + S256x2048.size a ≤ S1024x2048.size a)
    (hg : ∀ a, (![o, 0] : Fin 2 → Nat) a + S256x1024.size a ≤ S1024x1024.size a)
    (x : (Rect.unit (s := S1024x1024) ![o, 0] S256x1024.size hg).shape.Idx) :
    k0_pay7 (F := Ideal) x6 (View.ld x1 (Rect.unit ![o, 0] S256x2048.size hu)) x3 (View.ld x5 (Rect.unit ![o, 0] S256x1024.size hg))
      (k0_pay6 (F := Ideal) x6 (View.ld x0 (Rect.unit ![o, 0] S256x2048.size hu)) x2 (View.ld x4 (Rect.unit ![o, 0] S256x1024.size hg))) x
      = merged x0 x1 x2 x3 x4 x5 x6 ((Rect.unit (s := S1024x1024) ![o, 0] S256x1024.size hg).emb x) := by
  have ho : o + 256 ≤ 1024 := hg 0
  obtain ⟨r, n, rfl⟩ : ∃ (r : Fin 256) (n : Fin 1024), x = (ix2 r n : S256x1024.Idx) := ⟨x 0, x 1, eq_ix2 (n0 := 256) (n1 := 1024) x⟩
  have hr := r.isLt
  have he : (Rect.unit (s := S1024x1024) ![o, 0] S256x1024.size hg).emb (ix2 r n : S256x1024.Idx)
      = (ix2 ⟨o + r.val, by omega⟩ n : S1024x1024.Idx) := funext fun a => Fin.ext (match a with
    | ⟨0, _⟩ => by show o + 1 * r.val = o + r.val; omega
    | ⟨1, _⟩ => by show 0 + 1 * n.val = n.val; omega)
  have lu : ∀ (X : Vec Ideal S1024x2048 .bf16) (k : Fin 2048), View.ld X (Rect.unit ![o, 0] S256x2048.size hu) (ix2 r k : S256x2048.Idx)
      = X (ix2 ⟨o + r.val, by omega⟩ k) := fun X k => View.ld_unit_apply_of X _ _ hu _ _ (fun a => match a with
    | ⟨0, _⟩ => rfl
    | ⟨1, _⟩ => by show k.val = 0 + k.val; omega)
  have lg : ∀ (X : Vec Ideal S1024x1024 .bf16), View.ld X (Rect.unit ![o, 0] S256x1024.size hg) (ix2 r n : S256x1024.Idx)
      = X (ix2 ⟨o + r.val, by omega⟩ n) := fun X => View.ld_unit_apply_of X _ _ hg _ _ (fun a => match a with
    | ⟨0, _⟩ => rfl
    | ⟨1, _⟩ => by show n.val = 0 + n.val; omega)
  rw [he]
  refine (second_apply _ _ _ _ _ r n).trans ?_
  rw [first_apply]
  exact congrArg₂ (fun a b : EReal => a + b)
    (congr (congrArg (fun e => gated e (x6 (ix2 0 n))) (lg x4)) (Finset.sum_congr rfl fun k _ => congrArg (fun e : EReal => e * x2 (ix2 k n)) (lu x0 k)))
    (congr (congrArg (fun e => gated e (x6 (ix2 1 n))) (lg x5)) (Finset.sum_congr rfl fun k _ => congrArg (fun e : EReal => e * x3 (ix2 k n)) (lu x1 k)))

theorem out_eq (c : Dev nD) (i : grid0.Coords) (arg2 : Memref sig .tc .vmem S1024x2048 .bf16) (harg2 : arg2.IsWhole) (arg3 : Memref sig .tc .vmem S1024x2048 .bf16) (harg3 : arg3.IsWhole) (arg4 : Memref sig .tc .vmem S2048x1024 .bf16) (harg4 : arg4.IsWhole) (arg5 : Memref sig .tc .vmem S2048x1024 .bf16) (harg5 : arg5.IsWhole) (arg6 : Memref sig .tc .vmem S1024x1024 .bf16) (harg6 : arg6.IsWhole) (arg7 : Memref sig .tc .vmem S1024x1024 .bf16) (harg7 : arg7.IsWhole) (arg8 : Memref sig .tc .vmem S2x1024 .f32) (harg8 : arg8.IsWhole) (arg9 : Memref sig .tc .vmem S1024x1024 .bf16) (harg9 : arg9.IsWhole) (arg10 : Memref sig .tc .vmem S1x256x1024 .f32) (harg10 : arg10.IsWhole)
    (x0 x1 : Vec Ideal S1024x2048 .bf16) (x2 x3 : Vec Ideal S2048x1024 .bf16) (x4 x5 : Vec Ideal S1024x1024 .bf16) (x6 : Vec Ideal S2x1024 .f32) :
    out0_A_7 (F := Ideal) c i arg2 harg2 arg3 harg3 arg4 harg4 arg5 harg5 arg6 harg6 arg7 harg7 arg8 harg8 arg9 harg9 arg10 harg10 x0 x1 x2 x3 x4 x5 x6
      = merged x0 x1 x2 x3 x4 x5 x6 := by
  funext y
  unfold out0_A_7
  rw [View.read_writes_eq_canon _ _ _ (cover0_A_7 c i arg2 harg2 arg3 harg3 arg4 harg4 arg5 harg5 arg6 harg6 arg7 harg7 arg8 harg8 arg9 harg9 arg10 harg10 x0 x1 x2 x3 x4 x5 x6)]
  refine View.canon_apply_of_pieces (merged x0 x1 x2 x3 x4 x5 x6) _ ?_ y
    (cover0_A_7 c i arg2 harg2 arg3 harg3 arg4 harg4 arg5 harg5 arg6 harg6 arg7 harg7 arg8 harg8 arg9 harg9 arg10 harg10 x0 x1 x2 x3 x4 x5 x6 y)
  unfold kernelRun0_A
  dsimp only
  sl_unfold_words
  simp only [View.readAt_eq_ld, harg2.read_unread, harg3.read_unread, harg4.read_unread, harg5.read_unread, harg6.read_unread,
    harg7.read_unread, harg8.read_unread, View.ld_unit_zero (S := S2048x1024) hz2, View.ld_unit_zero (S := S2x1024) hz2,
    View.readCov_cons_toLoadRect, pay3_eq]
  intro p hp
  rcases List.mem_cons.mp hp with rfl | hp
  · exact band_apply x0 x1 x2 x3 x4 x5 x6 768 inb_S1024x2048_S256x2048_768_0 inb_S1024x1024_S256x1024_768_0
  rcases List.mem_cons.mp hp with rfl | hp
  · exact band_apply x0 x1 x2 x3 x4 x5 x6 512 inb_S1024x2048_S256x2048_512_0 inb_S1024x1024_S256x1024_512_0
  rcases List.mem_cons.mp hp with rfl | hp
  · exact band_apply x0 x1 x2 x3 x4 x5 x6 256 inb_S1024x2048_S256x2048_256_0 inb_S1024x1024_S256x1024_256_0
  rcases List.mem_cons.mp hp with rfl | hp
  · intro x
    have h := band_apply x0 x1 x2 x3 x4 x5 x6 0 inb_S1024x2048_S256x2048_0_0 inb_S1024x1024_S256x1024_0_0 x
    rw [← pay3_eq x6] at h
    refine Eq.trans ?_ (h.trans (by rw [pay3_eq]))
    rfl
  · exact absurd hp List.not_mem_nil

/-! ## The whole array -/

abbrev zaIdx (i : S16384x4096.Idx) : S16384x19456.Idx :=
  ix2 (i 0) ⟨11264 + (i 1).val, by have : (i 1).val < 4096 := (i 1).isLt; omega⟩
abbrev zbIdx (i : S16384x4096.Idx) : S16384x19456.Idx :=
  ix2 (i 0) ⟨15360 + (i 1).val, by have : (i 1).val < 4096 := (i 1).isLt; omega⟩
/-- The row of the stacked weights of all layers that row `k` of this layer is. -/
abbrev wIdx (k : Fin 2048) (n : Fin 4096) : S8192x4096.Idx := ix2 ⟨2 * 2048 + k.val, by have := k.isLt; omega⟩ n

/-- The two gated products, added. -/
def mergeAll (ua ub : Vec Ideal S16384x2048 .bf16) (wa wb : Vec Ideal S8192x4096 .bf16) (z : Vec Ideal S16384x19456 .bf16)
    (b : Vec Ideal S2x4096 .f32) : Vec Ideal S16384x4096 .bf16 :=
  fun i => gated (z (zaIdx i)) (b (ix2 0 (i 1))) (∑ k : Fin 2048, (ua (ix2 (i 0) k) : EReal) * wa (wIdx k (i 1)))
    + gated (z (zbIdx i)) (b (ix2 1 (i 1))) (∑ k : Fin 2048, (ub (ix2 (i 0) k) : EReal) * wb (wIdx k (i 1)))

variable (m : (ℓ : Loc nD τ sig) → Buf (Elt Ideal) ℓ)

theorem iblk0_apply (c : Dev nD) (t : Fin cfg0.N) (r : Fin 1024) (k : Fin 2048) (i : S16384x2048.Idx)
    (h0 : (i 0).val = t.val / 4 * 1024 + r.val) (h1 : (i 1).val = k.val) : iblk m c 0 t (ix2 r k) = V m c main_arg0 i := by
  obtain ⟨⟨e0, e1⟩, -⟩ := facts_idx t
  refine congrArg (V m c main_arg0) (funext fun a => Fin.ext ?_)
  match a with
  | ⟨0, _⟩ => show win0_0.index t 0 * 1024 + 1 * r.val = (i 0).val; rw [e0, h0]; omega
  | ⟨1, _⟩ => show win0_0.index t 1 * 2048 + 1 * k.val = (i 1).val; rw [e1, h1]; omega

theorem iblk1_apply (c : Dev nD) (t : Fin cfg0.N) (r : Fin 1024) (k : Fin 2048) (i : S16384x2048.Idx)
    (h0 : (i 0).val = t.val / 4 * 1024 + r.val) (h1 : (i 1).val = k.val) : iblk m c 1 t (ix2 r k) = V m c main_arg1 i := by
  obtain ⟨-, ⟨e0, e1⟩, -⟩ := facts_idx t
  refine congrArg (V m c main_arg1) (funext fun a => Fin.ext ?_)
  match a with
  | ⟨0, _⟩ => show win0_1.index t 0 * 1024 + 1 * r.val = (i 0).val; rw [e0, h0]; omega
  | ⟨1, _⟩ => show win0_1.index t 1 * 2048 + 1 * k.val = (i 1).val; rw [e1, h1]; omega

theorem iblk2_apply (c : Dev nD) (t : Fin cfg0.N) (k : Fin 2048) (n : Fin 1024) (i : S8192x4096.Idx)
    (h0 : (i 0).val = 2 * 2048 + k.val) (h1 : (i 1).val = t.val % 4 * 1024 + n.val) : iblk m c 2 t (ix2 k n) = V m c main_arg2 i := by
  obtain ⟨-, -, ⟨e0, e1⟩, -⟩ := facts_idx t
  refine congrArg (V m c main_arg2) (funext fun a => Fin.ext ?_)
  match a with
  | ⟨0, _⟩ => show win0_2.index t 0 * 2048 + 1 * k.val = (i 0).val; rw [e0, h0]; omega
  | ⟨1, _⟩ => show win0_2.index t 1 * 1024 + 1 * n.val = (i 1).val; rw [e1, h1]; omega

theorem iblk3_apply (c : Dev nD) (t : Fin cfg0.N) (k : Fin 2048) (n : Fin 1024) (i : S8192x4096.Idx)
    (h0 : (i 0).val = 2 * 2048 + k.val) (h1 : (i 1).val = t.val % 4 * 1024 + n.val) : iblk m c 3 t (ix2 k n) = V m c main_arg3 i := by
  obtain ⟨-, -, -, ⟨e0, e1⟩, -⟩ := facts_idx t
  refine congrArg (V m c main_arg3) (funext fun a => Fin.ext ?_)
  match a with
  | ⟨0, _⟩ => show win0_3.index t 0 * 2048 + 1 * k.val = (i 0).val; rw [e0, h0]; omega
  | ⟨1, _⟩ => show win0_3.index t 1 * 1024 + 1 * n.val = (i 1).val; rw [e1, h1]; omega

theorem iblk4_apply (c : Dev nD) (t : Fin cfg0.N) (r n : Fin 1024) (i : S16384x19456.Idx)
    (h0 : (i 0).val = t.val / 4 * 1024 + r.val) (h1 : (i 1).val = 11264 + (t.val % 4 * 1024 + n.val)) :
    iblk m c 4 t (ix2 r n) = V m c main_arg4 i := by
  obtain ⟨-, -, -, -, ⟨e0, e1⟩, -⟩ := facts_idx t
  refine congrArg (V m c main_arg4) (funext fun a => Fin.ext ?_)
  match a with
  | ⟨0, _⟩ => show win0_4.index t 0 * 1024 + 1 * r.val = (i 0).val; rw [e0, h0]; omega
  | ⟨1, _⟩ => show win0_4.index t 1 * 1024 + 1 * n.val = (i 1).val; rw [e1, h1]; omega

theorem iblk5_apply (c : Dev nD) (t : Fin cfg0.N) (r n : Fin 1024) (i : S16384x19456.Idx)
    (h0 : (i 0).val = t.val / 4 * 1024 + r.val) (h1 : (i 1).val = 15360 + (t.val % 4 * 1024 + n.val)) :
    iblk m c 5 t (ix2 r n) = V m c main_arg4 i := by
  obtain ⟨-, -, -, -, -, ⟨e0, e1⟩, -⟩ := facts_idx t
  refine congrArg (V m c main_arg4) (funext fun a => Fin.ext ?_)
  match a with
  | ⟨0, _⟩ => show win0_5.index t 0 * 1024 + 1 * r.val = (i 0).val; rw [e0, h0]; omega
  | ⟨1, _⟩ => show win0_5.index t 1 * 1024 + 1 * n.val = (i 1).val; rw [e1, h1]; omega

theorem iblk6_apply (c : Dev nD) (t : Fin cfg0.N) (d : Fin 2) (n : Fin 1024) (i : S2x4096.Idx)
    (h0 : (i 0).val = d.val) (h1 : (i 1).val = t.val % 4 * 1024 + n.val) :
    iblk m c 6 t (ix2 d n) = V m c main_v1 i := by
  obtain ⟨-, -, -, -, -, -, ⟨e0, e1⟩, -⟩ := facts_idx t
  refine congrArg (V m c main_v1) (funext fun a => Fin.ext ?_)
  match a with
  | ⟨0, _⟩ => show win0_6.index t 0 * 2 + 1 * d.val = (i 0).val; rw [e0, h0]; omega
  | ⟨1, _⟩ => show win0_6.index t 1 * 1024 + 1 * n.val = (i 1).val; rw [e1, h1]; omega

/-- The array the kernel leaves, from what the region finds. -/
abbrev mergeV (c : Dev nD) : Vec Ideal S16384x4096 .bf16 :=
  mergeAll (V m c main_arg0) (V m c main_arg1) (V m c main_arg2) (V m c main_arg3) (V m c main_arg4) (V m c main_v1)

theorem block_apply (c : Dev nD) (t : Fin cfg0.N) (r n : Fin 1024) (i : S16384x4096.Idx)
    (h0 : (i 0).val = t.val / 4 * 1024 + r.val) (h1 : (i 1).val = t.val % 4 * 1024 + n.val) :
    merged (iblk m c 0 t) (iblk m c 1 t) (iblk m c 2 t) (iblk m c 3 t) (iblk m c 4 t) (iblk m c 5 t) (iblk m c 6 t) (ix2 r n)
      = mergeV m c i := by
  have e4 := iblk4_apply m c t r n (zaIdx i) h0 (congrArg (11264 + ·) h1)
  have e5 := iblk5_apply m c t r n (zbIdx i) h0 (congrArg (15360 + ·) h1)
  have e6 := iblk6_apply m c t 0 n (ix2 0 (i 1)) rfl h1
  have e6' := iblk6_apply m c t 1 n (ix2 1 (i 1)) rfl h1
  exact congrArg₂ (fun a b : EReal => a + b)
    (congr (congrArg₂ gated e4 e6) (Finset.sum_congr rfl fun k _ => congrArg₂ (fun a b : EReal => a * b)
      (iblk0_apply m c t r k (ix2 (i 0) k) h0 rfl) (iblk2_apply m c t k n (wIdx k (i 1)) rfl h1)))
    (congr (congrArg₂ gated e5 e6') (Finset.sum_congr rfl fun k _ => congrArg₂ (fun a b : EReal => a * b)
      (iblk1_apply m c t r k (ix2 (i 0) k) h0 rfl) (iblk3_apply m c t k n (wIdx k (i 1)) rfl h1)))

theorem flushed_eq (c : Dev nD) (t : Fin cfg0.N) (hf : (cfg0.win 7).flush t = true) :
    (dats m 0 c).flushed 7 t = ((cfg0.win 7).blk t).view.read (Elt Ideal) (mergeV m c) := by
  rw [Value.flushed7_A, out_eq]
  obtain ⟨-, -, -, -, -, -, -, h5, h6⟩ := facts_idx t
  funext y
  obtain ⟨r, n, rfl⟩ : ∃ (r : Fin 1024) (n : Fin 1024), y = ix2 r n := ⟨y 0, y 1, eq_ix2 y⟩
  refine block_apply m c t r n _ ?_ ?_
  · show win0_7.index t 0 * 1024 + 1 * r.val = _; rw [h5]; omega
  · show win0_7.index t 1 * 1024 + 1 * n.val = _; rw [h6]; omega

/-- The array the kernel leaves. -/
theorem final (c : Dev nD) : (dats m 0 c).arrAt 7 cfg0.N = mergeV m c :=
  (dats m 0 c).arrAt_eq_of_cover 7 _ (flushed_eq m c) fun i => by
    have hi0 : (i 0 : Nat) < 16384 := (i 0).isLt
    have hi1 : (i 1 : Nat) < 4096 := (i 1).isLt
    have hN := N_eq
    refine ⟨⟨(i 0 : Nat) / 1024 * 4 + (i 1 : Nat) / 1024, by omega⟩, flush0_7 _, ?_⟩
    generalize ht : (⟨(i 0 : Nat) / 1024 * 4 + (i 1 : Nat) / 1024, _⟩ : Fin cfg0.N) = t
    have hv : t.val = (i 0 : Nat) / 1024 * 4 + (i 1 : Nat) / 1024 := by rw [← ht]
    obtain ⟨-, -, -, -, -, -, -, h5, h6⟩ := facts_idx t
    show i ∈ ((View.whole main_v2).slice (win0_7.rect t)).set
    rw [View.set_slice_whole, Rect.mem_set_unit]
    intro a
    match a with
    | ⟨0, _⟩ =>
      show win0_7.index t 0 * 1024 ≤ (i 0 : Nat) ∧ (i 0 : Nat) < win0_7.index t 0 * 1024 + 1024
      rw [h5, hv]; omega
    | ⟨1, _⟩ =>
      show win0_7.index t 1 * 1024 ≤ (i 1 : Nat) ∧ (i 1 : Nat) < win0_7.index t 1 * 1024 + 1024
      rw [h6, hv]; omega

/-- The layer's two rows of biases as the region finds them. -/
theorem V_v1 (c : Dev nD) (d : Fin 2) (n : Fin 4096) :
    V m c main_v1 (ix2 d n) = m ((c : Thread nD τ).loc main_arg5) (ix3 2 d n) := by
  have h : V m c main_v1 = shapeCast S2x4096 (extractStridedSlice S1x2x4096 ![2, 0, 0]
      (m ((c : Thread nD τ).loc main_arg5)) slices_S4x2x4096_S1x2x4096_2_0_0) shapeCasts_S1x2x4096_S2x4096 := by
    unfold V; after_results; rfl
  rw [h]
  refine (shapeCast_dropUnit_apply ![2, 4096] _ shapeCasts_S1x2x4096_S2x4096 (ix2 d n)).trans ?_
  exact extractStridedSlice_apply ![2, 0, 0] _ slices_S4x2x4096_S1x2x4096_2_0_0 _ (ix3 2 d n) (fun a => match a with
    | ⟨0, _⟩ => rfl
    | ⟨1, _⟩ => by show d.val = 0 + d.val; omega
    | ⟨2, _⟩ => by show n.val = 0 + n.val; omega)

open Cert.Reference4Ideal.Read in
/-- The reference computes the same array. -/
theorem ref_eq (ua ub : Vec Ideal S16384x2048 .bf16) (wa wb : Vec Ideal S8192x4096 .bf16) (z : Vec Ideal S16384x19456 .bf16)
    (b : Vec Ideal S4x2x4096 .f32) (b' : Vec Ideal S2x4096 .f32) (hb : ∀ d n, b' (ix2 d n) = b (ix3 2 d n)) :
    val_main_v41 (F := Ideal) ua ub wa wb z b = mergeAll ua ub wa wb z b' := by
  funext i
  obtain ⟨r, n, rfl⟩ : ∃ (r : Fin 16384) (n : Fin 4096), i = ix2 r n := ⟨i 0, i 1, eq_ix2 i⟩
  have hn := n.isLt
  have one : FloatOps.ofBits (F := Ideal) .f32 0x3F800000#32 = (1 : EReal) := Ideal.ofBits_one_f32
  have hl : ∀ k, lidx_main_v5 (ix2 r n) k = ix2 r k := fun k => funext fun a => match a with | ⟨0, _⟩ => rfl | ⟨1, _⟩ => rfl
  have hl' : ∀ k, lidx_main_v11 (ix2 r n) k = ix2 r k := fun k => funext fun a => match a with | ⟨0, _⟩ => rfl | ⟨1, _⟩ => rfl
  have row : ∀ k : Nat, k < 2048 → (((2 + 0) * 2048 + (k * 4096 + n.val) / 4096 % 2048) * 4096 + (k * 4096 + n.val) % 4096) / 4096
      = 2 * 2048 + k := by omega
  have col : ∀ k : Nat, k < 2048 → (((2 + 0) * 2048 + (k * 4096 + n.val) / 4096 % 2048) * 4096 + (k * 4096 + n.val) % 4096) % 4096
      = n.val := by omega
  have hr : ∀ k, idx_main_v1 (idx_main_v2 (idx_main_v3 (ridx_main_v5 (ix2 r n) k))) = wIdx k n := fun k =>
    funext fun a => Fin.ext (match a with | ⟨0, _⟩ => row k.val k.isLt | ⟨1, _⟩ => col k.val k.isLt)
  have hr' : ∀ k, idx_main_v7 (idx_main_v8 (idx_main_v9 (ridx_main_v11 (ix2 r n) k))) = wIdx k n := fun k =>
    funext fun a => Fin.ext (match a with | ⟨0, _⟩ => row k.val k.isLt | ⟨1, _⟩ => col k.val k.isLt)
  have s1 : val_main_v5 (F := Ideal) ua wa (ix2 r n) = ∑ k : Fin 2048, (ua (ix2 r k) : EReal) * wa (wIdx k n) :=
    (val_main_v5_apply ua wa (ix2 r n)).trans (Finset.sum_congr rfl fun k _ => by
      rw [val_main_v0_apply, val_main_v4_apply, val_main_v3_apply, val_main_v2_apply, val_main_v1_apply, hl, hr]; rfl)
  have s2 : val_main_v11 (F := Ideal) ub wb (ix2 r n) = ∑ k : Fin 2048, (ub (ix2 r k) : EReal) * wb (wIdx k n) :=
    (val_main_v11_apply ub wb (ix2 r n)).trans (Finset.sum_congr rfl fun k _ => by
      rw [val_main_v6_apply, val_main_v10_apply, val_main_v9_apply, val_main_v8_apply, val_main_v7_apply, hl', hr']; rfl)
  have hza : idx_main_v12 (ix2 r n) = zaIdx (ix2 r n) := funext fun a => match a with | ⟨0, _⟩ => rfl | ⟨1, _⟩ => rfl
  have hzb : idx_main_v14 (ix2 r n) = zbIdx (ix2 r n) := funext fun a => match a with | ⟨0, _⟩ => rfl | ⟨1, _⟩ => rfl
  have hb0 : idx_main_v16 (idx_main_v17 (idx_main_v18 (idx_main_v19 (ix2 r n)))) = ix3 2 0 n := funext fun a => Fin.ext (match a with
    | ⟨0, _⟩ => rfl
    | ⟨1, _⟩ => rfl
    | ⟨2, _⟩ => by show n.val % 4096 = n.val; omega)
  have hb1 : idx_main_v28 (idx_main_v29 (idx_main_v30 (idx_main_v31 (ix2 r n)))) = ix3 2 1 n := funext fun a => Fin.ext (match a with
    | ⟨0, _⟩ => rfl
    | ⟨1, _⟩ => rfl
    | ⟨2, _⟩ => by show n.val % 4096 = n.val; omega)
  rw [val_main_v41_apply, val_main_v40_apply, val_main_v27_apply, val_main_v39_apply, s1, s2, val_main_v26_apply, val_main_v38_apply,
    val_main_v25_apply, val_main_v37_apply, val_main_cst_0_apply, val_main_cst_2_apply, val_main_v24_apply, val_main_v36_apply,
    val_main_v23_apply, val_main_v35_apply, val_main_cst_apply, val_main_cst_1_apply, val_main_v22_apply, val_main_v34_apply,
    val_main_v21_apply, val_main_v33_apply, val_main_v20_apply, val_main_v32_apply, val_main_v13_apply, val_main_v15_apply,
    val_main_v12_apply, val_main_v14_apply, val_main_v19_apply, val_main_v18_apply, val_main_v17_apply, val_main_v16_apply,
    val_main_v31_apply, val_main_v30_apply, val_main_v29_apply, val_main_v28_apply, one, hza, hzb, hb0, hb1, ← hb, ← hb]
  rfl

end Cert.Kernel4Ideal.Merge

namespace Cert.Proof.Merge

open Idealize.ShloMosaic Idealize.SL.Sem

theorem frame_R : Cert.quiescent_Reference4Ideal (hReference4Ideal := Cert.Reference4Ideal.Gen.facts) := by
  intro m ρ _
  exact (θ_run Cert.Reference4Ideal.defs _ _).mono (fun r h => ⟨fun c => (h c).2, sem_eq_zero_of_no_sems (by decide) r.2⟩)
    (Cert.Reference4Ideal.Value.run (F := Ideal) m ρ)

theorem algebraic : Cert.algebraic_Kernel4Ideal_Reference4Ideal (hKernel4Ideal := Cert.Kernel4Ideal.Gen.facts)
    (hReference4Ideal := Cert.Reference4Ideal.Gen.facts) := by
  intro m g m' g' _ hagree
  refine ⟨fun c => Cert.Kernel4Ideal.Merge.mergeV m c,
    (θ_run _ _ _).mono (fun r h c => ⟨(h c).1.trans (Cert.Kernel4Ideal.Merge.final m c), (h c).2⟩) (Cert.Kernel4Ideal.Value.run_blocks (F := Ideal) m g),
    (θ_run _ _ _).mono (fun r h c => ⟨(h c).1.trans ?_, (h c).2⟩) (Cert.Reference4Ideal.Value.run (F := Ideal) m' g')⟩
  obtain ⟨a0, a1, a2, a3, a4, a5⟩ := hagree c
  clear h
  beta_reduce
  unfold Cert.Kernel4Ideal.Merge.mergeV
  rw [Cert.Reference4Ideal.Read.val_main_v41_eq, a0, a1, a2, a3, a4, a5, Cert.Kernel4Ideal.Gen.V_main_arg0,
    Cert.Kernel4Ideal.Gen.V_main_arg1, Cert.Kernel4Ideal.Gen.V_main_arg2, Cert.Kernel4Ideal.Gen.V_main_arg3, Cert.Kernel4Ideal.Gen.V_main_arg4]
  exact Cert.Kernel4Ideal.Merge.ref_eq _ _ _ _ _ _ _ (Cert.Kernel4Ideal.Merge.V_v1 m c)

end Cert.Proof.Merge

end
-- ==== Proof.FinalNorm.lean ====
/-
  The final norm: point `t` of 32 normalises 512 rows, each by the root of its mean square, and scales them by the gain.
-/
module

public import proofs.«01_k».proof.Defs
public import proofs.«01_k».proof.Proof.Gen.Kernel5Ideal.Value
public import proofs.«01_k».proof.Proof.Gen.Reference5Ideal.Read
public import Idealize.ShloMosaic.Lib.ValueIdx
public import Idealize.ShloMosaic.Lib.Quiescent

@[expose] public section

set_option maxRecDepth 16384

noncomputable section

namespace Cert.Kernel5Ideal.FinalNorm

open Cert.Kernel5Ideal Cert.Kernel5Ideal.Gen Idealize.ShloMosaic Idealize.ShloMosaic.TcCoe Idealize.SL.Sem
open Idealize.ShloMosaic.ValueIdx
open Idealize.ShloMosaic.Pipeline (Dat)

theorem hz2 : (![0, 0] : Fin 2 → Nat) = fun _ => 0 := funext fun a => match a with | ⟨0, _⟩ => rfl | ⟨1, _⟩ => rfl

theorem N_eq : cfg0.N = 32 := (by decide +kernel : grid0.N = 32)

/-- Where each window's block lies at every point. -/
theorem facts_idx : ∀ t : Fin cfg0.N,
    (win0_0.index t 0 = t.val ∧ win0_0.index t 1 = 0) ∧ (win0_1.index t 0 = 0 ∧ win0_1.index t 1 = 0)
    ∧ (win0_2.index t 0 = t.val ∧ win0_2.index t 1 = 0) :=
  (by decide +kernel : ∀ t : Fin grid0.N,
    (win0_0.index t 0 = t.val ∧ win0_0.index t 1 = 0) ∧ (win0_1.index t 0 = 0 ∧ win0_1.index t 1 = 0)
    ∧ (win0_2.index t 0 = t.val ∧ win0_2.index t 1 = 0))

/-- The sum of a block's row. -/
theorem rowSum_apply (v : Vec Ideal S512x4096 .f32) (r : Fin 512) :
    multiReduction (F := Ideal) (φ := .f32) .add [1] S512 v 0x00000000#32 reduces_S512x4096_S512 (.inl rfl) rfl (ix1 r)
      = ∑ k : Fin 4096, (v (ix2 r k) : EReal) := by
  refine (Ideal.multiReduction_add_single (φ := .f32) v 0x00000000#32 reduces_S512x4096_S512 (.inl rfl) rfl (ix1 r)).trans ?_
  refine Finset.sum_congr rfl fun k _ => congrArg v (funext fun a => Fin.ext ?_)
  match a with | ⟨0, _⟩ => rfl | ⟨1, _⟩ => rfl

/-- A row's value at a column: scaled by the reciprocal root of its mean square and by the gain. -/
def normed (s x g : EReal) : EReal :=
  FloatOps.mulf (F := Ideal) (φ := .f32) (FloatOps.mulf (F := Ideal) (φ := .f32) x
    (FloatOps.rsqrt (F := Ideal) (φ := .f32) (FloatOps.addf (F := Ideal) (φ := .f32)
      (FloatOps.divf (F := Ideal) (φ := .f32) s (Scalar.ofBits .f32 0x45800000#32)) (Scalar.ofBits .f32 0x358637BD#32)))) g

/-- The rows normalised. -/
def norm (x : Vec Ideal S16384x4096 .f32) (g : Vec Ideal S1x4096 .f32) : Vec Ideal S16384x4096 .f32 :=
  fun i => normed (∑ k : Fin 4096, (x (ix2 (i 0) k) * x (ix2 (i 0) k) : EReal)) (x i) (g (ix2 0 (i 1)))

/-- The block written, at an index. -/
theorem E2_apply (v0 : Vec Ideal S512x4096 .f32) (v1 : Vec Ideal S1x4096 .f32) (r : Fin 512) (n : Fin 4096) :
    Value.E2 (F := Ideal) v0 v1 (ix2 r n)
      = normed (∑ k : Fin 4096, (v0 (ix2 r k) * v0 (ix2 r k) : EReal)) (v0 (ix2 r n)) (v1 (ix2 0 n)) := by
  have h1 : Value.ix2_1 (ix2 r n) = ix1 r := funext fun a => match a with | ⟨0, _⟩ => rfl
  have h0 : Value.ix2_0 (ix2 r n) = ix2 r n := funext fun a => match a with | ⟨0, _⟩ => rfl | ⟨1, _⟩ => rfl
  have h2 : Value.ix2_2 (ix2 r n) = ix2 0 n := funext fun a => match a with | ⟨0, _⟩ => rfl | ⟨1, _⟩ => rfl
  unfold Value.E2 normed
  beta_reduce
  rw [h0, h1, h2, rowSum_apply]
  rfl

variable (m : (ℓ : Loc nD τ sig) → Buf (Elt Ideal) ℓ)

theorem iblk0_apply (c : Dev nD) (t : Fin cfg0.N) (r : Fin 512) (k : Fin 4096) (i : S16384x4096.Idx)
    (h0 : (i 0).val = t.val * 512 + r.val) (h1 : (i 1).val = k.val) :
    iblk m c 0 t (ix2 r k) = V m c main_arg0 i := by
  obtain ⟨⟨e0, e1⟩, -⟩ := facts_idx t
  refine congrArg (V m c main_arg0) (funext fun a => Fin.ext ?_)
  match a with
  | ⟨0, _⟩ => show win0_0.index t 0 * 512 + 1 * r.val = (i 0).val; rw [e0, h0]; omega
  | ⟨1, _⟩ => show win0_0.index t 1 * 4096 + 1 * k.val = (i 1).val; rw [e1, h1]; omega

theorem iblk1_apply (c : Dev nD) (t : Fin cfg0.N) (n : Fin 4096) (i : S1x4096.Idx) (h1 : (i 1).val = n.val) :
    iblk m c 1 t (ix2 0 n) = V m c main_v0 i := by
  obtain ⟨-, ⟨e0, e1⟩, -⟩ := facts_idx t
  have h0 : (i 0 : Nat) < 1 := (i 0).isLt
  refine congrArg (V m c main_v0) (funext fun a => Fin.ext ?_)
  match a with
  | ⟨0, _⟩ => show win0_1.index t 0 * 1 + 1 * 0 = (i 0).val; rw [e0]; omega
  | ⟨1, _⟩ => show win0_1.index t 1 * 4096 + 1 * n.val = (i 1).val; rw [e1, h1]; omega

theorem block_apply (c : Dev nD) (t : Fin cfg0.N) (r : Fin 512) (n : Fin 4096) (i : S16384x4096.Idx)
    (h0 : (i 0).val = t.val * 512 + r.val) (h1 : (i 1).val = n.val) :
    Value.E2 (F := Ideal) (iblk m c 0 t) (iblk m c 1 t) (ix2 r n) = norm (V m c main_arg0) (V m c main_v0) i := by
  refine (E2_apply _ _ r n).trans ?_
  unfold norm
  rw [iblk0_apply m c t r n i h0 h1, iblk1_apply m c t n (ix2 0 (i 1)) h1]
  refine congrArg (fun e : EReal => normed e _ _) (Finset.sum_congr rfl fun k _ => ?_)
  rw [iblk0_apply m c t r k (ix2 (i 0) k) h0 rfl]

theorem flushed_eq (c : Dev nD) (t : Fin cfg0.N) (hf : (cfg0.win 2).flush t = true) :
    (dats m 0 c).flushed 2 t = ((cfg0.win 2).blk t).view.read (Elt Ideal) (norm (V m c main_arg0) (V m c main_v0)) := by
  rw [Value.flushed2]
  unfold out0_2
  rw [View.ld_unit_zero (S := S512x4096) hz2, View.ld_unit_zero (S := S1x4096) hz2]
  obtain ⟨-, -, h5, h6⟩ := facts_idx t
  funext y
  obtain ⟨r, n, rfl⟩ : ∃ (r : Fin 512) (n : Fin 4096), y = ix2 r n := ⟨y 0, y 1, eq_ix2 y⟩
  refine (Value.canon2_eq _ _ _).trans (block_apply m c t r n _ ?_ ?_)
  · show win0_2.index t 0 * 512 + 1 * r.val = _; rw [h5]; omega
  · show win0_2.index t 1 * 4096 + 1 * n.val = _; rw [h6]; omega

/-- The array the kernel leaves. -/
theorem final (c : Dev nD) : (dats m 0 c).arrAt 2 cfg0.N = norm (V m c main_arg0) (V m c main_v0) :=
  (dats m 0 c).arrAt_eq_of_cover 2 _ (flushed_eq m c) fun i => by
    have hi0 : (i 0 : Nat) < 16384 := (i 0).isLt
    have hi1 : (i 1 : Nat) < 4096 := (i 1).isLt
    have hN := N_eq
    refine ⟨⟨(i 0 : Nat) / 512, by omega⟩, flush0_2 _, ?_⟩
    generalize ht : (⟨(i 0 : Nat) / 512, _⟩ : Fin cfg0.N) = t
    have hv : t.val = (i 0 : Nat) / 512 := by rw [← ht]
    obtain ⟨-, -, h5, h6⟩ := facts_idx t
    show i ∈ ((View.whole main_v1).slice (win0_2.rect t)).set
    rw [View.set_slice_whole, Rect.mem_set_unit]
    intro a
    match a with
    | ⟨0, _⟩ =>
      show win0_2.index t 0 * 512 ≤ (i 0 : Nat) ∧ (i 0 : Nat) < win0_2.index t 0 * 512 + 512
      rw [h5, hv]; omega
    | ⟨1, _⟩ =>
      show win0_2.index t 1 * 4096 ≤ (i 1 : Nat) ∧ (i 1 : Nat) < win0_2.index t 1 * 4096 + 4096
      rw [h6]; omega

/-- The gain as the region finds it: one row. -/
theorem V_v0 (c : Dev nD) (n : Fin 4096) : V m c main_v0 (ix2 0 n) = m ((c : Thread nD τ).loc main_arg1) (ix1 n) := by
  have h : V m c main_v0 = broadcastInDim S1x4096 ![1] bcast_S4096_S1x4096_1 (m ((c : Thread nD τ).loc main_arg1)) := by
    unfold V; after_results
  rw [h]
  exact broadcastInDim_apply _ bcast_S4096_S1x4096_1 _ _ _ (fun a => match a with
    | ⟨0, _⟩ => by show n.val = if (4096 : Nat) = 1 then 0 else n.val; rw [if_neg (by decide)])

open Cert.Reference5Ideal.Read in
/-- The reference computes the same array. -/
theorem ref_eq (x : Vec Ideal S16384x4096 .f32) (g : Vec Ideal S4096 .f32) (g' : Vec Ideal S1x4096 .f32)
    (hg : ∀ n, g' (ix2 0 n) = g (ix1 n)) : val_main_v12 (F := Ideal) x g = norm x g' := by
  funext i
  obtain ⟨r, n, rfl⟩ : ∃ (r : Fin 16384) (n : Fin 4096), i = ix2 r n := ⟨i 0, i 1, eq_ix2 i⟩
  have h1 : ∀ k, idx_main_v1 (idx_main_v2 (idx_main_v8 (ix2 r n))) k = ix2 r k :=
    fun k => funext fun a => match a with | ⟨0, _⟩ => rfl | ⟨1, _⟩ => rfl
  have h2 : idx_main_v10 (idx_main_v11 (ix2 r n)) = ix1 n := funext fun a => match a with | ⟨0, _⟩ => rfl
  have hz : (val_main_cst (F := Ideal)) (Shape.Idx.first Cert.Reference5Ideal.Gen.h_S_) = (0 : EReal) := Ideal.ofBits_zero_f32
  have hs : val_main_v1 (F := Ideal) x (idx_main_v2 (idx_main_v8 (ix2 r n)))
      = ∑ k : Fin 4096, (x (ix2 r k) * x (ix2 r k) : EReal) := by
    rw [val_main_v1_apply, hz, zero_add]
    refine Finset.sum_congr rfl fun k _ => ?_
    rw [val_main_v0_apply, h1]
    rfl
  rw [val_main_v12_apply, val_main_v9_apply, val_main_v8_apply, val_main_v7_apply, val_main_v6_apply, val_main_v4_apply,
    val_main_v2_apply, val_main_v3_apply, val_main_cst_0_apply, val_main_v5_apply, val_main_cst_1_apply, val_main_v11_apply,
    val_main_v10_apply, hs, h2, ← hg]
  rfl

end Cert.Kernel5Ideal.FinalNorm

namespace Cert.Proof.FinalNorm

open Idealize.ShloMosaic Idealize.SL.Sem

theorem frame_R : Cert.quiescent_Reference5Ideal (hReference5Ideal := Cert.Reference5Ideal.Gen.facts) := by
  intro m ρ _
  exact (θ_run Cert.Reference5Ideal.defs _ _).mono (fun r h => ⟨fun c => (h c).2, sem_eq_zero_of_no_sems (by decide) r.2⟩)
    (Cert.Reference5Ideal.Value.run (F := Ideal) m ρ)

theorem algebraic : Cert.algebraic_Kernel5Ideal_Reference5Ideal (hKernel5Ideal := Cert.Kernel5Ideal.Gen.facts)
    (hReference5Ideal := Cert.Reference5Ideal.Gen.facts) := by
  intro m g m' g' _ hagree
  refine ⟨fun c => Cert.Kernel5Ideal.FinalNorm.norm (Cert.Kernel5Ideal.Gen.V m c Cert.Kernel5Ideal.main_arg0) (Cert.Kernel5Ideal.Gen.V m c Cert.Kernel5Ideal.main_v0),
    (θ_run _ _ _).mono (fun r h c => ⟨(h c).1.trans (Cert.Kernel5Ideal.FinalNorm.final m c), (h c).2⟩) (Cert.Kernel5Ideal.Value.run_blocks (F := Ideal) m g),
    (θ_run _ _ _).mono (fun r h c => ⟨(h c).1.trans ?_, (h c).2⟩) (Cert.Reference5Ideal.Value.run (F := Ideal) m' g')⟩
  obtain ⟨a0, a1⟩ := hagree c
  clear h
  beta_reduce
  rw [Cert.Reference5Ideal.Read.val_main_v12_eq, a0, a1, Cert.Kernel5Ideal.Gen.V_main_arg0]
  exact Cert.Kernel5Ideal.FinalNorm.ref_eq _ _ _ (Cert.Kernel5Ideal.FinalNorm.V_v0 m c)

end Cert.Proof.FinalNorm

end
-- ==== Proof.DecayMath.lean ====
/-
  The decays' arithmetic over the extended reals: the logarithm of the logistic function in two writings, the decay it
  gives, which is a real number, and a running sum in two writings.
-/
module

public import Idealize.ShloMosaic.Lib.IdealHost
public import Idealize.ShloMosaic.Lib.ValueIdx
public import Idealize.ShloMosaic.PureOps.Ideal

@[expose] public section

noncomputable section

namespace Cert.DecayMath

open Idealize.ShloMosaic Idealize.ShloMosaic.ValueIdx

/-- The exponential of a value other than `⊤` is a real number that is not negative. -/
theorem exp_real (y : EReal) (hy : y ≠ ⊤) : ∃ r : ℝ, 0 ≤ r ∧ Ideal.exp y = (r : EReal) := by
  induction y using EReal.rec with
  | bot => exact ⟨0, le_rfl, rfl⟩
  | coe r => exact ⟨Real.exp r, (Real.exp_pos r).le, rfl⟩
  | top => exact absurd rfl hy

theorem neg_abs_ne_top (x : EReal) : -(max x (-x)) ≠ ⊤ := by
  intro h
  have h' : max x (-x) = ⊥ := by rw [← neg_neg (max x (-x)), h]; rfl
  have h1 : x ≤ ⊥ := h' ▸ le_max_left x (-x)
  have h2 : -x ≤ ⊥ := h' ▸ le_max_right x (-x)
  rw [le_bot_iff] at h1 h2
  rw [h1] at h2
  exact absurd h2 (by decide)

/-- The logarithm's correction term is a real number that is not negative. -/
theorem log_real (x : EReal) : ∃ r : ℝ, 0 ≤ r ∧ Ideal.log (1 + Ideal.exp (-(max x (-x)))) = (r : EReal) := by
  obtain ⟨e, he, h⟩ := exp_real _ (neg_abs_ne_top x)
  refine ⟨Real.log (1 + e), Real.log_nonneg (by linarith), ?_⟩
  rw [h, show (1 : EReal) + (e : EReal) = ((1 + e : ℝ) : EReal) by rw [EReal.coe_add]; rfl]
  show (if 1 + e ≤ 0 then (⊥ : EReal) else (Real.log (1 + e) : EReal)) = _
  rw [if_neg (by linarith)]

/-- The logarithm of the logistic function. -/
def logSig (x : EReal) : EReal := min x 0 - Ideal.log (1 + Ideal.exp (-(max x (-x))))

/-- The same from the logarithm of a sum of exponentials of `-x` and of 0. -/
theorem logSig_softplus (x : EReal) :
    -(max (-x) 0 + Ideal.log (1 + Ideal.exp (-(max (-x) (-(-x)))))) = logSig x := by
  obtain ⟨r, -, h⟩ := log_real x
  have hm : -(max (-x) 0) = min x 0 := by
    rcases le_total x 0 with hx | hx
    · rw [min_eq_left hx, max_eq_left (EReal.neg_nonneg.mpr hx), neg_neg]
    · rw [min_eq_right hx, max_eq_right (by rw [EReal.neg_le, neg_zero]; exact hx), neg_zero]
  unfold logSig
  rw [neg_neg, max_comm (-x) x, h, EReal.neg_add (Or.inr (EReal.coe_ne_top r)) (Or.inr (EReal.coe_ne_bot r)), hm]

theorem logSig_nonpos (x : EReal) : logSig x ≤ 0 := by
  obtain ⟨r, hr, h⟩ := log_real x
  unfold logSig
  rw [h]
  refine (EReal.sub_le_sub (min_le_right x 0) (EReal.coe_nonneg.mpr hr)).trans ?_
  rw [sub_zero]

theorem ofBits_sixteen : Ideal.ofBits .f32 0x41800000#32 = ((16 : ℝ) : EReal) := by
  simp [Ideal.ofBits, Ideal.ieee, -EReal.coe_mul]; norm_num

theorem ofBits_neg_one : Ideal.ofBits .f32 0xBF800000#32 = ((-(1 : ℝ)) : EReal) := by
  simp [Ideal.ofBits, Ideal.ieee, -EReal.coe_mul, -EReal.coe_neg]; norm_num

/-- The logarithm of the decay: a sixteenth of the logarithm of the logistic function, not below minus one. -/
def decay (x : EReal) : EReal :=
  max (Ideal.div (logSig x) (Ideal.ofBits .f32 0x41800000#32)) (Ideal.ofBits .f32 0xBF800000#32)

theorem decay_real (x : EReal) : ∃ r : ℝ, decay x = (r : EReal) := by
  have h1 : decay x ≠ ⊥ := fun h => by
    have := le_max_right (Ideal.div (logSig x) (Ideal.ofBits .f32 0x41800000#32)) (Ideal.ofBits .f32 0xBF800000#32)
    rw [show max _ _ = decay x from rfl, h, ofBits_neg_one] at this
    exact absurd (le_bot_iff.mp this) (EReal.coe_ne_bot _)
  have h2 : decay x ≠ ⊤ := by
    refine (lt_of_le_of_lt (b := (0 : EReal)) ?_ EReal.zero_lt_top).ne
    unfold decay
    rw [ofBits_sixteen, ofBits_neg_one]
    refine max_le ?_ (EReal.coe_nonpos.mpr (by norm_num))
    unfold Ideal.div
    rw [if_neg (by norm_cast), ← EReal.coe_inv]
    exact EReal.mul_nonpos_iff.mpr (Or.inr ⟨logSig_nonpos x, EReal.coe_nonneg.mpr (by norm_num)⟩)
  exact ⟨(decay x).toReal, (EReal.coe_toReal h2 h1).symm⟩

/-- A decay less itself is zero. -/
theorem decay_sub (x : EReal) : decay x - decay x = 0 := by
  obtain ⟨r, h⟩ := decay_real x
  rw [h, ← EReal.coe_sub, sub_self]
  rfl

/-! ## Running sums -/

theorem foldl_add {α : Type} (f : α → EReal) : ∀ (l : List α) (v : EReal), l.foldl (fun r n => r + f n) v = v + (l.map f).sum
  | [], v => by simp
  | a :: l, v => by rw [List.foldl_cons, foldl_add f l, List.map_cons, List.sum_cons, add_assoc]

/-- Sixty-four chunk positions, each a window's row that reaches back, are the positions up to it. -/
theorem window_prefix (f : Nat → EReal) (j : Nat) (hj : j < 64) :
    (∑ n : Fin 64, if 63 ≤ j + n.val then f (j + n.val - 63) else 0) = ∑ q : Fin 64, if q.val ≤ j then f q.val else 0 := by
  rw [Fin.sum_univ_eq_sum_range (fun n => if 63 ≤ j + n then f (j + n - 63) else 0) 64,
    Fin.sum_univ_eq_sum_range (fun q => if q ≤ j then f q else 0) 64, ← Finset.sum_filter, ← Finset.sum_filter]
  refine Finset.sum_nbij' (fun n => j + n - 63) (fun q => q + 63 - j) ?_ ?_ ?_ ?_ ?_
  · intro n hn; simp only [Finset.mem_filter, Finset.mem_range] at hn ⊢; omega
  · intro n hn; simp only [Finset.mem_filter, Finset.mem_range] at hn ⊢; omega
  · intro n hn; simp only [Finset.mem_filter, Finset.mem_range] at hn; show j + n - 63 + 63 - j = n; omega
  · intro n hn; simp only [Finset.mem_filter, Finset.mem_range] at hn; show j + (n + 63 - j) - 63 = n; omega
  · intro n hn; rfl

abbrev chunks : Shape := ⟨3, ![256, 64, 1024]⟩

/-- The host's running sum along a chunk's rows. -/
theorem cumsum_apply (x : chunks.Idx → EReal) (h : chunks.ReduceWindows ![1, 64, 1] ![1, 1, 1] ![0, 63, 0] ![0, 0, 0] chunks)
    (a : Fin 256) (j : Fin 64) (c : Fin 1024) :
    Ideal.hostReduceWindowAdd ![1, 64, 1] ![1, 1, 1] ![0, 63, 0] ![0, 0, 0] h x 0 (ix3 a j c)
      = ∑ q : Fin 64, if q.val ≤ j.val then x (ix3 a q c) else 0 := by
  have hj := j.isLt
  have hn : (⟨3, ![1, 64, 1]⟩ : Shape).numel = 64 := by decide
  have hw : ∀ n : Fin (⟨3, ![1, 64, 1]⟩ : Shape).numel, ((⟨3, ![1, 64, 1]⟩ : Shape).rowMajor.symm n 0).val = 0
      ∧ ((⟨3, ![1, 64, 1]⟩ : Shape).rowMajor.symm n 1).val = n.val ∧ ((⟨3, ![1, 64, 1]⟩ : Shape).rowMajor.symm n 2).val = 0 := by
    intro n
    generalize hw : (⟨3, ![1, 64, 1]⟩ : Shape).rowMajor.symm n = w
    have hv : n.val = ((w 0).val * 64 + (w 1).val) * 1 + (w 2).val := by
      have := Shape.rowMajor_val_three w
      rw [← hw, Equiv.apply_symm_apply] at this
      rw [← hw]
      exact this
    have h0 : (w 0).val < 1 := (w 0).isLt
    have h2 : (w 2).val < 1 := (w 2).isLt
    omega
  unfold Ideal.hostReduceWindowAdd Host.reduceWindow
  dsimp only
  refine (foldl_add _ _ _).trans ?_
  rw [zero_add, ← List.ofFn_eq_map, List.sum_ofFn]
  let f : Nat → EReal := fun k => if hk : k < 64 then x (ix3 a ⟨k, hk⟩ c) else 0
  refine (Fintype.sum_equiv (finCongr hn) _ (fun n : Fin 64 => if 63 ≤ j.val + n.val then f (j.val + n.val - 63) else 0) ?_).trans ?_
  · intro n
    obtain ⟨w0, w1, w2⟩ := hw n
    have hlt : n.val < 64 := lt_of_lt_of_eq n.isLt hn
    by_cases h63 : 63 ≤ j.val + n.val
    · rw [if_pos (show 63 ≤ j.val + (finCongr hn n).val from h63)]
      show _ = f (j.val + n.val - 63)
      have hf : f (j.val + n.val - 63) = x (ix3 a ⟨j.val + n.val - 63, by omega⟩ c) := dif_pos (by omega)
      rw [hf, dif_pos]
      · refine congrArg x (funext fun b => Fin.ext ?_)
        match b with
        | ⟨0, _⟩ => show a.val * 1 + ((⟨3, ![1, 64, 1]⟩ : Shape).rowMajor.symm n 0).val - 0 = a.val; rw [w0]; omega
        | ⟨1, _⟩ => show j.val * 1 + ((⟨3, ![1, 64, 1]⟩ : Shape).rowMajor.symm n 1).val - 63 = j.val + n.val - 63; rw [w1]; omega
        | ⟨2, _⟩ => show c.val * 1 + ((⟨3, ![1, 64, 1]⟩ : Shape).rowMajor.symm n 2).val - 0 = c.val; rw [w2]; omega
      · intro b
        have ha := a.isLt
        have hc := c.isLt
        match b with
        | ⟨0, _⟩ =>
          show 0 ≤ a.val * 1 + ((⟨3, ![1, 64, 1]⟩ : Shape).rowMajor.symm n 0).val
            ∧ a.val * 1 + ((⟨3, ![1, 64, 1]⟩ : Shape).rowMajor.symm n 0).val - 0 < 256
          rw [w0]; omega
        | ⟨1, _⟩ =>
          show 63 ≤ j.val * 1 + ((⟨3, ![1, 64, 1]⟩ : Shape).rowMajor.symm n 1).val
            ∧ j.val * 1 + ((⟨3, ![1, 64, 1]⟩ : Shape).rowMajor.symm n 1).val - 63 < 64
          rw [w1]; omega
        | ⟨2, _⟩ =>
          show 0 ≤ c.val * 1 + ((⟨3, ![1, 64, 1]⟩ : Shape).rowMajor.symm n 2).val
            ∧ c.val * 1 + ((⟨3, ![1, 64, 1]⟩ : Shape).rowMajor.symm n 2).val - 0 < 1024
          rw [w2]; omega
    · rw [if_neg (show ¬63 ≤ j.val + (finCongr hn n).val from h63), dif_neg]
      intro hin
      have h1 : 63 ≤ j.val * 1 + ((⟨3, ![1, 64, 1]⟩ : Shape).rowMajor.symm n 1).val := (hin 1).1
      rw [w1] at h1
      omega
  · rw [window_prefix f j.val hj]
    refine Finset.sum_congr rfl fun q _ => ?_
    rw [show f q.val = x (ix3 a q c) from dif_pos q.isLt]

/-- A product with the lower triangle of ones is a sum up to a position. -/
theorem tril_sum (t : Fin 64 → EReal) (j : Fin 64) (ht : ∀ q : Fin 64, t q = if q.val ≤ j.val then 1 else 0) (x : Fin 64 → EReal) :
    ∑ q : Fin 64, t q * x q = ∑ q : Fin 64, if q.val ≤ j.val then x q else 0 := by
  refine Finset.sum_congr rfl fun q _ => ?_
  rw [ht q]
  split
  · exact one_mul _
  · exact zero_mul _

end Cert.DecayMath
-- ==== Proof.NormDecay.lean ====
/-
  The normalisation before a layer and its decays: point `t` of 32 takes 512 rows. It normalises them, projects them to
  the decays' logits through a narrow matrix, and sums the decays' logarithms along every 64 rows. The body does it in
  four bands of 128 rows, each two chunks of 64.
-/
module

public import proofs.«01_k».proof.Defs
public import proofs.«01_k».proof.Proof.Gen.Kernel6Ideal.Value
public import proofs.«01_k».proof.Proof.Gen.Reference6Ideal.Read
public import proofs.«01_k».proof.Proof.DecayMath
public import Idealize.ShloMosaic.Lib.MatmulPlain
public import Idealize.ShloMosaic.Lib.KernelVsHost
public import Idealize.ShloMosaic.Lib.ValueIdx
public import Idealize.ShloMosaic.Lib.IdealHost
public import Idealize.ShloMosaic.Lib.Pipeline.ValueKit.Tiles
public import Idealize.ShloMosaic.Lib.Quiescent

@[expose] public section

set_option maxRecDepth 16384

noncomputable section

namespace Cert.Kernel6Ideal.NormDecay

open Cert.Kernel6Ideal Cert.Kernel6Ideal.Gen Idealize.ShloMosaic Idealize.ShloMosaic.TcCoe Idealize.SL.Sem
open Idealize.ShloMosaic.ValueIdx Cert.DecayMath
open Idealize.ShloMosaic.Pipeline (Dat)

theorem hz2 : (![0, 0] : Fin 2 → Nat) = fun _ => 0 := funext fun a => match a with | ⟨0, _⟩ => rfl | ⟨1, _⟩ => rfl

theorem N_eq : cfg0.N = 32 := (by decide +kernel : grid0.N = 32)

/-! ## One row -/

/-- A row's value at a column: scaled by the reciprocal root of its mean square and by the gain. -/
def normed (s x g : EReal) : EReal :=
  FloatOps.mulf (F := Ideal) (φ := .f32) (FloatOps.mulf (F := Ideal) (φ := .f32) x
    (FloatOps.rsqrt (F := Ideal) (φ := .f32) (FloatOps.addf (F := Ideal) (φ := .f32)
      (FloatOps.divf (F := Ideal) (φ := .f32) s (Scalar.ofBits .f32 0x45800000#32)) (Scalar.ofBits .f32 0x358637BD#32)))) g

/-- A row normalised. -/
def hrow (x g : Fin 4096 → EReal) (n : Fin 4096) : EReal := normed (∑ k : Fin 4096, x k * x k) (x n) (g n)

/-- A row's logit in channel `n`. -/
def logit (x g : Fin 4096 → EReal) (wd : Fin 128 → Fin 4096 → EReal) (wu : Fin 128 → Fin 1024 → EReal) (b : Fin 1024 → EReal)
    (n : Fin 1024) : EReal :=
  (∑ p : Fin 128, (∑ k : Fin 4096, hrow x g k * wd p k) * wu p n) + b n

/-- The decays' logarithms of a chunk's 64 rows, summed up to row `j`, to base 2. -/
def cum (x : Fin 64 → Fin 4096 → EReal) (g : Fin 4096 → EReal) (wd : Fin 128 → Fin 4096 → EReal) (wu : Fin 128 → Fin 1024 → EReal)
    (b : Fin 1024 → EReal) (j : Fin 64) (n : Fin 1024) : EReal :=
  (∑ q : Fin 64, if q.val ≤ j.val then decay (logit (x q) g wd wu b n) else 0) * Ideal.ofBits .f32 0x3FB8AA3B#32

/-! ## A band of 128 rows -/

theorem rowSum_apply (v : Vec Ideal S128x4096 .f32) (r : Fin 128) :
    multiReduction (F := Ideal) (φ := .f32) .add [1] S128 v 0x00000000#32 reduces_S128x4096_S128 (.inl rfl) rfl (ix1 r)
      = ∑ k : Fin 4096, (v (ix2 r k) : EReal) := by
  refine (Ideal.multiReduction_add_single (φ := .f32) v 0x00000000#32 reduces_S128x4096_S128 (.inl rfl) rfl (ix1 r)).trans ?_
  refine Finset.sum_congr rfl fun k _ => congrArg v (funext fun a => Fin.ext ?_)
  match a with | ⟨0, _⟩ => rfl | ⟨1, _⟩ => rfl

theorem pay2_eq (v : Vec Ideal S1x4096 .f32) : k0_pay2 (F := Ideal) v = v := by
  unfold k0_pay2
  funext i
  exact shapeCast_apply v shapeCasts_S1x4096_S1x4096 i i rfl

/-- The band normalised. -/
theorem pay4_apply (g : Vec Ideal S1x4096 .f32) (x : Vec Ideal S128x4096 .f32) (r : Fin 128) (n : Fin 4096) :
    k0_pay4 (F := Ideal) g x (ix2 r n) = hrow (fun k => x (ix2 r k)) (fun k => g (ix2 0 k)) n := by
  unfold k0_pay4
  rw [pay2_eq]
  have hg : broadcastTo S128x4096 g broadcasts_S1x4096_S128x4096 (ix2 r n) = g (ix2 0 n) :=
    broadcastTo_apply _ broadcasts_S1x4096_S128x4096 (ix2 r n) (ix2 0 n) (fun a => match a with
      | ⟨0, _⟩ => rfl
      | ⟨1, _⟩ => rfl)
  have hs : shapeCast S128x1 (multiReduction (F := Ideal) (φ := .f32) .add [1] S128 (mulf x x) 0x00000000#32 reduces_S128x4096_S128
      (.inl rfl) rfl) shapeCasts_S128_S128x1 (ix2 r 0) = ∑ k : Fin 4096, (x (ix2 r k) : EReal) * x (ix2 r k) :=
    (shapeCast_apply _ shapeCasts_S128_S128x1 (ix2 r 0) (ix1 r) (by
      rw [Shape.rowMajor_val_two, Shape.rowMajor_val_one]
      show r.val = r.val * 1 + 0
      omega)).trans (rowSum_apply _ r)
  have hb : ∀ v : FVec Ideal S128x1 .f32, broadcastTo S128x4096 v broadcasts_S128x1_S128x4096 (ix2 r n) = v (ix2 r 0) := fun v =>
    broadcastTo_apply _ broadcasts_S128x1_S128x4096 (ix2 r n) (ix2 r 0) (fun a => match a with
      | ⟨0, _⟩ => rfl
      | ⟨1, _⟩ => rfl)
  show FloatOps.mulf (F := Ideal) (φ := .f32) (FloatOps.mulf (F := Ideal) (φ := .f32) (x (ix2 r n))
    (broadcastTo S128x4096 _ broadcasts_S128x1_S128x4096 (ix2 r n))) (broadcastTo S128x4096 g broadcasts_S1x4096_S128x4096 (ix2 r n)) = _
  rw [hg, hb]
  unfold hrow normed
  rw [← hs]
  rfl

/-- The band's logits. -/
theorem pay5_apply (g : Vec Ideal S1x4096 .f32) (wd : Vec Ideal S128x4096 .f32) (x : Vec Ideal S128x4096 .f32) (wu : Vec Ideal S128x1024 .bf16)
    (b : Vec Ideal S1x1024 .f32) (r : Fin 128) (n : Fin 1024) :
    k0_pay5 (F := Ideal) g wd x wu b (ix2 r n)
      = logit (fun k => x (ix2 r k)) (fun k => g (ix2 0 k)) (fun p k => wd (ix2 p k)) (fun p n => wu (ix2 p n)) (fun n => b (ix2 0 n)) n := by
  have c1 : (constant S128x128 .f32 0x00000000#32 : FVec Ideal S128x128 .f32) = fun _ => (0 : EReal) := funext fun _ => Ideal.ofBits_zero_f32
  have c2 : (constant S128x1024 .f32 0x00000000#32 : FVec Ideal S128x1024 .f32) (ix2 r n) = (0 : EReal) := Ideal.ofBits_zero_f32
  have e3 : k0_pay3 (F := Ideal) wd = wd := by
    unfold k0_pay3
    funext i
    exact shapeCast_apply wd shapeCasts_S128x4096_S128x4096 i i rfl
  have eu : shapeCast S128x1024 wu shapeCasts_S128x1024_S128x1024 = wu := funext fun i => shapeCast_apply wu _ i i rfl
  have eb : broadcastTo S128x1024 (shapeCast S1x1024 b shapeCasts_S1x1024_S1x1024) broadcasts_S1x1024_S128x1024 (ix2 r n) = b (ix2 0 n) :=
    (broadcastTo_apply _ broadcasts_S1x1024_S128x1024 (ix2 r n) (ix2 0 n) (fun a => match a with
      | ⟨0, _⟩ => rfl
      | ⟨1, _⟩ => rfl)).trans (shapeCast_apply b _ _ _ rfl)
  have hd : ∀ p : Fin 128, matmul dot_S128x4096_S128x4096_S128x128_1_1_0_0_n_n none (k0_pay4 (F := Ideal) g x) (k0_pay3 (F := Ideal) wd)
      (constant S128x128 .f32 0x00000000#32) (ix2 r p)
      = ∑ k : Fin 4096, hrow (fun k => x (ix2 r k)) (fun k => g (ix2 0 k)) k * wd (ix2 p k) := by
    intro p
    have h := Ideal.matmul_transposedRhs_apply (φ₁ := .bf16) (φ₂ := .bf16) (M := 128) (K := 4096) (N := 128) none
      (k0_pay4 (F := Ideal) g x) (k0_pay3 (F := Ideal) wd) (constant S128x128 .f32 0x00000000#32) r p
    rw [c1, zero_add] at h
    refine Eq.trans ?_ (h.trans (Finset.sum_congr rfl fun k _ => ?_))
    · rw [c1]; rfl
    · rw [e3]
      exact congrArg (fun e : EReal => e * wd (ix2 p k)) (pay4_apply g x r k)
  have hu := Ideal.matmul_plain_apply (φ₁ := .bf16) (φ₂ := .bf16) (M := 128) (K := 128) (N := 1024) none
    (matmul dot_S128x4096_S128x4096_S128x128_1_1_0_0_n_n none (k0_pay4 (F := Ideal) g x) (k0_pay3 (F := Ideal) wd)
      (constant S128x128 .f32 0x00000000#32)) wu (constant S128x1024 .f32 0x00000000#32) r n
  rw [c2, zero_add] at hu
  unfold k0_pay5 logit
  dsimp only
  rw [eu]
  refine congrArg₂ (fun a b : EReal => a + b) (hu.trans (Finset.sum_congr rfl fun p _ => ?_)) eb
  exact congrArg (fun e : EReal => e * wu (ix2 p n)) (hd p)

/-- The band's decays. -/
def decays (g : Vec Ideal S1x4096 .f32) (wd : Vec Ideal S128x4096 .f32) (x : Vec Ideal S128x4096 .f32) (wu : Vec Ideal S128x1024 .bf16)
    (b : Vec Ideal S1x1024 .f32) : FVec Ideal S128x1024 .f32 :=
  k0_pay9 (F := Ideal) (k0_pay6 g wd x wu b) (k0_pay7 g wd x wu b) k0_pay8

theorem decays_apply (g : Vec Ideal S1x4096 .f32) (wd : Vec Ideal S128x4096 .f32) (x : Vec Ideal S128x4096 .f32) (wu : Vec Ideal S128x1024 .bf16)
    (b : Vec Ideal S1x1024 .f32) (r : Fin 128) (n : Fin 1024) :
    decays g wd x wu b (ix2 r n)
      = decay (logit (fun k => x (ix2 r k)) (fun k => g (ix2 0 k)) (fun p k => wd (ix2 p k)) (fun p n => wu (ix2 p n)) (fun n => b (ix2 0 n)) n) := by
  rw [← pay5_apply g wd x wu b r n]
  show max (Ideal.div (min (k0_pay5 (F := Ideal) g wd x wu b (ix2 r n)) (Ideal.ofBits .f32 0x00000000#32)
    - Ideal.log (Ideal.ofBits .f32 0x3F800000#32 + Ideal.exp (Ideal.ofBits .f32 0x00000000#32
      - max (k0_pay5 (F := Ideal) g wd x wu b (ix2 r n)) (-(k0_pay5 (F := Ideal) g wd x wu b (ix2 r n)))))) (Ideal.ofBits .f32 0x41800000#32))
    (Ideal.ofBits .f32 0xBF800000#32) = _
  unfold decay logSig
  rw [Ideal.ofBits_zero_f32, Ideal.ofBits_one_f32, zero_sub]

/-! ## A chunk of 64 rows -/

/-- The running sum of a chunk of 64 rows, from row `o` of its band on: the product of the lower triangle of ones with the
    decays in three parts. -/
def chunk (o : Nat) (hs : S128x1024.Slices ![o, 0] S64x1024) (la : FVec Ideal S128x1024 .f32) : FVec Ideal S64x1024 .f32 :=
  have hi : FVec Ideal S128x1024 .bf16 := truncf .bf16 la bitsLt_bf16_f32
  have r1 : FVec Ideal S128x1024 .f32 := subf la (extf .f32 hi bitsLt_bf16_f32)
  have mid : FVec Ideal S128x1024 .bf16 := truncf .bf16 r1 bitsLt_bf16_f32
  have lo : FVec Ideal S128x1024 .bf16 := truncf .bf16 (subf r1 (extf .f32 mid bitsLt_bf16_f32)) bitsLt_bf16_f32
  mulf (addf (addf
    (matmul dot_S64x64_S64x1024_S64x1024_1_0_0_1_n_n none k0_pay1 (extractStridedSlice S64x1024 ![o, 0] hi hs) (constant S64x1024 .f32 0x00000000#32))
    (matmul dot_S64x64_S64x1024_S64x1024_1_0_0_1_n_n none k0_pay1 (extractStridedSlice S64x1024 ![o, 0] mid hs) (constant S64x1024 .f32 0x00000000#32)))
    (matmul dot_S64x64_S64x1024_S64x1024_1_0_0_1_n_n none k0_pay1 (extractStridedSlice S64x1024 ![o, 0] lo hs) (constant S64x1024 .f32 0x00000000#32)))
    (broadcast S64x1024 (Scalar.ofBits .f32 0x3FB8AA3B#32))

/-- The lower triangle of ones. -/
theorem tril_apply : ∀ j q : Fin 64, (k0_pay1 (F := Ideal) (ix2 j q) : EReal) = if q.val ≤ j.val then 1 else 0 := by
  intro j q
  have h : ∀ j q : Fin 64, ((cmpi .sle (iota .tc S64x64 32 [1] iota_S64x64_d1_w32) (iota .tc S64x64 32 [0] iota_S64x64_d0_w32) (ix2 j q)).setWidth 32).toInt
      = if q.val ≤ j.val then 1 else 0 := by decide +kernel
  show (((((cmpi .sle (iota .tc S64x64 32 [1] iota_S64x64_d1_w32) (iota .tc S64x64 32 [0] iota_S64x64_d0_w32) (ix2 j q)).setWidth 32).toInt : ℝ)) : EReal) = _
  rw [h j q]
  split <;> simp

/-- A product with the triangle, at an index. -/
theorem trilDot_apply (o : Nat) (hs : S128x1024.Slices ![o, 0] S64x1024) (ho : o + 64 ≤ 128) (v : FVec Ideal S128x1024 .bf16) (j : Fin 64) (n : Fin 1024) :
    matmul dot_S64x64_S64x1024_S64x1024_1_0_0_1_n_n none (k0_pay1 (F := Ideal)) (extractStridedSlice S64x1024 ![o, 0] v hs)
      (constant S64x1024 .f32 0x00000000#32) (ix2 j n)
      = ∑ q : Fin 64, if q.val ≤ j.val then (v (ix2 ⟨o + q.val, by have := q.isLt; omega⟩ n) : EReal) else 0 := by
  have h0 : (constant S64x1024 .f32 0x00000000#32 : FVec Ideal S64x1024 .f32) (ix2 j n) = (0 : EReal) := Ideal.ofBits_zero_f32
  have h := Ideal.matmul_plain_apply (φ₁ := .bf16) (φ₂ := .bf16) (M := 64) (K := 64) (N := 1024) none (k0_pay1 (F := Ideal))
    (extractStridedSlice S64x1024 ![o, 0] v hs) (constant S64x1024 .f32 0x00000000#32) j n
  rw [h0, zero_add] at h
  refine h.trans ((Finset.sum_congr rfl fun q _ => congrArg (fun e : EReal => _ * e) ?_).trans
    (tril_sum (fun q => k0_pay1 (F := Ideal) (ix2 j q)) j (tril_apply j) (fun q => v (ix2 ⟨o + q.val, by have := q.isLt; omega⟩ n))))
  exact extractStridedSlice_apply _ v hs (ix2 q n) _ (fun a => match a with
    | ⟨0, _⟩ => rfl
    | ⟨1, _⟩ => by show n.val = 0 + n.val; omega)

/-- Where the decays less themselves are zero, a chunk is the running sum of the decays: the other two parts are zero. -/
theorem chunk_apply (o : Nat) (hs : S128x1024.Slices ![o, 0] S64x1024) (ho : o + 64 ≤ 128) (la : FVec Ideal S128x1024 .f32)
    (hla : ∀ i, (la i : EReal) - la i = 0) (j : Fin 64) (n : Fin 1024) :
    chunk o hs la (ix2 j n)
      = (∑ q : Fin 64, if q.val ≤ j.val then (la (ix2 ⟨o + q.val, by have := q.isLt; omega⟩ n) : EReal) else 0)
        * Ideal.ofBits .f32 0x3FB8AA3B#32 := by
  have e1 : (subf la (extf .f32 (truncf .bf16 la bitsLt_bf16_f32) bitsLt_bf16_f32) : FVec Ideal S128x1024 .f32) = fun _ => (0 : EReal) :=
    funext fun i => hla i
  have e2 : (truncf .bf16 (fun _ => (0 : EReal) : FVec Ideal S128x1024 .f32) bitsLt_bf16_f32 : FVec Ideal S128x1024 .bf16) = fun _ => (0 : EReal) := rfl
  have e3 : (subf (fun _ => (0 : EReal)) (extf .f32 (fun _ => (0 : EReal) : FVec Ideal S128x1024 .bf16) bitsLt_bf16_f32) : FVec Ideal S128x1024 .f32)
      = fun _ => (0 : EReal) := funext fun i => sub_zero (0 : EReal)
  have hz : matmul dot_S64x64_S64x1024_S64x1024_1_0_0_1_n_n none (k0_pay1 (F := Ideal))
      (extractStridedSlice S64x1024 ![o, 0] (fun _ => (0 : EReal) : FVec Ideal S128x1024 .bf16) hs)
      (constant S64x1024 .f32 0x00000000#32) (ix2 j n) = (0 : EReal) :=
    (trilDot_apply o hs ho _ j n).trans (Finset.sum_eq_zero fun q _ => ite_self _)
  unfold chunk
  rw [e1, e2, e3, e2]
  refine congrArg (fun e : EReal => e * Ideal.ofBits .f32 0x3FB8AA3B#32) ?_
  refine (congrArg₂ (fun a b : EReal => a + b) (congrArg₂ (fun a b : EReal => a + b) (trilDot_apply o hs ho _ j n) hz) hz).trans ?_
  rw [add_zero, add_zero]
  rfl

end Cert.Kernel6Ideal.NormDecay

end
-- ==== Proof.NormDecayClaims.lean ====
/-
  The normalisation and the decays, continued: from the bands to the blocks a point writes, from the blocks to the two
  arrays, and the reference's two arrays.
-/
module

public import proofs.«01_k».proof.Proof.NormDecay

@[expose] public section

set_option maxRecDepth 16384

noncomputable section

namespace Cert.Kernel6Ideal.NormDecay

open Cert.Kernel6Ideal Cert.Kernel6Ideal.Gen Idealize.ShloMosaic Idealize.ShloMosaic.TcCoe Idealize.SL.Sem
open Idealize.ShloMosaic.ValueIdx Cert.DecayMath
open Idealize.ShloMosaic.Pipeline (Dat)

/-! ## The blocks a point writes -/

/-- The normalised block. -/
def outH (x : Vec Ideal S512x4096 .f32) (g : Vec Ideal S1x4096 .f32) : Vec Ideal S512x4096 .bf16 :=
  fun i => hrow (fun k => x (ix2 (i 0) k)) (fun k => g (ix2 0 k)) (i 1)

/-- The row of a block that is row `q` of the chunk `i` lies in. -/
abbrev chunkRow (i : S512x1024.Idx) (q : Fin 64) : Fin 512 :=
  ⟨(i 0).val / 64 * 64 + q.val, by have : (i 0).val < 512 := (i 0).isLt; have := q.isLt; omega⟩

/-- The block of running sums. -/
def outB (x : Vec Ideal S512x4096 .f32) (g : Vec Ideal S1x4096 .f32) (wd : Vec Ideal S128x4096 .f32) (wu : Vec Ideal S128x1024 .bf16)
    (b : Vec Ideal S1x1024 .f32) : Vec Ideal S512x1024 .f32 :=
  fun i => cum (fun q k => x (ix2 (chunkRow i q) k)) (fun k => g (ix2 0 k)) (fun p k => wd (ix2 p k)) (fun p n => wu (ix2 p n))
    (fun n => b (ix2 0 n)) ⟨(i 0).val % 64, Nat.mod_lt _ (by decide)⟩ (i 1)

/-- A band of 128 rows from row `o` on, at a row. -/
theorem ld_apply (x : Vec Ideal S512x4096 .f32) (o : Nat) (hx : ∀ a, (![o, 0] : Fin 2 → Nat) a + S128x4096.size a ≤ S512x4096.size a)
    (r : Fin 128) (k : Fin 4096) (R : Fin 512) (hR : R.val = o + r.val) :
    View.ld x (Rect.unit ![o, 0] S128x4096.size hx) (ix2 r k : S128x4096.Idx) = x (ix2 R k) :=
  View.ld_unit_apply_of x _ _ hx _ _ (fun a => match a with
    | ⟨0, _⟩ => by show R.val = o + r.val; exact hR
    | ⟨1, _⟩ => by show k.val = 0 + k.val; omega)

/-- A normalised band is the block's band there. -/
theorem hband_apply (x : Vec Ideal S512x4096 .f32) (g : Vec Ideal S1x4096 .f32) (o : Nat)
    (hx : ∀ a, (![o, 0] : Fin 2 → Nat) a + S128x4096.size a ≤ S512x4096.size a)
    (y : (Rect.unit (s := S512x4096) ![o, 0] S128x4096.size hx).shape.Idx) :
    k0_pay4 (F := Ideal) g (View.ld x (Rect.unit ![o, 0] S128x4096.size hx)) y
      = outH x g ((Rect.unit (s := S512x4096) ![o, 0] S128x4096.size hx).emb y) := by
  have ho : o + 128 ≤ 512 := hx 0
  obtain ⟨r, n, rfl⟩ : ∃ (r : Fin 128) (n : Fin 4096), y = (ix2 r n : S128x4096.Idx) := ⟨y 0, y 1, eq_ix2 (n0 := 128) (n1 := 4096) y⟩
  have hr := r.isLt
  have he : (Rect.unit (s := S512x4096) ![o, 0] S128x4096.size hx).emb (ix2 r n : S128x4096.Idx)
      = (ix2 ⟨o + r.val, by omega⟩ n : S512x4096.Idx) := funext fun a => Fin.ext (match a with
    | ⟨0, _⟩ => by show o + 1 * r.val = o + r.val; omega
    | ⟨1, _⟩ => by show 0 + 1 * n.val = n.val; omega)
  rw [he]
  refine (pay4_apply _ _ r n).trans ?_
  exact congrArg (fun f : Fin 4096 → EReal => hrow f _ n) (funext fun k => ld_apply x o hx r k _ rfl)

/-- A chunk of a band is the block's chunk there. -/
theorem cband_apply (x : Vec Ideal S512x4096 .f32) (g : Vec Ideal S1x4096 .f32) (wd : Vec Ideal S128x4096 .f32) (wu : Vec Ideal S128x1024 .bf16)
    (b : Vec Ideal S1x1024 .f32) (o d e : Nat) (he : e = o + d) (h64 : e % 64 = 0) (hd : d + 64 ≤ 128)
    (hx : ∀ a, (![o, 0] : Fin 2 → Nat) a + S128x4096.size a ≤ S512x4096.size a) (hs : S128x1024.Slices ![d, 0] S64x1024)
    (hb : ∀ a, (![e, 0] : Fin 2 → Nat) a + S64x1024.size a ≤ S512x1024.size a)
    (y : (Rect.unit (s := S512x1024) ![e, 0] S64x1024.size hb).shape.Idx) :
    chunk d hs (decays g wd (View.ld x (Rect.unit ![o, 0] S128x4096.size hx)) wu b) y
      = outB x g wd wu b ((Rect.unit (s := S512x1024) ![e, 0] S64x1024.size hb).emb y) := by
  have ho : e + 64 ≤ 512 := hb 0
  obtain ⟨j, n, rfl⟩ : ∃ (j : Fin 64) (n : Fin 1024), y = (ix2 j n : S64x1024.Idx) := ⟨y 0, y 1, eq_ix2 (n0 := 64) (n1 := 1024) y⟩
  have hj := j.isLt
  have hem : (Rect.unit (s := S512x1024) ![e, 0] S64x1024.size hb).emb (ix2 j n : S64x1024.Idx)
      = (ix2 ⟨e + j.val, by omega⟩ n : S512x1024.Idx) := funext fun a => Fin.ext (match a with
    | ⟨0, _⟩ => by show e + 1 * j.val = e + j.val; omega
    | ⟨1, _⟩ => by show 0 + 1 * n.val = n.val; omega)
  rw [hem]
  refine (chunk_apply d hs hd _ (fun i => ?_) j n).trans ?_
  · obtain ⟨r, m, rfl⟩ : ∃ (r : Fin 128) (m : Fin 1024), i = ix2 r m := ⟨i 0, i 1, eq_ix2 i⟩
    rw [decays_apply]
    exact decay_sub _
  · have hjm : (⟨(e + j.val) % 64, Nat.mod_lt _ (by decide)⟩ : Fin 64) = j := Fin.ext (by show (e + j.val) % 64 = j.val; omega)
    show _ = cum _ _ _ _ _ (⟨(e + j.val) % 64, Nat.mod_lt _ (by decide)⟩ : Fin 64) n
    rw [hjm]
    unfold cum
    refine congrArg (fun s : EReal => s * Ideal.ofBits .f32 0x3FB8AA3B#32) (Finset.sum_congr rfl fun q _ => ?_)
    refine congrArg (fun s : EReal => if q.val ≤ j.val then s else 0) ((decays_apply g wd _ wu b _ n).trans ?_)
    refine congrArg (fun f : Fin 4096 → EReal => decay (logit f _ _ _ _ n)) (funext fun k => ld_apply x o hx _ k _ ?_)
    show (e + j.val) / 64 * 64 + q.val = o + (d + q.val)
    omega

theorem out5_eq (x : Vec Ideal S512x4096 .f32) (g : Vec Ideal S1x4096 .f32) (wd : Vec Ideal S128x4096 .f32) (wu : Vec Ideal S128x1024 .bf16)
    (b : Vec Ideal S1x1024 .f32) : out0_5 (F := Ideal) x g wd wu b = outH x g := by
  funext y
  unfold_out out0_5
  simp only [View.ld_unit_zero (S := S1x4096) hz2]
  refine View.canon_apply_of_pieces (outH x g) _ ?_ y (cover0_5 _ _ _ _ y)
  intro p hp
  rcases List.mem_cons.mp hp with rfl | hp
  · exact hband_apply x g 384 inb_S512x4096_S128x4096_384_0
  rcases List.mem_cons.mp hp with rfl | hp
  · exact hband_apply x g 256 inb_S512x4096_S128x4096_256_0
  rcases List.mem_cons.mp hp with rfl | hp
  · exact hband_apply x g 128 inb_S512x4096_S128x4096_128_0
  rcases List.mem_cons.mp hp with rfl | hp
  · exact hband_apply x g 0 inb_S512x4096_S128x4096_0_0
  · exact absurd hp List.not_mem_nil

theorem out6_eq (x : Vec Ideal S512x4096 .f32) (g : Vec Ideal S1x4096 .f32) (wd : Vec Ideal S128x4096 .f32) (wu : Vec Ideal S128x1024 .bf16)
    (b : Vec Ideal S1x1024 .f32) : out0_6 (F := Ideal) x g wd wu b = outB x g wd wu b := by
  funext y
  unfold_out out0_6
  simp only [View.ld_unit_zero (S := S1x4096) hz2, View.ld_unit_zero (S := S128x4096) hz2, View.ld_unit_zero (S := S128x1024) hz2,
    View.ld_unit_zero (S := S1x1024) hz2]
  refine View.canon_apply_of_pieces (outB x g wd wu b) _ ?_ y (cover0_6 _ _ _ _ _ _ _ _ y)
  intro p hp
  rcases List.mem_cons.mp hp with rfl | hp
  · exact cband_apply x g wd wu b 384 64 448 rfl rfl (by decide) inb_S512x4096_S128x4096_384_0 slices_S128x1024_o64_0_S64x1024 inb_S512x1024_S64x1024_448_0
  rcases List.mem_cons.mp hp with rfl | hp
  · exact cband_apply x g wd wu b 384 0 384 rfl rfl (by decide) inb_S512x4096_S128x4096_384_0 slices_S128x1024_o0_0_S64x1024 inb_S512x1024_S64x1024_384_0
  rcases List.mem_cons.mp hp with rfl | hp
  · exact cband_apply x g wd wu b 256 64 320 rfl rfl (by decide) inb_S512x4096_S128x4096_256_0 slices_S128x1024_o64_0_S64x1024 inb_S512x1024_S64x1024_320_0
  rcases List.mem_cons.mp hp with rfl | hp
  · exact cband_apply x g wd wu b 256 0 256 rfl rfl (by decide) inb_S512x4096_S128x4096_256_0 slices_S128x1024_o0_0_S64x1024 inb_S512x1024_S64x1024_256_0
  rcases List.mem_cons.mp hp with rfl | hp
  · exact cband_apply x g wd wu b 128 64 192 rfl rfl (by decide) inb_S512x4096_S128x4096_128_0 slices_S128x1024_o64_0_S64x1024 inb_S512x1024_S64x1024_192_0
  rcases List.mem_cons.mp hp with rfl | hp
  · exact cband_apply x g wd wu b 128 0 128 rfl rfl (by decide) inb_S512x4096_S128x4096_128_0 slices_S128x1024_o0_0_S64x1024 inb_S512x1024_S64x1024_128_0
  rcases List.mem_cons.mp hp with rfl | hp
  · exact cband_apply x g wd wu b 0 64 64 rfl rfl (by decide) inb_S512x4096_S128x4096_0_0 slices_S128x1024_o64_0_S64x1024 inb_S512x1024_S64x1024_64_0
  rcases List.mem_cons.mp hp with rfl | hp
  · exact cband_apply x g wd wu b 0 0 0 rfl rfl (by decide) inb_S512x4096_S128x4096_0_0 slices_S128x1024_o0_0_S64x1024 inb_S512x1024_S64x1024_0_0
  · exact absurd hp List.not_mem_nil

/-! ## The whole arrays -/

/-- The rows normalised. -/
def normAll (x : Vec Ideal S16384x4096 .f32) (g : Vec Ideal S1x4096 .f32) : Vec Ideal S16384x4096 .bf16 :=
  fun i => hrow (fun k => x (ix2 (i 0) k)) (fun k => g (ix2 0 k)) (i 1)

/-- The row that is row `q` of the chunk row `r` lies in. -/
abbrev rowOf (r : Fin 16384) (q : Fin 64) : Fin 16384 :=
  ⟨r.val / 64 * 64 + q.val, by have := r.isLt; have := q.isLt; omega⟩

/-- The running sums of all chunks. -/
def cumAll (x : Vec Ideal S16384x4096 .f32) (g : Vec Ideal S1x4096 .f32) (wd : Vec Ideal S128x4096 .f32) (wu : Vec Ideal S128x1024 .bf16)
    (b : Vec Ideal S1x1024 .f32) : Vec Ideal S16384x1024 .f32 :=
  fun i => cum (fun q k => x (ix2 (rowOf (i 0) q) k)) (fun k => g (ix2 0 k)) (fun p k => wd (ix2 p k)) (fun p n => wu (ix2 p n))
    (fun n => b (ix2 0 n)) ⟨(i 0).val % 64, Nat.mod_lt _ (by decide)⟩ (i 1)

/-- Where each window's block lies at every point. -/
theorem facts_idx : ∀ t : Fin cfg0.N,
    (win0_0.index t 0 = t.val ∧ win0_0.index t 1 = 0) ∧ (win0_1.index t 0 = 0 ∧ win0_1.index t 1 = 0)
    ∧ (win0_2.index t 0 = 0 ∧ win0_2.index t 1 = 0) ∧ (win0_3.index t 0 = 0 ∧ win0_3.index t 1 = 0)
    ∧ (win0_4.index t 0 = 0 ∧ win0_4.index t 1 = 0) ∧ (win0_5.index t 0 = t.val ∧ win0_5.index t 1 = 0)
    ∧ (win0_6.index t 0 = t.val ∧ win0_6.index t 1 = 0) :=
  (by decide +kernel : ∀ t : Fin grid0.N,
    (win0_0.index t 0 = t.val ∧ win0_0.index t 1 = 0) ∧ (win0_1.index t 0 = 0 ∧ win0_1.index t 1 = 0)
    ∧ (win0_2.index t 0 = 0 ∧ win0_2.index t 1 = 0) ∧ (win0_3.index t 0 = 0 ∧ win0_3.index t 1 = 0)
    ∧ (win0_4.index t 0 = 0 ∧ win0_4.index t 1 = 0) ∧ (win0_5.index t 0 = t.val ∧ win0_5.index t 1 = 0)
    ∧ (win0_6.index t 0 = t.val ∧ win0_6.index t 1 = 0))

variable (m : (ℓ : Loc nD τ sig) → Buf (Elt Ideal) ℓ)

theorem iblk0_apply (c : Dev nD) (t : Fin cfg0.N) (r : Fin 512) (k : Fin 4096) (R : Fin 16384) (h0 : R.val = t.val * 512 + r.val) :
    iblk m c 0 t (ix2 r k) = V m c main_arg0 (ix2 R k) := by
  obtain ⟨⟨e0, e1⟩, -⟩ := facts_idx t
  refine congrArg (V m c main_arg0) (funext fun a => Fin.ext ?_)
  match a with
  | ⟨0, _⟩ => show win0_0.index t 0 * 512 + 1 * r.val = R.val; rw [e0, h0]; omega
  | ⟨1, _⟩ => show win0_0.index t 1 * 4096 + 1 * k.val = k.val; rw [e1]; omega

theorem iblk1_eq (c : Dev nD) (t : Fin cfg0.N) : iblk m c 1 t = V m c main_v10 := by
  obtain ⟨-, ⟨e0, e1⟩, -⟩ := facts_idx t
  refine funext fun y => congrArg (V m c main_v10) (funext fun a => Fin.ext ?_)
  match a with
  | ⟨0, _⟩ => show win0_1.index t 0 * 1 + 1 * (y 0).val = (y 0).val; rw [e0]; omega
  | ⟨1, _⟩ => show win0_1.index t 1 * 4096 + 1 * (y 1).val = (y 1).val; rw [e1]; omega

theorem iblk2_eq (c : Dev nD) (t : Fin cfg0.N) : iblk m c 2 t = V m c main_v3 := by
  obtain ⟨-, -, ⟨e0, e1⟩, -⟩ := facts_idx t
  refine funext fun y => congrArg (V m c main_v3) (funext fun a => Fin.ext ?_)
  match a with
  | ⟨0, _⟩ => show win0_2.index t 0 * 128 + 1 * (y 0).val = (y 0).val; rw [e0]; omega
  | ⟨1, _⟩ => show win0_2.index t 1 * 4096 + 1 * (y 1).val = (y 1).val; rw [e1]; omega

theorem iblk3_eq (c : Dev nD) (t : Fin cfg0.N) : iblk m c 3 t = V m c main_v7 := by
  obtain ⟨-, -, -, ⟨e0, e1⟩, -⟩ := facts_idx t
  refine funext fun y => congrArg (V m c main_v7) (funext fun a => Fin.ext ?_)
  match a with
  | ⟨0, _⟩ => show win0_3.index t 0 * 128 + 1 * (y 0).val = (y 0).val; rw [e0]; omega
  | ⟨1, _⟩ => show win0_3.index t 1 * 1024 + 1 * (y 1).val = (y 1).val; rw [e1]; omega

theorem iblk4_eq (c : Dev nD) (t : Fin cfg0.N) : iblk m c 4 t = V m c main_v13 := by
  obtain ⟨-, -, -, -, ⟨e0, e1⟩, -⟩ := facts_idx t
  refine funext fun y => congrArg (V m c main_v13) (funext fun a => Fin.ext ?_)
  match a with
  | ⟨0, _⟩ => show win0_4.index t 0 * 1 + 1 * (y 0).val = (y 0).val; rw [e0]; omega
  | ⟨1, _⟩ => show win0_4.index t 1 * 1024 + 1 * (y 1).val = (y 1).val; rw [e1]; omega

abbrev normV (c : Dev nD) : Vec Ideal S16384x4096 .bf16 := normAll (V m c main_arg0) (V m c main_v10)
abbrev cumV (c : Dev nD) : Vec Ideal S16384x1024 .f32 :=
  cumAll (V m c main_arg0) (V m c main_v10) (V m c main_v3) (V m c main_v7) (V m c main_v13)

theorem flushed5_eq (c : Dev nD) (t : Fin cfg0.N) (hf : (cfg0.win 5).flush t = true) :
    (dats m 0 c).flushed 5 t = ((cfg0.win 5).blk t).view.read (Elt Ideal) (normV m c) := by
  rw [Value.flushed5, out5_eq, iblk1_eq]
  obtain ⟨-, -, -, -, -, ⟨h5, h6⟩, -⟩ := facts_idx t
  have hN : t.val < 32 := N_eq ▸ t.isLt
  funext y
  obtain ⟨r, n, rfl⟩ : ∃ (r : Fin 512) (n : Fin 4096), y = ix2 r n := ⟨y 0, y 1, eq_ix2 y⟩
  have hr := r.isLt
  have he : ((cfg0.win 5).blk t).view.emb (ix2 r n) = (ix2 ⟨t.val * 512 + r.val, by omega⟩ n : S16384x4096.Idx) :=
    funext fun a => Fin.ext (match a with
    | ⟨0, _⟩ => by show win0_5.index t 0 * 512 + 1 * r.val = t.val * 512 + r.val; rw [h5]; omega
    | ⟨1, _⟩ => by show win0_5.index t 1 * 4096 + 1 * n.val = n.val; rw [h6]; omega)
  refine Eq.trans ?_ (congrArg (normV m c) he.symm)
  show hrow (fun k => iblk m c 0 t (ix2 r k)) (fun k => V m c main_v10 (ix2 0 k)) n = hrow _ _ n
  exact congrArg (fun f : Fin 4096 → EReal => hrow f _ n) (funext fun k => iblk0_apply m c t r k _ rfl)

theorem flushed6_eq (c : Dev nD) (t : Fin cfg0.N) (hf : (cfg0.win 6).flush t = true) :
    (dats m 0 c).flushed 6 t = ((cfg0.win 6).blk t).view.read (Elt Ideal) (cumV m c) := by
  rw [Value.flushed6, out6_eq, iblk1_eq, iblk2_eq, iblk3_eq, iblk4_eq]
  obtain ⟨-, -, -, -, -, -, h5, h6⟩ := facts_idx t
  have hN : t.val < 32 := N_eq ▸ t.isLt
  funext y
  obtain ⟨r, n, rfl⟩ : ∃ (r : Fin 512) (n : Fin 1024), y = ix2 r n := ⟨y 0, y 1, eq_ix2 y⟩
  have hr := r.isLt
  have he : ((cfg0.win 6).blk t).view.emb (ix2 r n) = (ix2 ⟨t.val * 512 + r.val, by omega⟩ n : S16384x1024.Idx) :=
    funext fun a => Fin.ext (match a with
    | ⟨0, _⟩ => by show win0_6.index t 0 * 512 + 1 * r.val = t.val * 512 + r.val; rw [h5]; omega
    | ⟨1, _⟩ => by show win0_6.index t 1 * 1024 + 1 * n.val = n.val; rw [h6]; omega)
  refine Eq.trans ?_ (congrArg (cumV m c) he.symm)
  have hm : (⟨r.val % 64, Nat.mod_lt _ (by decide)⟩ : Fin 64) = ⟨(t.val * 512 + r.val) % 64, Nat.mod_lt _ (by decide)⟩ :=
    Fin.ext (by show r.val % 64 = (t.val * 512 + r.val) % 64; omega)
  show cum (fun q k => iblk m c 0 t (ix2 (chunkRow (ix2 r n) q) k)) _ _ _ _ (⟨r.val % 64, Nat.mod_lt _ (by decide)⟩ : Fin 64) n
    = cum _ _ _ _ _ (⟨(t.val * 512 + r.val) % 64, Nat.mod_lt _ (by decide)⟩ : Fin 64) n
  rw [hm]
  refine congrArg (fun f : Fin 64 → Fin 4096 → EReal => cum f _ _ _ _ _ n) (funext fun q => funext fun k => iblk0_apply m c t _ k _ ?_)
  show (t.val * 512 + r.val) / 64 * 64 + q.val = t.val * 512 + (r.val / 64 * 64 + q.val)
  omega

theorem final5 (c : Dev nD) : (dats m 0 c).arrAt 5 cfg0.N = normV m c :=
  (dats m 0 c).arrAt_eq_of_cover 5 _ (flushed5_eq m c) fun i => by
    have hi0 : (i 0 : Nat) < 16384 := (i 0).isLt
    have hi1 : (i 1 : Nat) < 4096 := (i 1).isLt
    have hN := N_eq
    refine ⟨⟨(i 0 : Nat) / 512, by omega⟩, flush0_5 _, ?_⟩
    generalize ht : (⟨(i 0 : Nat) / 512, _⟩ : Fin cfg0.N) = t
    have hv : t.val = (i 0 : Nat) / 512 := by rw [← ht]
    obtain ⟨-, -, -, -, -, ⟨h5, h6⟩, -⟩ := facts_idx t
    show i ∈ ((View.whole main_v14_0).slice (win0_5.rect t)).set
    rw [View.set_slice_whole, Rect.mem_set_unit]
    intro a
    match a with
    | ⟨0, _⟩ =>
      show win0_5.index t 0 * 512 ≤ (i 0 : Nat) ∧ (i 0 : Nat) < win0_5.index t 0 * 512 + 512
      rw [h5, hv]; omega
    | ⟨1, _⟩ =>
      show win0_5.index t 1 * 4096 ≤ (i 1 : Nat) ∧ (i 1 : Nat) < win0_5.index t 1 * 4096 + 4096
      rw [h6]; omega

theorem final6 (c : Dev nD) : (dats m 0 c).arrAt 6 cfg0.N = cumV m c :=
  (dats m 0 c).arrAt_eq_of_cover 6 _ (flushed6_eq m c) fun i => by
    have hi0 : (i 0 : Nat) < 16384 := (i 0).isLt
    have hi1 : (i 1 : Nat) < 1024 := (i 1).isLt
    have hN := N_eq
    refine ⟨⟨(i 0 : Nat) / 512, by omega⟩, flush0_6 _, ?_⟩
    generalize ht : (⟨(i 0 : Nat) / 512, _⟩ : Fin cfg0.N) = t
    have hv : t.val = (i 0 : Nat) / 512 := by rw [← ht]
    obtain ⟨-, -, -, -, -, -, h5, h6⟩ := facts_idx t
    show i ∈ ((View.whole main_v14_1).slice (win0_6.rect t)).set
    rw [View.set_slice_whole, Rect.mem_set_unit]
    intro a
    match a with
    | ⟨0, _⟩ =>
      show win0_6.index t 0 * 512 ≤ (i 0 : Nat) ∧ (i 0 : Nat) < win0_6.index t 0 * 512 + 512
      rw [h5, hv]; omega
    | ⟨1, _⟩ =>
      show win0_6.index t 1 * 1024 ≤ (i 1 : Nat) ∧ (i 1 : Nat) < win0_6.index t 1 * 1024 + 1024
      rw [h6]; omega

/-! ## The arrays the region finds -/

/-- The gain: the layer's row. -/
theorem V_v10 (c : Dev nD) (n : Fin 4096) : V m c main_v10 (ix2 0 n) = m ((c : Thread nD τ).loc main_arg1) (ix2 2 n) := by
  have h : V m c main_v10 = broadcastInDim S1x4096 ![1] bcast_S4096_S1x4096_1 (shapeCast S4096 (extractStridedSlice S1x4096 ![2, 0]
      (m ((c : Thread nD τ).loc main_arg1)) slices_S4x4096_S1x4096_2_0) shapeCasts_S1x4096_S4096) := by
    unfold V; after_results; rfl
  rw [h]
  refine (broadcastInDim_apply _ bcast_S4096_S1x4096_1 _ (ix2 0 n) (ix1 n) (fun a => match a with
    | ⟨0, _⟩ => by show n.val = if (4096 : Nat) = 1 then 0 else n.val; rw [if_neg (by decide)])).trans ?_
  refine (shapeCast_apply _ shapeCasts_S1x4096_S4096 (ix1 n) (ix2 0 n) (by
    rw [Shape.rowMajor_val_two, Shape.rowMajor_val_one]; show 0 * 4096 + n.val = n.val; omega)).trans ?_
  exact extractStridedSlice_apply ![2, 0] _ slices_S4x4096_S1x4096_2_0 _ (ix2 2 n) (fun a => match a with
    | ⟨0, _⟩ => rfl
    | ⟨1, _⟩ => by show n.val = 0 + n.val; omega)

/-- The logits' bias: the layer's row. -/
theorem V_v13 (c : Dev nD) (n : Fin 1024) : V m c main_v13 (ix2 0 n) = m ((c : Thread nD τ).loc main_arg4) (ix2 2 n) := by
  have h : V m c main_v13 = broadcastInDim S1x1024 ![1] bcast_S1024_S1x1024_1 (shapeCast S1024 (extractStridedSlice S1x1024 ![2, 0]
      (m ((c : Thread nD τ).loc main_arg4)) slices_S4x1024_S1x1024_2_0) shapeCasts_S1x1024_S1024) := by
    unfold V; after_results; rfl
  rw [h]
  refine (broadcastInDim_apply _ bcast_S1024_S1x1024_1 _ (ix2 0 n) (ix1 n) (fun a => match a with
    | ⟨0, _⟩ => by show n.val = if (1024 : Nat) = 1 then 0 else n.val; rw [if_neg (by decide)])).trans ?_
  refine (shapeCast_apply _ shapeCasts_S1x1024_S1024 (ix1 n) (ix2 0 n) (by
    rw [Shape.rowMajor_val_two, Shape.rowMajor_val_one]; show 0 * 1024 + n.val = n.val; omega)).trans ?_
  exact extractStridedSlice_apply ![2, 0] _ slices_S4x1024_S1x1024_2_0 _ (ix2 2 n) (fun a => match a with
    | ⟨0, _⟩ => rfl
    | ⟨1, _⟩ => by show n.val = 0 + n.val; omega)

/-- The narrow projection's rows, of the weights transposed. -/
theorem V_v3 (c : Dev nD) (p : Fin 16) (k : Fin 4096) :
    V m c main_v3 (ix2 ⟨p.val, by have := p.isLt; omega⟩ k)
      = m ((c : Thread nD τ).loc main_arg2) (ix3 2 k ⟨6144 + p.val, by have := p.isLt; omega⟩) := by
  have h : V m c main_v3 = pad S128x4096 ![0, 0] ![112, 0] ![0, 0] (shapeCast S16x4096 (extractStridedSlice S1x16x4096 ![2, 6144, 0]
      (transpose S4x19472x4096 [0, 2, 1] (m ((c : Thread nD τ).loc main_arg2)) transposes_S4x4096x19472_S4x19472x4096_0_2_1)
      slices_S4x19472x4096_S1x16x4096_2_6144_0) shapeCasts_S1x16x4096_S16x4096) (sitofp (F := Ideal) .f32 (constantI S_ 32 0#32))
      pads_S16x4096_S128x4096_01120_000 h_S_ := by
    unfold V hostOps0 hostOps0_1 hostOps0_2 hostOps0_3 hostOps0_4
    simp only [List.flatten_cons, List.flatten_nil, List.append_nil, List.cons_append, List.nil_append, StableHlo.TRef.binary,
      StableHlo.TRef.unary, StableHlo.TRef.toBuf, StableHlo.TRef.ofBuf, cast_eq]
    after_results_simp <;> rfl
  rw [h]
  refine (pad_apply_of_inside ![0, 0] ![112, 0] ![0, 0] _ _ pads_S16x4096_S128x4096_01120_000 h_S_ _ (ix2 p k) (fun a => match a with
    | ⟨0, _⟩ => by show p.val = 0 + p.val * (0 + 1); omega
    | ⟨1, _⟩ => by show k.val = 0 + k.val * (0 + 1); omega)).trans ?_
  refine (shapeCast_apply _ shapeCasts_S1x16x4096_S16x4096 (ix2 p k) (ix3 0 p k) (by
    rw [Shape.rowMajor_val_two, Shape.rowMajor_val_three]; show (0 * 16 + p.val) * 4096 + k.val = p.val * 4096 + k.val; omega)).trans ?_
  refine (extractStridedSlice_apply ![2, 6144, 0] _ slices_S4x19472x4096_S1x16x4096_2_6144_0 _
    (ix3 2 ⟨6144 + p.val, by have := p.isLt; omega⟩ k) (fun a => match a with
    | ⟨0, _⟩ => rfl
    | ⟨1, _⟩ => rfl
    | ⟨2, _⟩ => by show k.val = 0 + k.val; omega)).trans ?_
  exact transpose_apply [0, 2, 1] _ transposes_S4x4096x19472_S4x19472x4096_0_2_1 _ _ (fun a => match a with
    | ⟨0, _⟩ => rfl | ⟨1, _⟩ => rfl | ⟨2, _⟩ => rfl)

theorem V_v7_eq (c : Dev nD) : V m c main_v7 = truncf .bf16 (pad S128x1024 ![0, 0] ![112, 0] ![0, 0] (shapeCast S16x1024
      (extractStridedSlice S1x16x1024 ![2, 0, 0] (m ((c : Thread nD τ).loc main_arg3)) slices_S4x16x1024_S1x16x1024_2_0_0)
      shapeCasts_S1x16x1024_S16x1024) (sitofp (F := Ideal) .f32 (constantI S_ 32 0#32)) pads_S16x1024_S128x1024_01120_000 h_S_)
      bitsLt_bf16_f32 := by
  unfold V hostOps0 hostOps0_1 hostOps0_2 hostOps0_3 hostOps0_4
  simp only [List.flatten_cons, List.flatten_nil, List.append_nil, List.cons_append, List.nil_append, StableHlo.TRef.binary,
    StableHlo.TRef.unary, StableHlo.TRef.toBuf, StableHlo.TRef.ofBuf, cast_eq]
  after_results_simp <;> rfl

/-- The widening projection's rows. -/
theorem V_v7 (c : Dev nD) (p : Fin 16) (n : Fin 1024) :
    V m c main_v7 (ix2 ⟨p.val, by have := p.isLt; omega⟩ n) = m ((c : Thread nD τ).loc main_arg3) (ix3 2 p n) := by
  rw [V_v7_eq]
  refine (pad_apply_of_inside ![0, 0] ![112, 0] ![0, 0] _ _ pads_S16x1024_S128x1024_01120_000 h_S_ _ (ix2 p n) (fun a => match a with
    | ⟨0, _⟩ => by show p.val = 0 + p.val * (0 + 1); omega
    | ⟨1, _⟩ => by show n.val = 0 + n.val * (0 + 1); omega)).trans ?_
  refine (shapeCast_apply _ shapeCasts_S1x16x1024_S16x1024 (ix2 p n) (ix3 0 p n) (by
    rw [Shape.rowMajor_val_two, Shape.rowMajor_val_three]; show (0 * 16 + p.val) * 1024 + n.val = p.val * 1024 + n.val; omega)).trans ?_
  exact extractStridedSlice_apply ![2, 0, 0] _ slices_S4x16x1024_S1x16x1024_2_0_0 _ (ix3 2 p n) (fun a => match a with
    | ⟨0, _⟩ => rfl
    | ⟨1, _⟩ => by show p.val = 0 + p.val; omega
    | ⟨2, _⟩ => by show n.val = 0 + n.val; omega)

/-- Its rows from the sixteenth on are zero. -/
theorem V_v7_zero (c : Dev nD) (p : Fin 128) (hp : 16 ≤ p.val) (n : Fin 1024) : V m c main_v7 (ix2 p n) = (0 : EReal) := by
  rw [V_v7_eq]
  refine (pad_apply_of_not_inside (s := S16x1024) (t := S128x1024) ![0, 0] ![112, 0] ![0, 0] _ _ pads_S16x1024_S128x1024_01120_000 h_S_ (ix2 p n)
    (0 : Fin 2) (fun h => by
      have h2 : (p.val - 0) / (0 + 1) < 16 := h.2.2
      omega)).trans ?_
  show (((0#32 : BitVec 32).toInt : ℝ) : EReal) = 0
  simp

/-! ## The reference -/

/-- The logit, where the widening projection's rows past the sixteenth are zero: a sum over sixteen. -/
theorem logit_pad (x g : Fin 4096 → EReal) (wd : Fin 128 → Fin 4096 → EReal) (wu : Fin 128 → Fin 1024 → EReal) (b : Fin 1024 → EReal)
    (n : Fin 1024) (hz : ∀ p : Fin 128, 16 ≤ p.val → wu p n = 0) :
    logit x g wd wu b n = (∑ p : Fin 16, (∑ k : Fin 4096, hrow x g k * wd ⟨p.val, by have := p.isLt; omega⟩ k)
      * wu ⟨p.val, by have := p.isLt; omega⟩ n) + b n := by
  unfold logit
  refine congrArg (fun s : EReal => s + b n) ?_
  refine (Fin.sum_univ_add (a := 16) (b := 112) (fun p : Fin 128 => (∑ k : Fin 4096, hrow x g k * wd p k) * wu p n)).trans ?_
  have h0 : (∑ p : Fin 112, (∑ k : Fin 4096, hrow x g k * wd (Fin.natAdd 16 p) k) * wu (Fin.natAdd 16 p) n) = 0 :=
    Finset.sum_eq_zero fun p _ => by rw [hz (Fin.natAdd 16 p) (Nat.le_add_right 16 p.val), mul_zero]
  exact (congrArg (fun s : EReal => _ + s) h0).trans (add_zero _)

open Cert.Reference6Ideal.Read in
/-- The reference's normalised rows, before the cast. -/
theorem ref_norm (x : Vec Ideal S16384x4096 .f32) (gs : Vec Ideal S4x4096 .f32) (r : Fin 16384) (n : Fin 4096) :
    val_main_v14 (F := Ideal) x gs (ix2 r n) = hrow (fun k => x (ix2 r k)) (fun k => gs (ix2 2 k)) n := by
  have h1 : ∀ k, idx_main_v1 (idx_main_v2 (idx_main_v8 (ix2 r n))) k = ix2 r k :=
    fun k => funext fun a => match a with | ⟨0, _⟩ => rfl | ⟨1, _⟩ => rfl
  have h2 : idx_main_v10 (idx_main_v11 (idx_main_v12 (idx_main_v13 (ix2 r n)))) = ix2 2 n := funext fun a => match a with
    | ⟨0, _⟩ => rfl
    | ⟨1, _⟩ => Fin.ext (by show n.val % 4096 = n.val; exact Nat.mod_eq_of_lt n.isLt)
  have hz : (val_main_cst (F := Ideal)) (Shape.Idx.first Cert.Reference6Ideal.Gen.h_S_) = (0 : EReal) := Ideal.ofBits_zero_f32
  have hs : val_main_v1 (F := Ideal) x (idx_main_v2 (idx_main_v8 (ix2 r n)))
      = ∑ k : Fin 4096, (x (ix2 r k) * x (ix2 r k) : EReal) := by
    rw [val_main_v1_apply, hz, zero_add]
    refine Finset.sum_congr rfl fun k _ => ?_
    rw [val_main_v0_apply, h1]
    rfl
  rw [val_main_v14_apply, val_main_v9_apply, val_main_v8_apply, val_main_v7_apply, val_main_v6_apply, val_main_v4_apply,
    val_main_v2_apply, val_main_v3_apply, val_main_cst_0_apply, val_main_v5_apply, val_main_cst_1_apply, val_main_v13_apply,
    val_main_v12_apply, val_main_v11_apply, val_main_v10_apply, hs, h2]
  rfl

open Cert.Reference6Ideal.Read in
/-- The reference's logits. -/
theorem ref_logit (x : Vec Ideal S16384x4096 .f32) (gs : Vec Ideal S4x4096 .f32) (w : Vec Ideal S4x4096x19472 .f32)
    (u : Vec Ideal S4x16x1024 .f32) (b : Vec Ideal S4x1024 .f32) (r : Fin 16384) (n : Fin 1024) :
    val_main_v25 (F := Ideal) x gs w u b (ix2 r n)
      = (∑ p : Fin 16, (∑ k : Fin 4096, hrow (fun k => x (ix2 r k)) (fun k => gs (ix2 2 k)) k
          * w (ix3 2 k ⟨6144 + p.val, by have := p.isLt; omega⟩)) * u (ix3 2 p n)) + b (ix2 2 n) := by
  have hn := n.isLt
  have hb : val_main_v24 (F := Ideal) b (ix2 r n) = b (ix2 2 n) := by
    rw [val_main_v24_apply, val_main_v23_apply, val_main_v22_apply, val_main_v21_apply]
    exact congrArg b (funext fun a => match a with
      | ⟨0, _⟩ => rfl
      | ⟨1, _⟩ => Fin.ext (by show n.val % 1024 = n.val; omega))
  have hu : ∀ p : Fin 16, val_main_v19 (F := Ideal) u (ix2 p n) = u (ix3 2 p n) := fun p => by
    have hp := p.isLt
    rw [val_main_v19_apply, val_main_v18_apply]
    exact congrArg u (funext fun a => match a with
      | ⟨0, _⟩ => rfl
      | ⟨1, _⟩ => Fin.ext (by show (p.val * 1024 + n.val) / 1024 % 16 = p.val; omega)
      | ⟨2, _⟩ => Fin.ext (by show (p.val * 1024 + n.val) % 1024 = n.val; omega))
  have hw : ∀ (k : Fin 4096) (p : Fin 16), val_main_v16 (F := Ideal) w (ix2 k p) = w (ix3 2 k ⟨6144 + p.val, by have := p.isLt; omega⟩) :=
    fun k p => by
      have hp := p.isLt
      have hk := k.isLt
      rw [val_main_v16_apply, val_main_v15_apply]
      exact congrArg w (funext fun a => match a with
        | ⟨0, _⟩ => rfl
        | ⟨1, _⟩ => Fin.ext (by show (k.val * 16 + p.val) / 16 % 4096 = k.val; omega)
        | ⟨2, _⟩ => Fin.ext (by show 6144 + (k.val * 16 + p.val) % 16 = 6144 + p.val; omega))
  have hd : ∀ p : Fin 16, val_main_v17 (F := Ideal) x gs w (ix2 r p)
      = ∑ k : Fin 4096, hrow (fun k => x (ix2 r k)) (fun k => gs (ix2 2 k)) k * w (ix3 2 k ⟨6144 + p.val, by have := p.isLt; omega⟩) := by
    intro p
    rw [val_main_v17_apply]
    refine Finset.sum_congr rfl fun k _ => ?_
    have hl : lidx_main_v17 (ix2 r p) k = ix2 r k := funext fun a => match a with | ⟨0, _⟩ => rfl | ⟨1, _⟩ => rfl
    have hr : ridx_main_v17 (ix2 r p) k = ix2 k p := funext fun a => match a with | ⟨0, _⟩ => rfl | ⟨1, _⟩ => rfl
    rw [hl, hr]
    exact congrArg₂ (fun a b : EReal => a * b) (ref_norm x gs r k) (hw k p)
  rw [val_main_v25_apply, val_main_v20_apply]
  refine congrArg₂ (fun a b : EReal => a + b) (Finset.sum_congr rfl fun p _ => ?_) hb
  have hl : lidx_main_v20 (ix2 r n) p = ix2 r p := funext fun a => match a with | ⟨0, _⟩ => rfl | ⟨1, _⟩ => rfl
  have hr : ridx_main_v20 (ix2 r n) p = ix2 p n := funext fun a => match a with | ⟨0, _⟩ => rfl | ⟨1, _⟩ => rfl
  rw [hl, hr]
  exact congrArg₂ (fun a b : EReal => a * b) (hd p) (hu p)

open Cert.Reference6Ideal.Read in
/-- The reference's decays, from its logits. -/
theorem ref_decay (x : Vec Ideal S16384x4096 .f32) (gs : Vec Ideal S4x4096 .f32) (w : Vec Ideal S4x4096x19472 .f32)
    (u : Vec Ideal S4x16x1024 .f32) (b : Vec Ideal S4x1024 .f32) (i : S16384x1024.Idx) :
    val_main_v30 (F := Ideal) x gs w u b i = decay (val_main_v25 (F := Ideal) x gs w u b i) := by
  have hsel : val_main_call0_v1 (F := Ideal) x gs w u b i = val_main_call0_call0_v11 (F := Ideal) x gs w u b i := by
    rw [val_main_call0_v1_apply, val_main_call0_call0_v4_apply]
    have hc : (FloatOps.cmpf (F := Ideal) (φ := .f32) .une (val_main_call0_call0_v3 (F := Ideal) x gs w u b i)
        (val_main_call0_call0_v3 (F := Ideal) x gs w u b i)) = 0#1 := by
      show BitVec.ofBool (decide (_ ≠ _)) = 0#1
      simp
    rw [hc]
    rfl
  rw [val_main_v30_apply, val_main_v29_apply, val_main_cst_3_apply, val_main_v28_apply, val_main_v27_apply, val_main_cst_2_apply,
    val_main_v26_apply, hsel, val_main_call0_call0_v11_apply, val_main_call0_call0_v1_apply, val_main_call0_call0_v0_apply,
    val_main_call0_call0_v10_apply, val_main_call0_call0_v9_apply, val_main_call0_call0_v8_apply, val_main_call0_call0_v7_apply,
    val_main_call0_call0_v3_apply, val_main_call0_call0_v2_apply, val_main_call0_call0_cst_apply, val_main_call0_v0_apply]
  generalize val_main_v25 (F := Ideal) x gs w u b i = e
  show max (Ideal.div (-(max (-e) (Ideal.ofBits .f32 0x00000000#32) + Ideal.log (1 + Ideal.exp (-(max (-e - Ideal.ofBits .f32 0x00000000#32)
    (-(-e - Ideal.ofBits .f32 0x00000000#32))))))) (Ideal.ofBits .f32 0x41800000#32)) (Ideal.ofBits .f32 0xBF800000#32) = _
  rw [Ideal.ofBits_zero_f32, sub_zero, logSig_softplus]
  rfl

open Cert.Reference6Ideal.Read in
/-- The reference's running sums. -/
theorem ref_cumsum (x : Vec Ideal S16384x4096 .f32) (gs : Vec Ideal S4x4096 .f32) (w : Vec Ideal S4x4096x19472 .f32)
    (u : Vec Ideal S4x16x1024 .f32) (b : Vec Ideal S4x1024 .f32) (r : Fin 16384) (n : Fin 1024) :
    val_main_v36 (F := Ideal) x gs w u b (ix2 r n)
      = (∑ q : Fin 64, if q.val ≤ r.val % 64 then decay (val_main_v25 (F := Ideal) x gs w u b (ix2 (rowOf r q) n)) else 0)
        * Ideal.ofBits .f32 0x3FB8AA3B#32 := by
  have hr := r.isLt
  have hn := n.isLt
  have hz : (val_main_call1_call0_v0 (F := Ideal)) (Shape.Idx.first Cert.Reference6Ideal.Gen.h_S_) = (0 : EReal) := by
    rw [val_main_call1_call0_v0_apply]
    exact Ideal.ofBits_zero_f32
  have hi : idx_main_v33 (ix2 r n) = ix3 (⟨r.val / 64, by omega⟩ : Fin 256) (⟨r.val % 64, by omega⟩ : Fin 64) n := funext fun a => match a with
    | ⟨0, _⟩ => Fin.ext (by show (r.val * 1024 + n.val) / 65536 = r.val / 64; omega)
    | ⟨1, _⟩ => Fin.ext (by show (r.val * 1024 + n.val) / 1024 % 64 = r.val % 64; omega)
    | ⟨2, _⟩ => Fin.ext (by show (r.val * 1024 + n.val) % 1024 = n.val; omega)
  have hc : val_main_v32 (F := Ideal) x gs w u b (ix3 (⟨r.val / 64, by omega⟩ : Fin 256) (⟨r.val % 64, by omega⟩ : Fin 64) n)
      = ∑ q : Fin 64, if q.val ≤ r.val % 64 then decay (val_main_v25 (F := Ideal) x gs w u b (ix2 (rowOf r q) n)) else 0 := by
    have h := cumsum_apply (val_main_v31 (F := Ideal) x gs w u b)
      Cert.Reference6Ideal.Gen.reduceWindows_S256x64x1024_S256x64x1024_w1s1p0_0_w64s1p63_0_w1s1p0_0
      (⟨r.val / 64, by omega⟩ : Fin 256) (⟨r.val % 64, by omega⟩ : Fin 64) n
    rw [← hz] at h
    refine (Eq.trans ?_ h).trans (Finset.sum_congr rfl fun q _ => ?_)
    · rfl
    · have hq := q.isLt
      rw [hz]
      refine congrArg (fun s : EReal => if q.val ≤ r.val % 64 then s else 0) ?_
      rw [val_main_v31_apply, ref_decay]
      refine congrArg (fun i => decay (val_main_v25 (F := Ideal) x gs w u b i)) (funext fun a => match a with
        | ⟨0, _⟩ => Fin.ext (by show ((r.val / 64 * 64 + q.val) * 1024 + n.val) / 1024 = r.val / 64 * 64 + q.val; omega)
        | ⟨1, _⟩ => Fin.ext (by show ((r.val / 64 * 64 + q.val) * 1024 + n.val) % 1024 = n.val; omega))
  rw [val_main_v36_apply, val_main_v35_apply, val_main_cst_4_apply, val_main_v33_apply, hi]
  exact congrArg (fun s : EReal => s * Ideal.ofBits .f32 0x3FB8AA3B#32) hc

open Cert.Reference6Ideal.Read in
/-- The reference computes the same normalised rows. -/
theorem ref5_eq (x : Vec Ideal S16384x4096 .f32) (gs : Vec Ideal S4x4096 .f32) (g : Vec Ideal S1x4096 .f32)
    (hg : ∀ n, g (ix2 0 n) = gs (ix2 2 n)) : val_main_v34 (F := Ideal) x gs = normAll x g := by
  funext i
  obtain ⟨r, n, rfl⟩ : ∃ (r : Fin 16384) (n : Fin 4096), i = ix2 r n := ⟨i 0, i 1, eq_ix2 i⟩
  refine (ref_norm x gs r n).trans ?_
  exact congrArg (fun f : Fin 4096 → EReal => hrow _ f n) (funext fun k => (hg k).symm)

open Cert.Reference6Ideal.Read in
/-- The reference computes the same running sums. -/
theorem ref6_eq (x : Vec Ideal S16384x4096 .f32) (gs : Vec Ideal S4x4096 .f32) (w : Vec Ideal S4x4096x19472 .f32)
    (u : Vec Ideal S4x16x1024 .f32) (b : Vec Ideal S4x1024 .f32) (g : Vec Ideal S1x4096 .f32) (wd : Vec Ideal S128x4096 .f32)
    (wu : Vec Ideal S128x1024 .bf16) (b' : Vec Ideal S1x1024 .f32) (hg : ∀ n, g (ix2 0 n) = gs (ix2 2 n))
    (hd : ∀ (p : Fin 16) (k : Fin 4096), wd (ix2 ⟨p.val, by have := p.isLt; omega⟩ k) = w (ix3 2 k ⟨6144 + p.val, by have := p.isLt; omega⟩))
    (hu : ∀ (p : Fin 16) (n : Fin 1024), (wu (ix2 ⟨p.val, by have := p.isLt; omega⟩ n) : EReal) = u (ix3 2 p n))
    (hz : ∀ (p : Fin 128), 16 ≤ p.val → ∀ n : Fin 1024, wu (ix2 p n) = (0 : EReal)) (hb : ∀ n, b' (ix2 0 n) = b (ix2 2 n)) :
    val_main_v36 (F := Ideal) x gs w u b = cumAll x g wd wu b' := by
  funext i
  obtain ⟨r, n, rfl⟩ : ∃ (r : Fin 16384) (n : Fin 1024), i = ix2 r n := ⟨i 0, i 1, eq_ix2 i⟩
  refine (ref_cumsum x gs w u b r n).trans ?_
  show _ = cum _ _ _ _ _ (⟨r.val % 64, Nat.mod_lt _ (by decide)⟩ : Fin 64) n
  unfold cum
  refine congrArg (fun s : EReal => s * Ideal.ofBits .f32 0x3FB8AA3B#32) (Finset.sum_congr rfl fun q _ => ?_)
  refine congrArg (fun s : EReal => if q.val ≤ r.val % 64 then decay s else 0) ?_
  refine (ref_logit x gs w u b (rowOf r q) n).trans ((logit_pad _ _ _ _ _ n (fun p hp => hz p hp n)).trans ?_).symm
  refine congrArg₂ (fun a b : EReal => a + b) (Finset.sum_congr rfl fun p _ => ?_) (hb n)
  refine congrArg₂ (fun a b : EReal => a * b) (Finset.sum_congr rfl fun k _ => ?_) (hu p n)
  exact congrArg₂ (fun a b : EReal => a * b) (congrArg (fun f : Fin 4096 → EReal => hrow _ f k) (funext fun k => hg k)) (hd p k)

end Cert.Kernel6Ideal.NormDecay

namespace Cert.Proof.NormDecay

open Idealize.ShloMosaic Idealize.SL.Sem

theorem frame_R : Cert.quiescent_Reference6Ideal (hReference6Ideal := Cert.Reference6Ideal.Gen.facts) := by
  intro m ρ _
  exact (θ_run Cert.Reference6Ideal.defs _ _).mono (fun r h => ⟨fun c => (h c).2.2, sem_eq_zero_of_no_sems (by decide) r.2⟩)
    (Cert.Reference6Ideal.Value.run (F := Ideal) m ρ)

theorem algebraic : Cert.algebraic_Kernel6Ideal_Reference6Ideal (hKernel6Ideal := Cert.Kernel6Ideal.Gen.facts)
    (hReference6Ideal := Cert.Reference6Ideal.Gen.facts) := by
  intro m g m' g' _ hagree
  refine ⟨fun c => Cert.Kernel6Ideal.NormDecay.normV m c, fun c => Cert.Kernel6Ideal.NormDecay.cumV m c,
    (θ_run _ _ _).mono (fun r h c => ⟨(h c).1.trans (Cert.Kernel6Ideal.NormDecay.final5 m c),
      (h c).2.1.trans (Cert.Kernel6Ideal.NormDecay.final6 m c), (h c).2.2⟩) (Cert.Kernel6Ideal.Value.run_blocks (F := Ideal) m g),
    (θ_run _ _ _).mono (fun r h c => ⟨(h c).1.trans ?_, (h c).2.1.trans ?_, (h c).2.2⟩) (Cert.Reference6Ideal.Value.run (F := Ideal) m' g')⟩
  · obtain ⟨a0, a1, a2, a3, a4⟩ := hagree c
    clear h
    beta_reduce
    rw [Cert.Reference6Ideal.Read.val_main_v34_eq, a0, a1, Cert.Kernel6Ideal.NormDecay.normV, Cert.Kernel6Ideal.Gen.V_main_arg0]
    exact Cert.Kernel6Ideal.NormDecay.ref5_eq _ _ _ (Cert.Kernel6Ideal.NormDecay.V_v10 m c)
  · obtain ⟨a0, a1, a2, a3, a4⟩ := hagree c
    clear h
    beta_reduce
    rw [Cert.Reference6Ideal.Read.val_main_v36_eq, a0, a1, a2, a3, a4, Cert.Kernel6Ideal.NormDecay.cumV, Cert.Kernel6Ideal.Gen.V_main_arg0]
    exact Cert.Kernel6Ideal.NormDecay.ref6_eq _ _ _ _ _ _ _ _ _ (Cert.Kernel6Ideal.NormDecay.V_v10 m c)
      (Cert.Kernel6Ideal.NormDecay.V_v3 m c) (Cert.Kernel6Ideal.NormDecay.V_v7 m c) (Cert.Kernel6Ideal.NormDecay.V_v7_zero m c)
      (Cert.Kernel6Ideal.NormDecay.V_v13 m c)

end Cert.Proof.NormDecay

end
-- ==== Proof.GlaMath.lean ====
/-
  The chunked gated linear attention over the extended reals: what one chunk of 64 positions gives and how it carries the
  state of a head, the states of all chunks, and the laws of the exponential that the kernel's way of writing the decays uses.
-/
module

public import Idealize.ShloMosaic.Lib.ValueIdx
public import Idealize.ShloMosaic.PureOps.Ideal
public import Idealize.ShloMosaic.Lib.IdealHost
public import Mathlib.Analysis.SpecialFunctions.Pow.Real

@[expose] public section

noncomputable section

namespace Cert.Gla

open Idealize.ShloMosaic

/-! ## The exponential -/

/-- Two to the power `x log2 e` is `e` to the power `x`, at the infinities too. -/
theorem exp2_log2e (x : EReal) : Ideal.exp2 (x * (((Real.log 2)⁻¹ : ℝ) : EReal)) = Ideal.exp x := by
  have hp : (0 : ℝ) < (Real.log 2)⁻¹ := inv_pos.mpr (Real.log_pos (by norm_num))
  induction x using EReal.rec with
  | bot => rw [EReal.bot_mul_coe_of_pos hp]; rfl
  | top => rw [EReal.top_mul_coe_of_pos hp]; rfl
  | coe r =>
    rw [← EReal.coe_mul]
    show ((Real.rpow 2 (r * (Real.log 2)⁻¹) : ℝ) : EReal) = ((Real.exp r : ℝ) : EReal)
    have h : Real.rpow 2 (r * (Real.log 2)⁻¹) = Real.exp r := by
      show (2 : ℝ) ^ (r * (Real.log 2)⁻¹) = Real.exp r
      rw [Real.rpow_def_of_pos (by norm_num)]
      congr 1
      have : Real.log 2 ≠ 0 := (Real.log_pos (by norm_num)).ne'
      field_simp
    rw [h]

theorem exp2_neg_log2e (x : EReal) : Ideal.exp2 (0 - x * (((Real.log 2)⁻¹ : ℝ) : EReal)) = Ideal.exp (-x) := by
  rw [zero_sub, ← EReal.neg_mul, exp2_log2e]

/-- The exponential of a sum, at the infinities too. -/
theorem exp_add (a b : EReal) : Ideal.exp a * Ideal.exp b = Ideal.exp (a + b) := by
  induction a using EReal.rec with
  | bot => rw [EReal.bot_add]; show (0 : EReal) * _ = 0; rw [zero_mul]
  | top =>
    induction b using EReal.rec with
    | bot => rw [EReal.add_bot]; show (⊤ : EReal) * 0 = 0; rw [mul_zero]
    | top => rfl
    | coe r => exact EReal.top_mul_coe_of_pos (Real.exp_pos r)
  | coe s =>
    induction b using EReal.rec with
    | bot => rw [EReal.add_bot]; show _ * (0 : EReal) = 0; rw [mul_zero]
    | top => exact EReal.coe_mul_top_of_pos (Real.exp_pos s)
    | coe r =>
      rw [← EReal.coe_add]
      show ((Real.exp s : ℝ) : EReal) * ((Real.exp r : ℝ) : EReal) = ((Real.exp (s + r) : ℝ) : EReal)
      rw [← EReal.coe_mul, Real.exp_add]

theorem mul_exp_sub (x a m : EReal) : x * Ideal.exp a * Ideal.exp (-m) = x * Ideal.exp (a - m) := by
  rw [mul_assoc, exp_add, sub_eq_add_neg]

theorem mul_exp_sub' (x a m : EReal) : x * Ideal.exp (-a) * Ideal.exp m = x * Ideal.exp (m - a) := by
  rw [mul_assoc, exp_add, sub_eq_add_neg, add_comm]

/-! ## One chunk of a head -/

/-- The scale of the queries: the f32 value of 128^(-1/2). -/
abbrev scale : EReal := Ideal.ofBits .f32 0x3DB504F3#32

abbrev Keys := Fin 64 → Fin 128 → EReal
abbrev Vals := Fin 64 → Fin 256 → EReal
abbrev State := Fin 128 → Fin 256 → EReal

/-- What the positions of the chunk up to `c` give position `c`. -/
def intra (q k b : Keys) (v : Vals) : Vals := fun c e =>
  ∑ j : Fin 64, (if j.val ≤ c.val then ∑ d : Fin 128, (q c d * scale * Ideal.exp (b c d - b 32 d)) * (k j d * Ideal.exp (b 32 d - b j d)) else 0)
    * v j e

/-- What the state before the chunk gives position `c`. -/
def inter (q b : Keys) (S : State) : Vals := fun c e => ∑ d : Fin 128, (q c d * scale * Ideal.exp (b c d)) * S d e

/-- The state after the chunk. -/
def next (k b : Keys) (v : Vals) (S : State) : State := fun d e =>
  Ideal.exp (b 63 d) * S d e + ∑ c : Fin 64, (k c d * Ideal.exp (b 63 d - b c d)) * v c e

/-- A row normalised, times the gain and the gate. -/
def normed (o g : Vals) (gain : Fin 256 → EReal) : Vals := fun c e =>
  o c e * Ideal.rsqrt (Ideal.div (∑ e' : Fin 256, o c e' * o c e') (Ideal.ofBits .f32 0x43800000#32) + Ideal.ofBits .f32 0x358637BD#32) * gain e
    * (g c e * Ideal.logistic (g c e))

/-- One head's rows of a chunk. -/
def chunkOut (q k b : Keys) (v g : Vals) (gain : Fin 256 → EReal) (S : State) : Vals :=
  normed (fun c e => intra q k b v c e + inter q b S c e) g gain

/-! ## All chunks -/

/-- The state of a head before each of the 256 chunks; a sequence is 64 chunks and begins with zeros. -/
def before (k b : ℕ → Keys) (v : ℕ → Vals) : ℕ → State
  | 0 => fun _ _ => 0
  | n + 1 => if (n + 1) % 64 = 0 then fun _ _ => 0 else next (k n) (b n) (v n) (before k b v n)

theorem before_start (k b : ℕ → Keys) (v : ℕ → Vals) (n : ℕ) (h : n % 64 = 0) : before k b v n = fun _ _ => 0 := by
  cases n with
  | zero => rfl
  | succ n => rw [before, if_pos h]

theorem before_succ (k b : ℕ → Keys) (v : ℕ → Vals) (n : ℕ) (h : (n + 1) % 64 ≠ 0) :
    before k b v (n + 1) = next (k n) (b n) (v n) (before k b v n) := by
  rw [before, if_neg h]

/-- Row `64 n + c` of the flattened sequences. -/
def rowI (n : ℕ) (c : Fin 64) : Fin 16384 := ⟨(64 * n + c.val) % 16384, Nat.mod_lt _ (by norm_num)⟩

theorem rowI_val (n : ℕ) (c : Fin 64) (h : n < 256) : (rowI n c).val = 64 * n + c.val := by
  have := c.isLt
  exact Nat.mod_eq_of_lt (by omega)

open Idealize.ShloMosaic.ValueIdx

abbrev Proj := (⟨2, ![16384, 19456]⟩ : Shape).Idx → EReal
abbrev Sums := (⟨2, ![16384, 1024]⟩ : Shape).Idx → EReal

/-- Sums given chunk by chunk, as rows. -/
def flat (x : (⟨3, ![256, 64, 1024]⟩ : Shape).Idx → EReal) : Sums := fun i =>
  x (ix3 ⟨(i 0).val / 64, by have : (i 0).val < 16384 := (i 0).isLt; omega⟩ ⟨(i 0).val % 64, Nat.mod_lt _ (by norm_num)⟩ ⟨(i 1).val, (i 1).isLt⟩)

theorem flat_apply (x : (⟨3, ![256, 64, 1024]⟩ : Shape).Idx → EReal) (n : ℕ) (hn : n < 256) (r : Fin 64) (k : Fin 1024) :
    flat x (ix2 (rowI n r) k) = x (ix3 ⟨n, hn⟩ r k) := by
  have hr := r.isLt
  have hv := rowI_val n r hn
  have a1 : (⟨(rowI n r).val / 64, by have := (rowI n r).isLt; omega⟩ : Fin 256) = ⟨n, hn⟩ :=
    Fin.ext (by show (rowI n r).val / 64 = n; omega)
  have a2 : (⟨(rowI n r).val % 64, Nat.mod_lt _ (by norm_num)⟩ : Fin 64) = r := Fin.ext (by show (rowI n r).val % 64 = r.val; omega)
  show x (ix3 ⟨(rowI n r).val / 64, _⟩ ⟨(rowI n r).val % 64, _⟩ k) = _
  rw [a1, a2]

/-- The queries, keys, values and gates of a head in a chunk, columns of the packed projection. -/
def qOf (z : Proj) (h : Fin 8) (n : ℕ) : Keys := fun c d => z (ix2 (rowI n c) ⟨128 * h.val + d.val, by omega⟩)
def kOf (z : Proj) (h : Fin 8) (n : ℕ) : Keys := fun c d => z (ix2 (rowI n c) ⟨1024 + (128 * h.val + d.val), by omega⟩)
def vOf (z : Proj) (h : Fin 8) (n : ℕ) : Vals := fun c e => z (ix2 (rowI n c) ⟨2048 + (256 * h.val + e.val), by omega⟩)
def gOf (z : Proj) (h : Fin 8) (n : ℕ) : Vals := fun c e => z (ix2 (rowI n c) ⟨4096 + (256 * h.val + e.val), by omega⟩)
/-- The running sums of the log decays of a head in a chunk. -/
def bOf (s : Sums) (h : Fin 8) (n : ℕ) : Keys := fun c d => s (ix2 (rowI n c) ⟨128 * h.val + d.val, by omega⟩)

def stateOf (z : Proj) (s : Sums) (h : Fin 8) (n : ℕ) : State := before (kOf z h) (bOf s h) (vOf z h) n

def outOf (z : Proj) (s : Sums) (gain : Fin 256 → EReal) (h : Fin 8) (n : ℕ) : Vals :=
  chunkOut (qOf z h n) (kOf z h n) (bOf s h n) (vOf z h n) (gOf z h n) gain (stateOf z s h n)

/-- The whole result. -/
def glaAll (z : Proj) (s : Sums) (gain : Fin 256 → EReal) : (⟨2, ![16384, 2048]⟩ : Shape).Idx → EReal := fun i =>
  outOf z s gain ⟨(i 1).val / 256, by have : (i 1).val < 2048 := (i 1).isLt; omega⟩ ((i 0).val / 64)
    ⟨(i 0).val % 64, Nat.mod_lt _ (by norm_num)⟩ ⟨(i 1).val % 256, Nat.mod_lt _ (by norm_num)⟩

theorem glaAll_apply (z : Proj) (s : Sums) (gain : Fin 256 → EReal) (h : Fin 8) (n : ℕ) (c : Fin 64) (e : Fin 256)
    (i : (⟨2, ![16384, 2048]⟩ : Shape).Idx) (h0 : (i 0).val = 64 * n + c.val) (h1 : (i 1).val = 256 * h.val + e.val) :
    glaAll z s gain i = outOf z s gain h n c e := by
  have hc := c.isLt
  have he := e.isLt
  have a1 : (i 0).val / 64 = n := by omega
  have a2 : (⟨(i 0).val % 64, Nat.mod_lt _ (by norm_num)⟩ : Fin 64) = c := Fin.ext (by show (i 0).val % 64 = c.val; omega)
  have a3 : (⟨(i 1).val % 256, Nat.mod_lt _ (by norm_num)⟩ : Fin 256) = e := Fin.ext (by show (i 1).val % 256 = e.val; omega)
  have a4 : (⟨(i 1).val / 256, by have : (i 1).val < 2048 := (i 1).isLt; omega⟩ : Fin 8) = h :=
    Fin.ext (by show (i 1).val / 256 = h.val; omega)
  show outOf z s gain _ _ _ _ = _
  rw [a1, a2, a3, a4]

end Cert.Gla

end
-- ==== Proof.GlaStep.lean ====
/-
  One chunk of one head in the kernel: the rows it stores and the state it leaves, read at an index.
-/
module

public import proofs.«01_k».proof.Proof.GlaMath
public import proofs.«01_k».proof.Proof.Gen.Kernel7Ideal.Skeleton
public import Idealize.ShloMosaic.Lib.ValueIdx
public import Idealize.ShloMosaic.Lib.MatmulPlain
public import Idealize.ShloMosaic.Lib.Pointwise.Contract
public import Idealize.ShloMosaic.Lib.Pipeline.Value

@[expose] public section

set_option maxRecDepth 16384

noncomputable section

namespace Cert.Kernel7Ideal.Gla

open Cert.Kernel7Ideal Cert.Kernel7Ideal.Gen Cert.Gla Idealize.ShloMosaic.TcCoe Idealize.SL.Sem
open Idealize.ShloMosaic hiding ix1 ix2 ix3
open Idealize.ShloMosaic.ValueIdx

section
variable {F : FTy → Type} [FloatOps F] [Named F]

/-- The state a head's chunk leaves. -/
def stepS (v : Vec F S64x256 .bf16) (k : Vec F S64x128 .bf16) (b : Vec F S64x128 .f32) (st : Vec F S1x256x128 .f32) :
    Vec F S1x256x128 .f32 :=
  k0_pay17 v (k0_pay7 b) (k0_pay13 k b) st

/-- The rows a head's chunk stores. -/
def stepO (q k : Vec F S64x128 .bf16) (v g : Vec F S64x256 .bf16) (b : Vec F S64x128 .f32) (gain : Vec F S1x256 .f32)
    (st : Vec F S1x256x128 .f32) : Vec F S64x256 .bf16 :=
  k0_pay1 (k0_pay4 gain) (k0_pay16 (k0_pay12 q b) st)
    (matmul (φ₂ := .bf16) dot_S64x64_S64x256_S64x256_1_0_0_1_n_n none (k0_pay14 k0_pay3 (k0_pay10 q b) (k0_pay11 k b)) v
      (constant S64x256 .f32 0x00000000#32)) g

end

abbrev fn {R C : Nat} (x : (⟨2, ![R, C]⟩ : Shape).Idx → EReal) : Fin R → Fin C → EReal := fun r c => x (ix2 r c)
/-- A head's state as the kernel holds it, transposed, read as the mathematics does. -/
abbrev fnS (st : Vec Ideal S1x256x128 .f32) : State := fun d e => st (ix3 0 e d)

theorem log2e_val : (Named.named (F := Ideal) (φ := .f32) κ "log2e" 0x3FB8AA3B#32 : EReal) = (((Real.log 2)⁻¹ : ℝ) : EReal) :=
  IdealRules.named_const.ideal_named_scalar _ _ _ _ rfl

theorem zero_val : (Scalar.ofBits (F := Ideal) .f32 0x00000000#32 : EReal) = 0 := Ideal.ofBits_zero_f32

section
variable (q k : Vec Ideal S64x128 .bf16) (v g : Vec Ideal S64x256 .bf16) (b : Vec Ideal S64x128 .f32) (gain : Vec Ideal S1x256 .f32)
  (st : Vec Ideal S1x256x128 .f32)

theorem bcRow {R C : Nat} {α : Type} (x : (⟨2, ![1, C]⟩ : Shape).Idx → α) (h) (r : Fin R) (c : Fin C) :
    broadcastTo (s := ⟨2, ![1, C]⟩) ⟨2, ![R, C]⟩ x h (ix2 r c) = x (ix2 0 c) := by
  refine broadcastTo_apply x h _ _ fun a => ?_
  match a with
  | ⟨0, _⟩ => exact (if_pos rfl).symm
  | ⟨1, _⟩ =>
    show c.val = if C = 1 then 0 else c.val
    split <;> omega

theorem pay5_apply (c : Fin 64) (d : Fin 128) :
    k0_pay5 (F := Ideal) b (ix2 c d) = (b (ix2 c d) : EReal) * (((Real.log 2)⁻¹ : ℝ) : EReal) := by
  unfold k0_pay5
  try dsimp only
  rw [shapeCast_self]
  exact congrArg (fun x : EReal => (b (ix2 c d) : EReal) * x) log2e_val

theorem pay6_apply (d : Fin 128) :
    k0_pay6 (F := Ideal) b (ix2 0 d) = (b (ix2 32 d) : EReal) * (((Real.log 2)⁻¹ : ℝ) : EReal) := by
  rw [← pay5_apply]
  unfold k0_pay6
  try dsimp only
  unfold extractStridedSlice
  refine congrArg (k0_pay5 (F := Ideal) b) (funext fun a => Fin.ext ?_)
  match a with
  | ⟨0, _⟩ => rfl
  | ⟨1, _⟩ => exact Nat.zero_add _

theorem pay7_apply (d : Fin 128) : k0_pay7 (F := Ideal) b (ix2 0 d) = Ideal.exp (b (ix2 63 d)) := by
  rw [← exp2_log2e, ← pay5_apply]
  unfold k0_pay7
  try dsimp only
  show Ideal.exp2 _ = _
  congr 1
  unfold extractStridedSlice
  refine congrArg (k0_pay5 (F := Ideal) b) (funext fun a => Fin.ext ?_)
  match a with
  | ⟨0, _⟩ => rfl
  | ⟨1, _⟩ => exact Nat.zero_add _

theorem pay8_apply (c : Fin 64) (d : Fin 128) :
    k0_pay8 (F := Ideal) q b (ix2 c d) = (q (ix2 c d) : EReal) * scale * Ideal.exp (b (ix2 c d)) := by
  rw [← exp2_log2e, ← pay5_apply]
  rfl

theorem pay9_apply (c : Fin 64) (d : Fin 128) :
    k0_pay9 (F := Ideal) k b (ix2 c d) = (k (ix2 c d) : EReal) * Ideal.exp (-(b (ix2 c d) : EReal)) := by
  rw [← exp2_neg_log2e, ← pay5_apply, ← zero_val]
  rfl

theorem pay10_apply (c : Fin 64) (d : Fin 128) :
    k0_pay10 (F := Ideal) q b (ix2 c d) = (q (ix2 c d) : EReal) * scale * Ideal.exp ((b (ix2 c d) : EReal) - b (ix2 32 d)) := by
  rw [← mul_exp_sub, ← exp2_neg_log2e, ← pay6_apply, ← pay8_apply, ← zero_val]
  unfold k0_pay10
  try dsimp only
  exact congrArg (fun x : EReal => (k0_pay8 (F := Ideal) q b (ix2 c d) : EReal) * x) (bcRow _ _ c d)

theorem pay11_apply (c : Fin 64) (d : Fin 128) :
    k0_pay11 (F := Ideal) k b (ix2 c d) = (k (ix2 c d) : EReal) * Ideal.exp ((b (ix2 32 d) : EReal) - b (ix2 c d)) := by
  rw [← mul_exp_sub', ← exp2_log2e (b (ix2 32 d)), ← pay6_apply, ← pay9_apply]
  unfold k0_pay11
  try dsimp only
  exact congrArg (fun x : EReal => (k0_pay9 (F := Ideal) k b (ix2 c d) : EReal) * x) (bcRow _ _ c d)

theorem pay13_apply (c : Fin 64) (d : Fin 128) :
    k0_pay13 (F := Ideal) k b (ix2 c d) = (k (ix2 c d) : EReal) * Ideal.exp ((b (ix2 63 d) : EReal) - b (ix2 c d)) := by
  rw [← mul_exp_sub', ← pay7_apply, ← pay9_apply]
  unfold k0_pay13
  try dsimp only
  exact congrArg (fun x : EReal => (k0_pay9 (F := Ideal) k b (ix2 c d) : EReal) * x) (bcRow _ _ c d)

theorem pay3_apply (i j : Fin 64) : k0_pay3 (ix2 i j) = BitVec.ofBool (decide (j.val ≤ i.val)) := by
  revert i j
  decide +kernel

theorem pay14_apply (m : FVec Ideal S64x128 .bf16) (n : FVec Ideal S64x128 .bf16) (i j : Fin 64) :
    k0_pay14 (F := Ideal) k0_pay3 m n (ix2 i j)
      = if j.val ≤ i.val then ∑ d : Fin 128, (m (ix2 i d) : EReal) * n (ix2 j d) else 0 := by
  have h : FloatOps.matmul (F := Ideal) (DotDims.transposedRhs 64 128 64) none m n (constant S64x64 .f32 0x00000000#32) (ix2 i j)
      = ∑ d : Fin 128, (m (ix2 i d) : EReal) * n (ix2 j d) := by
    rw [Ideal.matmul_transposedRhs_apply]
    exact (congrArg (fun x : EReal => x + _) zero_val).trans (zero_add _)
  rw [← h]
  unfold k0_pay14
  try dsimp only
  show (if k0_pay3 (ix2 i j) = 1#1 then _ else _) = _
  rw [pay3_apply]
  by_cases hij : j.val ≤ i.val
  · rw [if_pos hij, decide_eq_true hij]; rfl
  · rw [if_neg hij, decide_eq_false hij]; exact zero_val

theorem pay15_apply (e : Fin 256) (d : Fin 128) : k0_pay15 (F := Ideal) st (ix2 e d) = st (ix3 0 e d) := by
  unfold k0_pay15
  try dsimp only
  refine (shapeCast_dropUnit_apply ![256, 128] st _ (ix2 e d)).trans (congrArg st (funext fun a => ?_))
  match a with
  | ⟨0, _⟩ => rfl
  | ⟨1, _⟩ => rfl
  | ⟨2, _⟩ => rfl

theorem pay16_apply (m : FVec Ideal S64x128 .bf16) (c : Fin 64) (e : Fin 256) :
    k0_pay16 (F := Ideal) m st (ix2 c e) = ∑ d : Fin 128, (m (ix2 c d) : EReal) * st (ix3 0 e d) := by
  have h : FloatOps.matmul (F := Ideal) (DotDims.transposedRhs 64 128 256) none m (truncf .bf16 (k0_pay15 (F := Ideal) st) bitsLt_bf16_f32)
      (constant S64x256 .f32 0x00000000#32) (ix2 c e)
      = ∑ d : Fin 128, (m (ix2 c d) : EReal) * st (ix3 0 e d) := by
    rw [Ideal.matmul_transposedRhs_apply]
    refine (congrArg (fun x : EReal => x + _) zero_val).trans ((zero_add _).trans ?_)
    exact Finset.sum_congr rfl fun d _ => congrArg (fun x : EReal => (m (ix2 c d) : EReal) * x) (pay15_apply st e d)
  exact h

theorem tn_apply (x : FVec Ideal S64x256 .bf16) (y : FVec Ideal S64x128 .bf16) (e : Fin 256) (d : Fin 128) :
    matmul (F := Ideal) dot_S64x256_S64x128_S256x128_0_0_1_1_n_n none x y (constant S256x128 .f32 0x00000000#32) (ix2 e d)
      = ∑ c : Fin 64, (x (ix2 c e) : EReal) * y (ix2 c d) := by
  show Ideal.matmul _ _ _ _ _ = _
  rw [Ideal.matmul_apply₁ _ rfl rfl]
  refine (congrArg (fun x : EReal => x + _) zero_val).trans ((zero_add _).trans ?_)
  refine Finset.sum_congr rfl fun c _ => ?_
  refine congrArg₂ (fun x y : EReal => x * y) (congrArg x (funext fun a => ?_)) (congrArg y (funext fun a => ?_))
  · match a with | ⟨0, _⟩ => rfl | ⟨1, _⟩ => rfl
  · match a with | ⟨0, _⟩ => rfl | ⟨1, _⟩ => rfl

theorem fnS_stepS : fnS (stepS v k b st) = next (fn k) (fn b) (fn v) (fnS st) := by
  funext d e
  show k0_pay17 (F := Ideal) v (k0_pay7 b) (k0_pay13 k b) st (ix3 0 e d) = _
  unfold k0_pay17
  try dsimp only
  refine (shapeCast_addUnit_apply ![256, 128] _ _ (ix3 0 e d)).trans ?_
  have hi : (fun a : Fin 2 => (ix3 (0 : Fin 1) e d : S1x256x128.Idx) a.succ) = (ix2 e d : S256x128.Idx) := by
    funext a
    match a with | ⟨0, _⟩ => rfl | ⟨1, _⟩ => rfl
  refine (congrArg _ hi).trans ?_
  refine congrArg₂ (fun x y : EReal => x + y) ?_ ?_
  · refine (congrArg₂ (fun x y : EReal => x * y) (pay15_apply st e d) ((bcRow _ _ e d).trans (pay7_apply b d))).trans ?_
    exact mul_comm _ _
  · refine (tn_apply _ _ e d).trans (Finset.sum_congr rfl fun c _ => ?_)
    refine (congrArg (fun x : EReal => (v (ix2 c e) : EReal) * x) (pay13_apply k b c d)).trans ?_
    exact mul_comm _ _

theorem av_apply (x : FVec Ideal S64x64 .bf16) (y : FVec Ideal S64x256 .bf16) (c : Fin 64) (e : Fin 256) :
    matmul (F := Ideal) dot_S64x64_S64x256_S64x256_1_0_0_1_n_n none x y (constant S64x256 .f32 0x00000000#32) (ix2 c e)
      = ∑ j : Fin 64, (x (ix2 c j) : EReal) * y (ix2 j e) := by
  show Ideal.matmul _ _ _ _ _ = _
  rw [Ideal.matmul_apply₁ _ rfl rfl]
  refine (congrArg (fun x : EReal => x + _) zero_val).trans ((zero_add _).trans ?_)
  refine Finset.sum_congr rfl fun j _ => ?_
  refine congrArg₂ (fun x y : EReal => x * y) (congrArg x (funext fun a => ?_)) (congrArg y (funext fun a => ?_))
  · match a with | ⟨0, _⟩ => rfl | ⟨1, _⟩ => rfl
  · match a with | ⟨0, _⟩ => rfl | ⟨1, _⟩ => rfl

theorem rowSum_apply (x : FVec Ideal S64x256 .f32) (r : Fin 64) :
    multiReduction (F := Ideal) (φ := .f32) .add [1] S64 x 0x00000000#32 reduces_S64x256_S64 (.inl rfl) rfl (ix1 r)
      = ∑ e : Fin 256, (x (ix2 r e) : EReal) := by
  refine (Ideal.multiReduction_add_single (φ := .f32) x 0x00000000#32 reduces_S64x256_S64 (.inl rfl) rfl (ix1 r)).trans ?_
  refine Finset.sum_congr rfl fun k _ => congrArg x (funext fun a => Fin.ext ?_)
  match a with | ⟨0, _⟩ => rfl | ⟨1, _⟩ => rfl

/-- A column of row values broadcast along the rows. -/
theorem bcCol {R C : Nat} {α : Type} (x : (⟨1, ![R]⟩ : Shape).Idx → α) (f : α → α) (h h') (r : Fin R) (c : Fin C) :
    broadcastTo (s := ⟨2, ![R, 1]⟩) ⟨2, ![R, C]⟩ (fun i => f (shapeCast (s := ⟨1, ![R]⟩) ⟨2, ![R, 1]⟩ x h i)) h' (ix2 r c) = f (x (ix1 r)) := by
  refine (broadcastTo_apply _ h' _ (ix2 r 0) fun a => ?_).trans (congrArg f (shapeCast_apply x h _ (ix1 r) ?_))
  · match a with
    | ⟨0, _⟩ =>
      show r.val = if R = 1 then 0 else r.val
      split <;> omega
    | ⟨1, _⟩ => exact (if_pos rfl).symm
  · rw [Shape.rowMajor_val_one, Shape.rowMajor_val_two]
    exact (show r.val = r.val * 1 + 0 by omega)

theorem pay1_apply (v7 : FVec Ideal S1x256 .f32) (x y : FVec Ideal S64x256 .f32) (c : Fin 64) (e : Fin 256) :
    k0_pay1 (F := Ideal) v7 x y g (ix2 c e)
      = normed (fun c e => (y (ix2 c e) : EReal) + x (ix2 c e)) (fn g) (fun e => v7 (ix2 0 e)) c e := by
  unfold k0_pay1
  try dsimp only
  refine congrArg₂ (fun x y : EReal => x * y) (congrArg₂ (fun x y : EReal => x * y)
    (congrArg (fun z : EReal => ((y (ix2 c e) : EReal) + x (ix2 c e)) * z) ?_) (bcRow _ _ c e)) rfl
  refine (bcCol (multiReduction (F := Ideal) (φ := .f32) .add [1] S64 (mulf (addf y x) (addf y x)) 0x00000000#32 reduces_S64x256_S64 (.inl rfl) rfl)
    (fun s : EReal => Ideal.rsqrt (Ideal.div s (Ideal.ofBits .f32 0x43800000#32) + Ideal.ofBits .f32 0x358637BD#32)) _ _ c e).trans ?_
  rw [rowSum_apply]
  rfl

theorem fn_stepO : fn (stepO q k v g b gain st) = chunkOut (fn q) (fn k) (fn b) (fn v) (fn g) (fun e => gain (ix2 0 e)) (fnS st) := by
  funext c e
  refine (pay1_apply g _ _ _ c e).trans ?_
  unfold chunkOut
  have h4 : k0_pay4 (F := Ideal) gain = gain := shapeCast_self _ _
  rw [h4]
  refine congrArg (fun o => normed o (fn g) (fun e => gain (ix2 0 e)) c e) (funext fun c => funext fun e => ?_)
  refine congrArg₂ (fun x y : EReal => x + y) ?_ ?_
  · refine (av_apply _ _ c e).trans (Finset.sum_congr rfl fun j _ => congrArg (fun x : EReal => x * (v (ix2 j e) : EReal)) ?_)
    refine (pay14_apply _ _ c j).trans ?_
    refine if_congr Iff.rfl (Finset.sum_congr rfl fun d _ => ?_) rfl
    exact congrArg₂ (fun x y : EReal => x * y) (pay10_apply q b c d) (pay11_apply k b j d)
  · refine (pay16_apply st _ c e).trans (Finset.sum_congr rfl fun d _ => congrArg (fun x : EReal => x * (st (ix3 0 e d) : EReal)) ?_)
    exact pay8_apply q b c d

end

end Cert.Kernel7Ideal.Gla

end
-- ==== Proof.GlaPieces.lean ====
/-
  What the kernel's body stores at a point, as lists built item by item: sixteen chunks of eight heads, each item loading
  its head's state from what the items before it stored.
-/
module

public import proofs.«01_k».proof.Proof.GlaStep
public import proofs.«01_k».proof.Proof.Gen.Kernel7Ideal.Value

@[expose] public section

set_option maxRecDepth 100000
set_option maxHeartbeats 8000000

noncomputable section

namespace Cert.Kernel7Ideal.Gla

open Cert.Kernel7Ideal Cert.Kernel7Ideal.Gen Cert.Gla Idealize.ShloMosaic.TcCoe Idealize.ShloMosaic.Tactic Idealize.SL.Sem
open Idealize.ShloMosaic hiding ix1 ix2 ix3
open Idealize.ShloMosaic.ValueIdx

variable {F : FTy → Type} [FloatOps F] [Named F]

theorem inbK (n : ℕ) : ∀ a, (![64 * (n / 8 % 16), 128 * (n % 8)] : Fin 2 → ℕ) a + S64x128.size a ≤ S1024x1024.size a := fun a => by
  match a with
  | ⟨0, _⟩ => show 64 * (n / 8 % 16) + 64 ≤ 1024; omega
  | ⟨1, _⟩ => show 128 * (n % 8) + 128 ≤ 1024; omega

theorem inbV (n : ℕ) : ∀ a, (![64 * (n / 8 % 16), 256 * (n % 8)] : Fin 2 → ℕ) a + S64x256.size a ≤ S1024x2048.size a := fun a => by
  match a with
  | ⟨0, _⟩ => show 64 * (n / 8 % 16) + 64 ≤ 1024; omega
  | ⟨1, _⟩ => show 256 * (n % 8) + 256 ≤ 2048; omega

theorem inbS (n : ℕ) : ∀ a, (![n % 8, 0, 0] : Fin 3 → ℕ) a + S1x256x128.size a ≤ S8x256x128.size a := fun a => by
  match a with
  | ⟨0, _⟩ => show n % 8 + 1 ≤ 8; omega
  | ⟨1, _⟩ => show 0 + 256 ≤ 256; omega
  | ⟨2, _⟩ => show 0 + 128 ≤ 128; omega

/-- Where item `n` finds its keys, its values and its state. -/
abbrev rK (n : ℕ) : Rect S1024x1024 := Rect.unit ![64 * (n / 8 % 16), 128 * (n % 8)] S64x128.size (inbK n)
abbrev rV (n : ℕ) : Rect S1024x2048 := Rect.unit ![64 * (n / 8 % 16), 256 * (n % 8)] S64x256.size (inbV n)
abbrev rS (n : ℕ) : Rect S8x256x128 := Rect.unit ![n % 8, 0, 0] S1x256x128.size (inbS n)

section
variable (arg2 : Memref sig .tc .vmem S1024x1024 .bf16) (harg2 : arg2.IsWhole) (arg3 : Memref sig .tc .vmem S1024x1024 .bf16) (harg3 : arg3.IsWhole)
  (arg4 : Memref sig .tc .vmem S1024x2048 .bf16) (harg4 : arg4.IsWhole) (arg5 : Memref sig .tc .vmem S1024x2048 .bf16) (harg5 : arg5.IsWhole)
  (arg6 : Memref sig .tc .vmem S1024x1024 .f32) (harg6 : arg6.IsWhole) (arg7 : Memref sig .tc .vmem S1x256 .f32) (harg7 : arg7.IsWhole)
  (arg9 : Memref sig .tc .vmem S8x256x128 .f32) (harg9 : arg9.IsWhole)
  (x0 : Vec F S1024x1024 .bf16) (x1 : Vec F S1024x1024 .bf16) (x2 : Vec F S1024x2048 .bf16) (x3 : Vec F S1024x2048 .bf16) (x4 : Vec F S1024x1024 .f32)
  (x5 : Vec F S1x256 .f32) (xs0 : Vec F S8x256x128 .f32)

abbrev ldK {φ : EltTy} (a : Memref sig .tc .vmem S1024x1024 φ) (h : a.IsWhole) (x : Vec F S1024x1024 φ) (n : ℕ) : Vec F S64x128 φ :=
  View.readAt (Elt F) a.view (rK n).toLoadRect (h.unread x)
abbrev ldV {φ : EltTy} (a : Memref sig .tc .vmem S1024x2048 φ) (h : a.IsWhole) (x : Vec F S1024x2048 φ) (n : ℕ) : Vec F S64x256 φ :=
  View.readAt (Elt F) a.view (rV n).toLoadRect (h.unread x)

/-- The state the carried scratch holds for item `n`. -/
abbrev ldS (n : ℕ) : Vec F S1x256x128 .f32 := View.readAt (Elt F) arg9.view (rS n).toLoadRect (harg9.unread xs0)
abbrev ldG : Vec F S1x256 .f32 :=
  View.readAt (Elt F) arg7.view (Rect.unit ![0, 0] S1x256.size inb_S1x256_S1x256_0_0).toLoadRect (harg7.unread x5)

/-- What item `n` stores when it loads the state `st`. -/
abbrev pieceS (st : Vec F S1x256x128 .f32) (n : ℕ) : View.Piece (Elt F) S8x256x128 .f32 :=
  ⟨rS n, stepS (ldV arg4 harg4 x2 n) (ldK arg3 harg3 x1 n) (ldK arg6 harg6 x4 n) st⟩
abbrev pieceO (st : Vec F S1x256x128 .f32) (n : ℕ) : View.Piece (Elt F) S1024x2048 .bf16 :=
  ⟨rV n, stepO (ldK arg2 harg2 x0 n) (ldK arg3 harg3 x1 n) (ldV arg4 harg4 x2 n) (ldV arg5 harg5 x3 n) (ldK arg6 harg6 x4 n) (ldG arg7 harg7 x5) st⟩

/-- The states stored, last first: over the stores `L0`, the items `k0`, `k0 + 1`, … each loading what was stored before it. -/
def statesFrom (L0 : List (View.Piece (Elt F) S8x256x128 .f32)) (k0 n : ℕ) : List (View.Piece (Elt F) S8x256x128 .f32) :=
  Nat.rec L0 (fun n L => pieceS arg3 harg3 arg4 harg4 arg6 harg6 x1 x2 x4 (arg9.view.readCov L (rS (n + k0)).toLoadRect) (n + k0) :: L) n

/-- The rows those items store. -/
def rowsFrom (R0 : List (View.Piece (Elt F) S1024x2048 .bf16)) (L0 : List (View.Piece (Elt F) S8x256x128 .f32)) (k0 n : ℕ) :
    List (View.Piece (Elt F) S1024x2048 .bf16) :=
  Nat.rec R0 (fun n L => pieceO arg2 harg2 arg3 harg3 arg4 harg4 arg5 harg5 arg6 harg6 arg7 harg7 x0 x1 x2 x3 x4 x5
    (arg9.view.readCov (statesFrom arg3 harg3 arg4 harg4 arg6 harg6 arg9 x1 x2 x4 L0 k0 n) (rS (n + k0)).toLoadRect) (n + k0) :: L) n

/-- The first chunk of a point that carries the scratch: each head loads what the point before left. -/
def statesB (n : ℕ) : List (View.Piece (Elt F) S8x256x128 .f32) :=
  Nat.rec [] (fun n L => pieceS arg3 harg3 arg4 harg4 arg6 harg6 x1 x2 x4 (ldS arg9 harg9 xs0 n) n :: L) n
def rowsB (n : ℕ) : List (View.Piece (Elt F) S1024x2048 .bf16) :=
  Nat.rec [] (fun n L => pieceO arg2 harg2 arg3 harg3 arg4 harg4 arg5 harg5 arg6 harg6 arg7 harg7 x0 x1 x2 x3 x4 x5 (ldS arg9 harg9 xs0 n) n :: L) n

/-- The zeros a point that starts a sequence first fills the scratch with. -/
abbrev fill : List (View.Piece (Elt F) S8x256x128 .f32) := [⟨Rect.unit ![0, 0, 0] S8x256x128.size inb_S8x256x128_S8x256x128_0_0_0, k0_pay2⟩]

end

end Cert.Kernel7Ideal.Gla

end
-- ==== Proof.GlaPoint.lean ====
/-
  What a point of the grid leaves: the rows of sixteen chunks and, in the scratch, the state of each head after them.
-/
module

public import proofs.«01_k».proof.Proof.GlaPieces
public import Idealize.ShloMosaic.Lib.Pipeline.ValueKit

@[expose] public section

set_option maxRecDepth 16384

noncomputable section

namespace Cert.Kernel7Ideal.Gla

open Cert.Kernel7Ideal Cert.Kernel7Ideal.Gen Cert.Gla Idealize.ShloMosaic.TcCoe Idealize.SL.Sem
open Idealize.ShloMosaic hiding ix1 ix2 ix3 eq_ix2
open Idealize.ShloMosaic.ValueIdx

/-! ## The states and rows of a point, item by item -/

section
variable (Q K B : ℕ → Keys) (V G : ℕ → Vals) (gain : Fin 256 → EReal) (S0 : Fin 8 → State)

/-- The state of head `h` before the point's chunk `j`; item `8 j + h` is that chunk of that head. -/
def W (h : Fin 8) : ℕ → State
  | 0 => S0 h
  | j + 1 => next (K (8 * j + h.val)) (B (8 * j + h.val)) (V (8 * j + h.val)) (W h j)

/-- The rows of a point. -/
def rowsOf : S1024x2048.Idx → EReal := fun y =>
  chunkOut (Q (8 * ((y 0).val / 64) + (y 1).val / 256)) (K (8 * ((y 0).val / 64) + (y 1).val / 256)) (B (8 * ((y 0).val / 64) + (y 1).val / 256))
    (V (8 * ((y 0).val / 64) + (y 1).val / 256)) (G (8 * ((y 0).val / 64) + (y 1).val / 256)) gain
    (W K B V S0 ⟨(y 1).val / 256, by have : (y 1).val < 2048 := (y 1).isLt; omega⟩ ((y 0).val / 64))
    ⟨(y 0).val % 64, Nat.mod_lt _ (by norm_num)⟩ ⟨(y 1).val % 256, Nat.mod_lt _ (by norm_num)⟩

theorem rowsOf_apply (h : Fin 8) (j : ℕ) (c : Fin 64) (e : Fin 256) (y : S1024x2048.Idx) (h0 : (y 0).val = 64 * j + c.val)
    (h1 : (y 1).val = 256 * h.val + e.val) :
    rowsOf Q K B V G gain S0 y = chunkOut (Q (8 * j + h.val)) (K (8 * j + h.val)) (B (8 * j + h.val)) (V (8 * j + h.val)) (G (8 * j + h.val)) gain
      (W K B V S0 h j) c e := by
  have hc := c.isLt
  have he := e.isLt
  have a1 : (y 0).val / 64 = j := by omega
  have a2 : (⟨(y 0).val % 64, Nat.mod_lt _ (by norm_num)⟩ : Fin 64) = c := Fin.ext (by show (y 0).val % 64 = c.val; omega)
  have a3 : (⟨(y 1).val % 256, Nat.mod_lt _ (by norm_num)⟩ : Fin 256) = e := Fin.ext (by show (y 1).val % 256 = e.val; omega)
  have a4 : (⟨(y 1).val / 256, by have : (y 1).val < 2048 := (y 1).isLt; omega⟩ : Fin 8) = h :=
    Fin.ext (by show (y 1).val / 256 = h.val; omega)
  have a5 : (y 1).val / 256 = h.val := by omega
  unfold rowsOf
  rw [a2, a3, a4, a1, a5]

end

/-! ## The loads -/

abbrev head (n : ℕ) : Fin 8 := ⟨n % 8, Nat.mod_lt _ (by norm_num)⟩

abbrev blkK (x : S1024x1024.Idx → EReal) (n : ℕ) : Keys := fun c d =>
  x (ix2 ⟨64 * (n / 8 % 16) + c.val, by have := c.isLt; omega⟩ ⟨128 * (n % 8) + d.val, by have := d.isLt; omega⟩)
abbrev blkV (x : S1024x2048.Idx → EReal) (n : ℕ) : Vals := fun c e =>
  x (ix2 ⟨64 * (n / 8 % 16) + c.val, by have := c.isLt; omega⟩ ⟨256 * (n % 8) + e.val, by have := e.isLt; omega⟩)

theorem fn_ldK_bf (a : Memref sig .tc .vmem S1024x1024 .bf16) (h : a.IsWhole) (x : Vec Ideal S1024x1024 .bf16) (n : ℕ) :
    fn (ldK a h x n) = blkK x n := by
  funext c d
  show View.readAt (Elt Ideal) a.view (rK n).toLoadRect (h.unread x) (ix2 c d) = _
  rw [View.readAt_eq_ld, h.read_unread]
  exact View.ld_unit_apply_of x _ _ (inbK n) _ _ (fun a => match a with | ⟨0, _⟩ => rfl | ⟨1, _⟩ => rfl)

theorem fn_ldK_f (a : Memref sig .tc .vmem S1024x1024 .f32) (h : a.IsWhole) (x : Vec Ideal S1024x1024 .f32) (n : ℕ) :
    fn (ldK a h x n) = blkK x n := by
  funext c d
  show View.readAt (Elt Ideal) a.view (rK n).toLoadRect (h.unread x) (ix2 c d) = _
  rw [View.readAt_eq_ld, h.read_unread]
  exact View.ld_unit_apply_of x _ _ (inbK n) _ _ (fun a => match a with | ⟨0, _⟩ => rfl | ⟨1, _⟩ => rfl)

theorem fn_ldV (a : Memref sig .tc .vmem S1024x2048 .bf16) (h : a.IsWhole) (x : Vec Ideal S1024x2048 .bf16) (n : ℕ) :
    fn (ldV a h x n) = blkV x n := by
  funext c e
  show View.readAt (Elt Ideal) a.view (rV n).toLoadRect (h.unread x) (ix2 c e) = _
  rw [View.readAt_eq_ld, h.read_unread]
  exact View.ld_unit_apply_of x _ _ (inbV n) _ _ (fun a => match a with | ⟨0, _⟩ => rfl | ⟨1, _⟩ => rfl)

theorem ldG_eq (a : Memref sig .tc .vmem S1x256 .f32) (h : a.IsWhole) (x : Vec Ideal S1x256 .f32) : ldG a h x = x := by
  show View.readAt (Elt Ideal) a.view (Rect.unit (s := S1x256) ![0, 0] S1x256.size inb_S1x256_S1x256_0_0).toLoadRect (h.unread x) = x
  rw [View.readAt_eq_ld, h.read_unread]
  funext y
  exact View.ld_unit_apply_of (S := S1x256) x ![0, 0] S1x256.size inb_S1x256_S1x256_0_0 y y (fun a => match a with
    | ⟨0, _⟩ => (Nat.zero_add _).symm
    | ⟨1, _⟩ => (Nat.zero_add _).symm)

theorem embS (n : ℕ) (e : Fin 256) (d : Fin 128) : (rS n).emb (ix3 0 e d : S1x256x128.Idx) = (ix3 (head n) e d : S8x256x128.Idx) :=
  funext fun a => Fin.ext (match a with
    | ⟨0, _⟩ => by show n % 8 + 1 * 0 = n % 8; omega
    | ⟨1, _⟩ => by show 0 + 1 * e.val = e.val; omega
    | ⟨2, _⟩ => by show 0 + 1 * d.val = d.val; omega)

theorem fnS_ldS (a : Memref sig .tc .vmem S8x256x128 .f32) (h : a.IsWhole) (xs : Vec Ideal S8x256x128 .f32) (n : ℕ) :
    fnS (ldS a h xs n) = fun d e => xs (ix3 (head n) e d) := by
  funext d e
  show View.readAt (Elt Ideal) a.view (rS n).toLoadRect (h.unread xs) (ix3 0 e d) = _
  rw [View.readAt_eq_ld, h.read_unread]
  exact congrArg xs (embS n e d)

theorem fnS_readCov (a : Memref sig .tc .vmem S8x256x128 .f32) (L : List (View.Piece (Elt Ideal) S8x256x128 .f32)) (n : ℕ) :
    fnS (a.view.readCov L (rS n).toLoadRect) = fun d e => View.canon L (ix3 (head n) e d) := by
  funext d e
  rw [View.readCov_eq_canon']
  exact congrArg (View.canon L) (embS n e d)

theorem canon_state (n : ℕ) (w : Vec Ideal S1x256x128 .f32) (L : List (View.Piece (Elt Ideal) S8x256x128 .f32)) (h : Fin 8) (e : Fin 256) (d : Fin 128) :
    View.canon (⟨rS n, w⟩ :: L) (ix3 h e d : S8x256x128.Idx) = if h.val = n % 8 then fnS w d e else View.canon L (ix3 h e d : S8x256x128.Idx) := by
  by_cases hh : h.val = n % 8
  · rw [if_pos hh, show h = head n from Fin.ext hh, ← embS n e d]
    exact View.canon_cons_emb (rS n) w L _
  · rw [if_neg hh]
    refine View.canon_cons_of_not_mem _ L fun hm => hh ?_
    have := (Rect.mem_set_unit (inb := inbS n)).mp hm 0
    have h1 : n % 8 ≤ h.val := this.1
    have h2 : h.val < n % 8 + 1 := this.2
    omega

/-! ## The lists, read -/

section
variable (arg2 : Memref sig .tc .vmem S1024x1024 .bf16) (harg2 : arg2.IsWhole) (arg3 : Memref sig .tc .vmem S1024x1024 .bf16) (harg3 : arg3.IsWhole)
  (arg4 : Memref sig .tc .vmem S1024x2048 .bf16) (harg4 : arg4.IsWhole) (arg5 : Memref sig .tc .vmem S1024x2048 .bf16) (harg5 : arg5.IsWhole)
  (arg6 : Memref sig .tc .vmem S1024x1024 .f32) (harg6 : arg6.IsWhole) (arg7 : Memref sig .tc .vmem S1x256 .f32) (harg7 : arg7.IsWhole)
  (arg9 : Memref sig .tc .vmem S8x256x128 .f32) (harg9 : arg9.IsWhole)
  (x0 : Vec Ideal S1024x1024 .bf16) (x1 : Vec Ideal S1024x1024 .bf16) (x2 : Vec Ideal S1024x2048 .bf16) (x3 : Vec Ideal S1024x2048 .bf16)
  (x4 : Vec Ideal S1024x1024 .f32) (x5 : Vec Ideal S1x256 .f32) (xs0 : Vec Ideal S8x256x128 .f32) (S0 : Fin 8 → State)

/-- The states of a point from its blocks. -/
abbrev WW : Fin 8 → ℕ → State := W (blkK x1) (blkK x4) (blkV x2) S0
/-- The rows of a point from its blocks. -/
abbrev RR : S1024x2048.Idx → EReal := rowsOf (blkK x0) (blkK x1) (blkK x4) (blkV x2) (blkV x3) (fun e => x5 (ix2 0 e)) S0

theorem W_succ (n : ℕ) : WW x1 x2 x4 S0 (head n) (n / 8 + 1) = next (blkK x1 n) (blkK x4 n) (blkV x2 n) (WW x1 x2 x4 S0 (head n) (n / 8)) := by
  have h : 8 * (n / 8) + n % 8 = n := by omega
  show next (blkK x1 (8 * (n / 8) + n % 8)) (blkK x4 (8 * (n / 8) + n % 8)) (blkV x2 (8 * (n / 8) + n % 8)) _ = _
  rw [h]

/-- An item that loads its head's state leaves the next one, and the other heads' as they were. -/
theorem canon_pieceS (n : ℕ) (st : Vec Ideal S1x256x128 .f32) (hst : fnS st = WW x1 x2 x4 S0 (head n) (n / 8))
    (L : List (View.Piece (Elt Ideal) S8x256x128 .f32)) (h : Fin 8) (e : Fin 256) (d : Fin 128) :
    View.canon (pieceS arg3 harg3 arg4 harg4 arg6 harg6 x1 x2 x4 st n :: L) (ix3 h e d : S8x256x128.Idx)
      = if h.val = n % 8 then WW x1 x2 x4 S0 h (n / 8 + 1) d e else View.canon L (ix3 h e d : S8x256x128.Idx) := by
  refine (canon_state n _ L h e d).trans (if_ctx_congr Iff.rfl (fun hh => ?_) fun _ => rfl)
  rw [fnS_stepS, hst, fn_ldK_bf, fn_ldK_f, fn_ldV, ← W_succ, show h = head n from Fin.ext hh]

theorem statesFrom_canon (L0 : List (View.Piece (Elt Ideal) S8x256x128 .f32)) (k0 : ℕ)
    (hL : ∀ (h : Fin 8) (e : Fin 256) (d : Fin 128), View.canon L0 (ix3 h e d : S8x256x128.Idx) = WW x1 x2 x4 S0 h ((k0 + 7 - h.val) / 8) d e)
    (n : ℕ) : ∀ (h : Fin 8) (e : Fin 256) (d : Fin 128),
    View.canon (statesFrom arg3 harg3 arg4 harg4 arg6 harg6 arg9 x1 x2 x4 L0 k0 n) (ix3 h e d : S8x256x128.Idx)
      = WW x1 x2 x4 S0 h ((n + k0 + 7 - h.val) / 8) d e := by
  induction n with
  | zero => intro h e d; rw [Nat.zero_add]; exact hL h e d
  | succ n ih =>
    intro h e d
    have hh := h.isLt
    have hload : fnS (arg9.view.readCov (statesFrom arg3 harg3 arg4 harg4 arg6 harg6 arg9 x1 x2 x4 L0 k0 n) (rS (n + k0)).toLoadRect)
        = WW x1 x2 x4 S0 (head (n + k0)) ((n + k0) / 8) := by
      rw [fnS_readCov]
      funext d e
      rw [ih, show (n + k0 + 7 - (head (n + k0)).val) / 8 = (n + k0) / 8 by show (n + k0 + 7 - (n + k0) % 8) / 8 = _; omega]
    refine (canon_pieceS arg3 harg3 arg4 harg4 arg6 harg6 x1 x2 x4 S0 (n + k0) _ hload _ h e d).trans ?_
    by_cases hn : h.val = (n + k0) % 8
    · rw [if_pos hn, show (n + 1 + k0 + 7 - h.val) / 8 = (n + k0) / 8 + 1 by omega]
    · rw [if_neg hn, show (n + 1 + k0 + 7 - h.val) / 8 = (n + k0 + 7 - h.val) / 8 by omega]
      exact ih h e d

theorem load_state (L0 : List (View.Piece (Elt Ideal) S8x256x128 .f32)) (k0 : ℕ)
    (hL : ∀ (h : Fin 8) (e : Fin 256) (d : Fin 128), View.canon L0 (ix3 h e d : S8x256x128.Idx) = WW x1 x2 x4 S0 h ((k0 + 7 - h.val) / 8) d e)
    (n : ℕ) : fnS (arg9.view.readCov (statesFrom arg3 harg3 arg4 harg4 arg6 harg6 arg9 x1 x2 x4 L0 k0 n) (rS (n + k0)).toLoadRect)
        = WW x1 x2 x4 S0 (head (n + k0)) ((n + k0) / 8) := by
  rw [fnS_readCov]
  funext d e
  rw [statesFrom_canon (hL := hL), show (n + k0 + 7 - (head (n + k0)).val) / 8 = (n + k0) / 8 by show (n + k0 + 7 - (n + k0) % 8) / 8 = _; omega]

/-- A piece is a block of the point's rows. -/
abbrev IsRows (p : View.Piece (Elt Ideal) S1024x2048 .bf16) : Prop := ∀ x : p.1.shape.Idx, p.2 x = RR x0 x1 x2 x3 x4 x5 S0 (p.1.emb x)

theorem pieceO_rows (n : ℕ) (hn : n < 128) (st : Vec Ideal S1x256x128 .f32) (hst : fnS st = WW x1 x2 x4 S0 (head n) (n / 8)) :
    IsRows x0 x1 x2 x3 x4 x5 S0 (pieceO arg2 harg2 arg3 harg3 arg4 harg4 arg5 harg5 arg6 harg6 arg7 harg7 x0 x1 x2 x3 x4 x5 st n) := by
  intro x
  obtain ⟨c, e, rfl⟩ : ∃ (c : Fin 64) (e : Fin 256), x = (ix2 c e : S64x256.Idx) := ⟨x 0, x 1, eq_ix2 (n0 := 64) (n1 := 256) x⟩
  have hc := c.isLt
  have h8 : 8 * (n / 8) + n % 8 = n := by omega
  refine Eq.trans ?_ (rowsOf_apply _ _ _ _ _ _ _ (head n) (n / 8) c e _ (?_ : 64 * (n / 8 % 16) + 1 * c.val = _) (?_ : 256 * (n % 8) + 1 * e.val = _)).symm
  · show fn (stepO (ldK arg2 harg2 x0 n) (ldK arg3 harg3 x1 n) (ldV arg4 harg4 x2 n) (ldV arg5 harg5 x3 n) (ldK arg6 harg6 x4 n) (ldG arg7 harg7 x5) st) c e = _
    rw [fn_stepO, hst, fn_ldK_bf, fn_ldK_bf, fn_ldK_f, fn_ldV, fn_ldV, ldG_eq]
    show _ = chunkOut (blkK x0 (8 * (n / 8) + n % 8)) (blkK x1 (8 * (n / 8) + n % 8)) (blkK x4 (8 * (n / 8) + n % 8)) (blkV x2 (8 * (n / 8) + n % 8))
      (blkV x3 (8 * (n / 8) + n % 8)) _ _ c e
    rw [h8]
  · omega
  · show _ = 256 * (n % 8) + e.val; omega

theorem rowsFrom_rows (R0 : List (View.Piece (Elt Ideal) S1024x2048 .bf16)) (L0 : List (View.Piece (Elt Ideal) S8x256x128 .f32)) (k0 : ℕ)
    (hR : ∀ p ∈ R0, IsRows x0 x1 x2 x3 x4 x5 S0 p)
    (hL : ∀ (h : Fin 8) (e : Fin 256) (d : Fin 128), View.canon L0 (ix3 h e d : S8x256x128.Idx) = WW x1 x2 x4 S0 h ((k0 + 7 - h.val) / 8) d e)
    (n : ℕ) (hn : n + k0 ≤ 128) :
    ∀ p ∈ rowsFrom arg2 harg2 arg3 harg3 arg4 harg4 arg5 harg5 arg6 harg6 arg7 harg7 arg9 x0 x1 x2 x3 x4 x5 R0 L0 k0 n, IsRows x0 x1 x2 x3 x4 x5 S0 p := by
  induction n with
  | zero => exact hR
  | succ n ih =>
    intro p hp
    rcases List.mem_cons.mp hp with rfl | hp
    · exact pieceO_rows arg2 harg2 arg3 harg3 arg4 harg4 arg5 harg5 arg6 harg6 arg7 harg7 x0 x1 x2 x3 x4 x5 S0 (n + k0) (by omega) _
        (load_state (hL := hL) arg3 harg3 arg4 harg4 arg6 harg6 arg9 x1 x2 x4 S0 L0 k0 n)
    · exact ih (by omega) p hp

theorem fill_canon (h : Fin 8) (e : Fin 256) (d : Fin 128) :
    View.canon (fill (F := Ideal)) (ix3 h e d : S8x256x128.Idx) = WW x1 x2 x4 (fun _ _ _ => 0) h ((0 + 7 - h.val) / 8) d e := by
  have hh := h.isLt
  rw [show (0 + 7 - h.val) / 8 = 0 by omega]
  have h1 : View.canon (fill (F := Ideal)) = k0_pay2 (F := Ideal) :=
    View.canon_cons_unit_lit (Val := Elt Ideal) (e := .f32) (S := S8x256x128) (off := ![0, 0, 0]) inb_S8x256x128_S8x256x128_0_0_0 (k0_pay2 (F := Ideal)) []
      (fun a => match a with | ⟨0, _⟩ => rfl | ⟨1, _⟩ => rfl | ⟨2, _⟩ => rfl)
  rw [h1]
  have h2 : (k0_pay2 (F := Ideal)) = broadcast S8x256x128 (Scalar.ofBits (F := Ideal) .f32 0x00000000#32) := shapeCast_self _ _
  rw [h2]
  exact zero_val

/-- The heads the first chunk has dealt with. -/
theorem statesB_canon (hS : ∀ h d e, S0 h d e = xs0 (ix3 h e d)) (n : ℕ) (hn : n ≤ 8) : ∀ (h : Fin 8) (e : Fin 256) (d : Fin 128), h.val < n →
    View.canon (statesB arg3 harg3 arg4 harg4 arg6 harg6 arg9 harg9 x1 x2 x4 xs0 n) (ix3 h e d : S8x256x128.Idx) = WW x1 x2 x4 S0 h 1 d e := by
  induction n with
  | zero => intro h e d hh; omega
  | succ n ih =>
    intro h e d hh
    have h0 : n / 8 = 0 := by omega
    have hload : fnS (ldS arg9 harg9 xs0 n) = WW x1 x2 x4 S0 (head n) (n / 8) := by
      rw [fnS_ldS, h0]
      funext d e
      exact (hS _ _ _).symm
    refine (canon_pieceS arg3 harg3 arg4 harg4 arg6 harg6 x1 x2 x4 S0 n _ hload _ h e d).trans ?_
    by_cases hn' : h.val = n % 8
    · rw [if_pos hn', h0]
    · rw [if_neg hn']
      exact ih (by omega) h e d (by omega)

theorem rowsB_rows (hS : ∀ h d e, S0 h d e = xs0 (ix3 h e d)) (n : ℕ) (hn : n ≤ 8) :
    ∀ p ∈ rowsB arg2 harg2 arg3 harg3 arg4 harg4 arg5 harg5 arg6 harg6 arg7 harg7 arg9 harg9 x0 x1 x2 x3 x4 x5 xs0 n, IsRows x0 x1 x2 x3 x4 x5 S0 p := by
  induction n with
  | zero => intro p hp; exact absurd hp List.not_mem_nil
  | succ n ih =>
    intro p hp
    rcases List.mem_cons.mp hp with rfl | hp
    · refine pieceO_rows arg2 harg2 arg3 harg3 arg4 harg4 arg5 harg5 arg6 harg6 arg7 harg7 x0 x1 x2 x3 x4 x5 S0 n (by omega) _ ?_
      rw [fnS_ldS, show n / 8 = 0 by omega]
      funext d e
      exact (hS _ _ _).symm
    · exact ih (by omega) p hp

end

end Cert.Kernel7Ideal.Gla

end
-- ==== Proof.GlaRun.lean ====
/-
  The stores a point was found to make are the item lists of `GlaPieces`.
-/
module

public import proofs.«01_k».proof.Proof.GlaPieces

@[expose] public section

set_option maxRecDepth 100000
set_option maxHeartbeats 1000000

noncomputable section

namespace Cert.Kernel7Ideal.Gla

open Cert.Kernel7Ideal Cert.Kernel7Ideal.Gen Cert.Gla Idealize.ShloMosaic.TcCoe Idealize.ShloMosaic.Tactic Idealize.SL.Sem
open Idealize.ShloMosaic hiding ix1 ix2 ix3
open Idealize.ShloMosaic.ValueIdx

variable {F : FTy → Type} [FloatOps F] [Named F]

section
variable (arg2 : Memref sig .tc .vmem S1024x1024 .bf16) (harg2 : arg2.IsWhole) (arg3 : Memref sig .tc .vmem S1024x1024 .bf16) (harg3 : arg3.IsWhole)
  (arg4 : Memref sig .tc .vmem S1024x2048 .bf16) (harg4 : arg4.IsWhole) (arg5 : Memref sig .tc .vmem S1024x2048 .bf16) (harg5 : arg5.IsWhole)
  (arg6 : Memref sig .tc .vmem S1024x1024 .f32) (harg6 : arg6.IsWhole) (arg7 : Memref sig .tc .vmem S1x256 .f32) (harg7 : arg7.IsWhole)
  (arg9 : Memref sig .tc .vmem S8x256x128 .f32) (harg9 : arg9.IsWhole)
  (x0 : Vec F S1024x1024 .bf16) (x1 : Vec F S1024x1024 .bf16) (x2 : Vec F S1024x2048 .bf16) (x3 : Vec F S1024x2048 .bf16) (x4 : Vec F S1024x1024 .f32)
  (x5 : Vec F S1x256 .f32) (xs0 : Vec F S8x256x128 .f32)

theorem run_A (c : Dev nD) (i : grid0.Coords) (arg8 : Memref sig .tc .vmem S1024x2048 .bf16) (harg8 : arg8.IsWhole) (hc0 : cond0_0 i) :
    (kernelRun0_A c i arg2 harg2 arg3 harg3 arg4 harg4 arg5 harg5 arg6 harg6 arg7 harg7 arg8 harg8 arg9 harg9 hc0 x0 x1 x2 x3 x4 x5).2.1
      = statesFrom arg3 harg3 arg4 harg4 arg6 harg6 arg9 x1 x2 x4 fill 0 128 := rfl

theorem runO_A (c : Dev nD) (i : grid0.Coords) (arg8 : Memref sig .tc .vmem S1024x2048 .bf16) (harg8 : arg8.IsWhole) (hc0 : cond0_0 i) :
    (kernelRun0_A c i arg2 harg2 arg3 harg3 arg4 harg4 arg5 harg5 arg6 harg6 arg7 harg7 arg8 harg8 arg9 harg9 hc0 x0 x1 x2 x3 x4 x5).1
      = rowsFrom arg2 harg2 arg3 harg3 arg4 harg4 arg5 harg5 arg6 harg6 arg7 harg7 arg9 x0 x1 x2 x3 x4 x5 [] fill 0 128 := rfl

theorem run_B (c : Dev nD) (i : grid0.Coords) (arg8 : Memref sig .tc .vmem S1024x2048 .bf16) (harg8 : arg8.IsWhole) (hc0 : ¬cond0_0 i) :
    (kernelRun0_B c i arg2 harg2 arg3 harg3 arg4 harg4 arg5 harg5 arg6 harg6 arg7 harg7 arg8 harg8 arg9 harg9 hc0 x0 x1 x2 x3 x4 x5 xs0).2.1
      = statesFrom arg3 harg3 arg4 harg4 arg6 harg6 arg9 x1 x2 x4 (statesB arg3 harg3 arg4 harg4 arg6 harg6 arg9 harg9 x1 x2 x4 xs0 8) 8 120 := rfl

theorem runO_B (c : Dev nD) (i : grid0.Coords) (arg8 : Memref sig .tc .vmem S1024x2048 .bf16) (harg8 : arg8.IsWhole) (hc0 : ¬cond0_0 i) :
    (kernelRun0_B c i arg2 harg2 arg3 harg3 arg4 harg4 arg5 harg5 arg6 harg6 arg7 harg7 arg8 harg8 arg9 harg9 hc0 x0 x1 x2 x3 x4 x5 xs0).1
      = rowsFrom arg2 harg2 arg3 harg3 arg4 harg4 arg5 harg5 arg6 harg6 arg7 harg7 arg9 x0 x1 x2 x3 x4 x5
        (rowsB arg2 harg2 arg3 harg3 arg4 harg4 arg5 harg5 arg6 harg6 arg7 harg7 arg9 harg9 x0 x1 x2 x3 x4 x5 xs0 8)
        (statesB arg3 harg3 arg4 harg4 arg6 harg6 arg9 harg9 x1 x2 x4 xs0 8) 8 120 := rfl
end

end Cert.Kernel7Ideal.Gla

end
-- ==== Proof.GlaOuts.lean ====
/-
  What a point of the grid leaves in the output's block and in the carried scratch.
-/
module

public import proofs.«01_k».proof.Proof.GlaPoint
public import proofs.«01_k».proof.Proof.GlaRun

@[expose] public section

set_option maxRecDepth 16384

noncomputable section

namespace Cert.Kernel7Ideal.Gla

open Cert.Kernel7Ideal Cert.Kernel7Ideal.Gen Cert.Gla Idealize.ShloMosaic.TcCoe Idealize.SL.Sem
open Idealize.ShloMosaic hiding ix1 ix2 ix3 eq_ix2
open Idealize.ShloMosaic.ValueIdx

section
variable (c : Dev nD) (i : grid0.Coords)
  (arg2 : Memref sig .tc .vmem S1024x1024 .bf16) (harg2 : arg2.IsWhole) (arg3 : Memref sig .tc .vmem S1024x1024 .bf16) (harg3 : arg3.IsWhole)
  (arg4 : Memref sig .tc .vmem S1024x2048 .bf16) (harg4 : arg4.IsWhole) (arg5 : Memref sig .tc .vmem S1024x2048 .bf16) (harg5 : arg5.IsWhole)
  (arg6 : Memref sig .tc .vmem S1024x1024 .f32) (harg6 : arg6.IsWhole) (arg7 : Memref sig .tc .vmem S1x256 .f32) (harg7 : arg7.IsWhole)
  (arg8 : Memref sig .tc .vmem S1024x2048 .bf16) (harg8 : arg8.IsWhole) (arg9 : Memref sig .tc .vmem S8x256x128 .f32) (harg9 : arg9.IsWhole)
  (x0 : Vec Ideal S1024x1024 .bf16) (x1 : Vec Ideal S1024x1024 .bf16) (x2 : Vec Ideal S1024x2048 .bf16) (x3 : Vec Ideal S1024x2048 .bf16)
  (x4 : Vec Ideal S1024x1024 .f32) (x5 : Vec Ideal S1x256 .f32) (xs0 : Vec Ideal S8x256x128 .f32)

abbrev zeroS : Fin 8 → State := fun _ _ _ => 0
abbrev carried : Fin 8 → State := fun h d e => xs0 (ix3 h e d)

theorem out_A (hc0 : cond0_0 i) :
    out0_A_6 c i arg2 harg2 arg3 harg3 arg4 harg4 arg5 harg5 arg6 harg6 arg7 harg7 arg8 harg8 arg9 harg9 hc0 x0 x1 x2 x3 x4 x5
      = RR x0 x1 x2 x3 x4 x5 zeroS := by
  have hc := cover0_A_6 c i arg2 harg2 arg3 harg3 arg4 harg4 arg5 harg5 arg6 harg6 arg7 harg7 arg8 harg8 arg9 harg9 hc0 x0 x1 x2 x3 x4 x5
  unfold out0_A_6
  rw [View.read_writes_eq_canon _ _ _ hc]
  rw [runO_A] at hc ⊢
  exact funext fun y => View.canon_apply_of_pieces _ _ (rowsFrom_rows _ _ _ _ _ _ _ _ _ _ _ _ _ _ _ _ _ _ _ _ _ _ 0
    (fun p hp => absurd hp List.not_mem_nil) (fill_canon x1 x2 x4) 128 (by norm_num)) y (hc y)

theorem sout_A (hc0 : cond0_0 i) (h : Fin 8) (e : Fin 256) (d : Fin 128) :
    sout0_A_0 c i arg2 harg2 arg3 harg3 arg4 harg4 arg5 harg5 arg6 harg6 arg7 harg7 arg8 harg8 arg9 harg9 hc0 x0 x1 x2 x3 x4 x5 (ix3 h e d)
      = WW x1 x2 x4 zeroS h 16 d e := by
  have hc := scover0_A_0 c i arg2 harg2 arg3 harg3 arg4 harg4 arg5 harg5 arg6 harg6 arg7 harg7 arg8 harg8 arg9 harg9 hc0 x0 x1 x2 x3 x4 x5
  unfold sout0_A_0
  rw [View.read_writes_eq_canon _ _ _ hc, run_A]
  refine (statesFrom_canon (S0 := zeroS) _ _ _ _ _ _ _ _ _ _ fill 0 (fill_canon x1 x2 x4) 128 h e d).trans ?_
  have hh := h.isLt
  rw [show (128 + 0 + 7 - h.val) / 8 = 16 by omega]

theorem base_B (h : Fin 8) (e : Fin 256) (d : Fin 128) :
    View.canon (statesB arg3 harg3 arg4 harg4 arg6 harg6 arg9 harg9 x1 x2 x4 xs0 8) (ix3 h e d : S8x256x128.Idx)
      = WW x1 x2 x4 (carried xs0) h ((8 + 7 - h.val) / 8) d e := by
  have hh := h.isLt
  rw [show (8 + 7 - h.val) / 8 = 1 by omega]
  exact statesB_canon arg3 harg3 arg4 harg4 arg6 harg6 arg9 harg9 x1 x2 x4 xs0 (carried xs0) (fun _ _ _ => rfl) 8 le_rfl h e d hh

theorem out_B (hc0 : ¬cond0_0 i) :
    out0_B_6 c i arg2 harg2 arg3 harg3 arg4 harg4 arg5 harg5 arg6 harg6 arg7 harg7 arg8 harg8 arg9 harg9 hc0 x0 x1 x2 x3 x4 x5 xs0
      = RR x0 x1 x2 x3 x4 x5 (carried xs0) := by
  have hc := cover0_B_6 c i arg2 harg2 arg3 harg3 arg4 harg4 arg5 harg5 arg6 harg6 arg7 harg7 arg8 harg8 arg9 harg9 hc0 x0 x1 x2 x3 x4 x5 xs0
  unfold out0_B_6
  rw [View.read_writes_eq_canon _ _ _ hc]
  rw [runO_B] at hc ⊢
  exact funext fun y => View.canon_apply_of_pieces _ _ (rowsFrom_rows _ _ _ _ _ _ _ _ _ _ _ _ _ _ _ _ _ _ _ _ _ _ 8
    (rowsB_rows arg2 harg2 arg3 harg3 arg4 harg4 arg5 harg5 arg6 harg6 arg7 harg7 arg9 harg9 x0 x1 x2 x3 x4 x5 xs0 (carried xs0)
      (fun _ _ _ => rfl) 8 le_rfl) (base_B arg3 harg3 arg4 harg4 arg6 harg6 arg9 harg9 x1 x2 x4 xs0) 120 (by norm_num)) y (hc y)

theorem sout_B (hc0 : ¬cond0_0 i) (h : Fin 8) (e : Fin 256) (d : Fin 128) :
    sout0_B_0 c i arg2 harg2 arg3 harg3 arg4 harg4 arg5 harg5 arg6 harg6 arg7 harg7 arg8 harg8 arg9 harg9 hc0 x0 x1 x2 x3 x4 x5 xs0 (ix3 h e d)
      = WW x1 x2 x4 (carried xs0) h 16 d e := by
  have hc := scover0_B_0 c i arg2 harg2 arg3 harg3 arg4 harg4 arg5 harg5 arg6 harg6 arg7 harg7 arg8 harg8 arg9 harg9 hc0 x0 x1 x2 x3 x4 x5 xs0
  unfold sout0_B_0
  rw [View.read_writes_eq_canon _ _ _ hc, run_B]
  refine (statesFrom_canon (S0 := carried xs0) _ _ _ _ _ _ _ _ _ _ _ 8 (base_B arg3 harg3 arg4 harg4 arg6 harg6 arg9 harg9 x1 x2 x4 xs0) 120 h e d).trans ?_
  have hh := h.isLt
  rw [show (120 + 8 + 7 - h.val) / 8 = 16 by omega]

end

end Cert.Kernel7Ideal.Gla

end
-- ==== Proof.GlaBlocks.lean ====
/-
  The blocks the points of the grid find, as the chunks of the arrays, and the array the points leave.
-/
module

public import proofs.«01_k».proof.Proof.GlaOuts
public import Idealize.ShloMosaic.Lib.StableHlo.RunRead

@[expose] public section

set_option maxRecDepth 16384

noncomputable section

namespace Cert.Kernel7Ideal.Gla

open Cert.Kernel7Ideal Cert.Kernel7Ideal.Gen Cert.Gla Idealize.ShloMosaic.TcCoe Idealize.SL.Sem
open Idealize.ShloMosaic.Pipeline (Dat)
open Idealize.ShloMosaic hiding ix1 ix2 ix3 eq_ix2
open Idealize.ShloMosaic.ValueIdx

theorem N_eq : cfg0.N = 16 := (by decide +kernel : grid0.N = 16)

/-- Where each window's block lies at every point. -/
theorem facts_idx : ∀ t : Fin cfg0.N,
    (win0_0.index t 0 = t.val ∧ win0_0.index t 1 = 0) ∧ (win0_1.index t 0 = t.val ∧ win0_1.index t 1 = 1)
    ∧ (win0_2.index t 0 = t.val ∧ win0_2.index t 1 = 1) ∧ (win0_3.index t 0 = t.val ∧ win0_3.index t 1 = 2)
    ∧ (win0_4.index t 0 = t.val ∧ win0_4.index t 1 = 0) ∧ (win0_5.index t 0 = 0 ∧ win0_5.index t 1 = 0)
    ∧ (win0_6.index t 0 = t.val ∧ win0_6.index t 1 = 0) :=
  (by decide +kernel : ∀ t : Fin grid0.N,
    (win0_0.index t 0 = t.val ∧ win0_0.index t 1 = 0) ∧ (win0_1.index t 0 = t.val ∧ win0_1.index t 1 = 1)
    ∧ (win0_2.index t 0 = t.val ∧ win0_2.index t 1 = 1) ∧ (win0_3.index t 0 = t.val ∧ win0_3.index t 1 = 2)
    ∧ (win0_4.index t 0 = t.val ∧ win0_4.index t 1 = 0) ∧ (win0_5.index t 0 = 0 ∧ win0_5.index t 1 = 0)
    ∧ (win0_6.index t 0 = t.val ∧ win0_6.index t 1 = 0))

variable (m : (ℓ : Loc nD τ sig) → Buf (Elt Ideal) ℓ)

theorem iblk0_apply (c : Dev nD) (t : Fin cfg0.N) (r k : Fin 1024) (i : S16384x19456.Idx)
    (h0 : (i 0).val = t.val * 1024 + r.val) (h1 : (i 1).val = k.val) : iblk m c 0 t (ix2 r k) = V m c main_arg0 i := by
  obtain ⟨⟨e0, e1⟩, -⟩ := facts_idx t
  refine congrArg (V m c main_arg0) (funext fun a => Fin.ext ?_)
  match a with
  | ⟨0, _⟩ => show win0_0.index t 0 * 1024 + 1 * r.val = (i 0).val; rw [e0, h0]; omega
  | ⟨1, _⟩ => show win0_0.index t 1 * 1024 + 1 * k.val = (i 1).val; rw [e1, h1]; omega

theorem iblk1_apply (c : Dev nD) (t : Fin cfg0.N) (r k : Fin 1024) (i : S16384x19456.Idx)
    (h0 : (i 0).val = t.val * 1024 + r.val) (h1 : (i 1).val = 1024 + k.val) : iblk m c 1 t (ix2 r k) = V m c main_arg0 i := by
  obtain ⟨-, ⟨e0, e1⟩, -⟩ := facts_idx t
  refine congrArg (V m c main_arg0) (funext fun a => Fin.ext ?_)
  match a with
  | ⟨0, _⟩ => show win0_1.index t 0 * 1024 + 1 * r.val = (i 0).val; rw [e0, h0]; omega
  | ⟨1, _⟩ => show win0_1.index t 1 * 1024 + 1 * k.val = (i 1).val; rw [e1, h1]; omega

theorem X2_apply (c : Dev nD) (t : Fin cfg0.N) (r : Fin 1024) (k : Fin 2048) (i : S16384x19456.Idx)
    (h0 : (i 0).val = t.val * 1024 + r.val) (h1 : (i 1).val = 2048 + k.val) : X0_2 m c t (ix2 r k : S1024x2048.Idx) = V m c main_arg0 i := by
  obtain ⟨-, -, ⟨e0, e1⟩, -⟩ := facts_idx t
  unfold X0_2 Pipeline.Window.fill
  rw [dif_pos (moved0_2 t _)]
  refine congrArg (V m c main_arg0) (funext fun a => Fin.ext ?_)
  match a with
  | ⟨0, _⟩ => show win0_2.index t 0 * 1024 + 1 * r.val = (i 0).val; rw [e0, h0]; omega
  | ⟨1, _⟩ => show win0_2.index t 1 * 2048 + 1 * k.val = (i 1).val; rw [e1, h1]; omega

theorem X3_apply (c : Dev nD) (t : Fin cfg0.N) (r : Fin 1024) (k : Fin 2048) (i : S16384x19456.Idx)
    (h0 : (i 0).val = t.val * 1024 + r.val) (h1 : (i 1).val = 4096 + k.val) : X0_3 m c t (ix2 r k : S1024x2048.Idx) = V m c main_arg0 i := by
  obtain ⟨-, -, -, ⟨e0, e1⟩, -⟩ := facts_idx t
  unfold X0_3 Pipeline.Window.fill
  rw [dif_pos (moved0_3 t _)]
  refine congrArg (V m c main_arg0) (funext fun a => Fin.ext ?_)
  match a with
  | ⟨0, _⟩ => show win0_3.index t 0 * 1024 + 1 * r.val = (i 0).val; rw [e0, h0]; omega
  | ⟨1, _⟩ => show win0_3.index t 1 * 2048 + 1 * k.val = (i 1).val; rw [e1, h1]; omega

theorem iblk4_apply (c : Dev nD) (t : Fin cfg0.N) (r k : Fin 1024) (i : S16384x1024.Idx)
    (h0 : (i 0).val = t.val * 1024 + r.val) (h1 : (i 1).val = k.val) : iblk m c 4 t (ix2 r k) = V m c main_v2 i := by
  obtain ⟨-, -, -, -, ⟨e0, e1⟩, -⟩ := facts_idx t
  refine congrArg (V m c main_v2) (funext fun a => Fin.ext ?_)
  match a with
  | ⟨0, _⟩ => show win0_4.index t 0 * 1024 + 1 * r.val = (i 0).val; rw [e0, h0]; omega
  | ⟨1, _⟩ => show win0_4.index t 1 * 1024 + 1 * k.val = (i 1).val; rw [e1, h1]; omega

theorem iblk5_apply (c : Dev nD) (t : Fin cfg0.N) (e : Fin 256) : iblk m c 5 t (ix2 (0 : Fin 1) e) = V m c main_v5 (ix2 0 e) := by
  obtain ⟨-, -, -, -, -, ⟨e0, e1⟩, -⟩ := facts_idx t
  refine congrArg (V m c main_v5) (funext fun a => Fin.ext ?_)
  match a with
  | ⟨0, _⟩ => show win0_5.index t 0 * 1 + 1 * (0 : Fin 1).val = 0; rw [e0]; rfl
  | ⟨1, _⟩ => show win0_5.index t 1 * 256 + 1 * e.val = e.val; rw [e1]; omega

/-! ## Chunk `j` of point `t` is chunk `16 t + j` -/

section
variable (c : Dev nD) (t : Fin cfg0.N) (h : Fin 8) (j : ℕ) (hj : j < 16)
include hj

theorem row_val (r : Fin 64) : (rowI (16 * t.val + j) r).val = t.val * 1024 + (64 * ((8 * j + h.val) / 8 % 16) + r.val) := by
  have ht : t.val < 16 := lt_of_lt_of_eq t.isLt N_eq
  have hh := h.isLt
  rw [rowI_val _ _ (by omega)]
  omega

theorem q_eq : blkK (iblk m c 0 t) (8 * j + h.val) = qOf (V m c main_arg0) h (16 * t.val + j) := by
  funext r d
  have hh := h.isLt
  exact iblk0_apply m c t _ _ _ (row_val t h j hj r) (by show 128 * h.val + d.val = 128 * ((8 * j + h.val) % 8) + d.val; omega)

theorem k_eq : blkK (iblk m c 1 t) (8 * j + h.val) = kOf (V m c main_arg0) h (16 * t.val + j) := by
  funext r d
  have hh := h.isLt
  exact iblk1_apply m c t _ _ _ (row_val t h j hj r) (by show 1024 + (128 * h.val + d.val) = 1024 + (128 * ((8 * j + h.val) % 8) + d.val); omega)

theorem v_eq : blkV (X0_2 m c t) (8 * j + h.val) = vOf (V m c main_arg0) h (16 * t.val + j) := by
  funext r e
  have hh := h.isLt
  exact X2_apply m c t _ _ _ (row_val t h j hj r) (by show 2048 + (256 * h.val + e.val) = 2048 + (256 * ((8 * j + h.val) % 8) + e.val); omega)

theorem g_eq : blkV (X0_3 m c t) (8 * j + h.val) = gOf (V m c main_arg0) h (16 * t.val + j) := by
  funext r e
  have hh := h.isLt
  exact X3_apply m c t _ _ _ (row_val t h j hj r) (by show 4096 + (256 * h.val + e.val) = 4096 + (256 * ((8 * j + h.val) % 8) + e.val); omega)

theorem b_eq : blkK (iblk m c 4 t) (8 * j + h.val) = bOf (V m c main_v2) h (16 * t.val + j) := by
  funext r d
  have hh := h.isLt
  exact iblk4_apply m c t _ _ _ (row_val t h j hj r) (by show 128 * h.val + d.val = 128 * ((8 * j + h.val) % 8) + d.val; omega)

end

/-- The gain row the region finds. -/
abbrev gainV (c : Dev nD) : Fin 256 → EReal := fun e => V m c main_v5 (ix2 0 e)
abbrev stV (c : Dev nD) : Fin 8 → ℕ → State := stateOf (V m c main_arg0) (V m c main_v2)

theorem states_eq (c : Dev nD) (t : Fin cfg0.N) (S0 : Fin 8 → State) (h : Fin 8) (hS : S0 h = stV m c h (16 * t.val)) (j : ℕ)
    (hj : j ≤ 16) (hw : j = 16 → (16 * t.val + 16) % 64 ≠ 0) :
    WW (iblk m c 1 t) (X0_2 m c t) (iblk m c 4 t) S0 h j = stV m c h (16 * t.val + j) := by
  induction j with
  | zero => exact hS
  | succ j ih =>
    have e := ih (by omega) (by omega)
    show next (blkK (iblk m c 1 t) (8 * j + h.val)) (blkK (iblk m c 4 t) (8 * j + h.val)) (blkV (X0_2 m c t) (8 * j + h.val))
      (WW (iblk m c 1 t) (X0_2 m c t) (iblk m c 4 t) S0 h j) = _
    rw [e, k_eq m c t h j (by omega), b_eq m c t h j (by omega), v_eq m c t h j (by omega)]
    refine (before_succ _ _ _ (16 * t.val + j) ?_).symm
    by_cases h16 : j + 1 = 16
    · have := hw h16
      rw [show 16 * t.val + j + 1 = 16 * t.val + 16 by omega]; exact this
    · omega

theorem rows_eq (c : Dev nD) (t : Fin cfg0.N) (S0 : Fin 8 → State) (hS : ∀ h, S0 h = stV m c h (16 * t.val)) (y : S1024x2048.Idx)
    (i : S16384x2048.Idx) (h0 : (i 0).val = t.val * 1024 + (y 0).val) (h1 : (i 1).val = (y 1).val) :
    RR (iblk m c 0 t) (iblk m c 1 t) (X0_2 m c t) (X0_3 m c t) (iblk m c 4 t) (iblk m c 5 t) S0 y
      = glaAll (V m c main_arg0) (V m c main_v2) (gainV m c) i := by
  have hy0 : (y 0).val < 1024 := (y 0).isLt
  have hy1 : (y 1).val < 2048 := (y 1).isLt
  have hj : (y 0).val / 64 < 16 := by omega
  refine (rowsOf_apply _ _ _ _ _ _ _ (⟨(y 1).val / 256, by omega⟩ : Fin 8) ((y 0).val / 64) (⟨(y 0).val % 64, by omega⟩ : Fin 64)
      (⟨(y 1).val % 256, by omega⟩ : Fin 256) y (by show _ = 64 * ((y 0).val / 64) + (y 0).val % 64; omega)
      (by show _ = 256 * ((y 1).val / 256) + (y 1).val % 256; omega)).trans ?_
  rw [glaAll_apply _ _ _ (⟨(y 1).val / 256, by omega⟩ : Fin 8) (16 * t.val + (y 0).val / 64) (⟨(y 0).val % 64, by omega⟩ : Fin 64)
      (⟨(y 1).val % 256, by omega⟩ : Fin 256) i (by show _ = 64 * (16 * t.val + (y 0).val / 64) + (y 0).val % 64; omega)
      (by show _ = 256 * ((y 1).val / 256) + (y 1).val % 256; omega)]
  have hg : (fun e => iblk m c 5 t (ix2 0 e)) = gainV m c := funext fun e => iblk5_apply m c t e
  rw [q_eq m c t _ _ hj, k_eq m c t _ _ hj, b_eq m c t _ _ hj, v_eq m c t _ _ hj, g_eq m c t _ _ hj, hg]
  unfold outOf
  have hst := states_eq m c t S0 ⟨(y 1).val / 256, by omega⟩ (hS _) ((y 0).val / 64) (by omega) (by omega)
  exact congrFun (congrFun (congrArg (chunkOut _ _ _ _ _ _) hst) _) _

theorem stV_start (c : Dev nD) (h : Fin 8) (n : ℕ) (hn : n % 64 = 0) : zeroS h = stV m c h n := (before_start _ _ _ n hn).symm

theorem rows_A (c : Dev nD) (t : Fin cfg0.N) (h0 : t.val % 4 = 0) : (outsAt0 m c t.val t.isLt).1
    = RR (iblk m c 0 t) (iblk m c 1 t) (X0_2 m c t) (X0_3 m c t) (iblk m c 4 t) (iblk m c 5 t) zeroS :=
  (congrArg Prod.fst (outsAt0_A m c t h0)).trans (out_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _)
    (iblk m c 0 t) (iblk m c 1 t) (X0_2 m c t) (X0_3 m c t) (iblk m c 4 t) (iblk m c 5 t) ((hcond0_0 t).mpr h0))

theorem scratch_A (c : Dev nD) (t : Fin cfg0.N) (h0 : t.val % 4 = 0) (h : Fin 8) (e : Fin 256) (d : Fin 128) :
    (outsAt0 m c t.val t.isLt).2 (ix3 h e d) = WW (iblk m c 1 t) (X0_2 m c t) (iblk m c 4 t) zeroS h 16 d e := by
  have e1 := sout_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _)
    (iblk m c 0 t) (iblk m c 1 t) (X0_2 m c t) (X0_3 m c t) (iblk m c 4 t) (iblk m c 5 t) ((hcond0_0 t).mpr h0) h e d
  have e2 := congrArg Prod.snd (outsAt0_A m c t h0)
  dsimp only at e2
  exact (congrFun e2 _).trans e1

theorem rows_B (c : Dev nD) (t : Fin cfg0.N) (h0 : ¬t.val % 4 = 0) : (outsAt0 m c t.val t.isLt).1
    = RR (iblk m c 0 t) (iblk m c 1 t) (X0_2 m c t) (X0_3 m c t) (iblk m c 4 t) (iblk m c 5 t)
      (carried (outsAt0 m c (t.val - 1) (Nat.lt_of_le_of_lt (Nat.sub_le _ _) t.isLt)).2) :=
  (congrArg Prod.fst (outsAt0_B m c t h0)).trans (out_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _)
    (iblk m c 0 t) (iblk m c 1 t) (X0_2 m c t) (X0_3 m c t) (iblk m c 4 t) (iblk m c 5 t) (outsAt0 m c (t.val - 1) (Nat.lt_of_le_of_lt (Nat.sub_le _ _) t.isLt)).2 (fun h => h0 ((hcond0_0 t).mp h)))

theorem scratch_B (c : Dev nD) (t : Fin cfg0.N) (h0 : ¬t.val % 4 = 0) (h : Fin 8) (e : Fin 256) (d : Fin 128) :
    (outsAt0 m c t.val t.isLt).2 (ix3 h e d) = WW (iblk m c 1 t) (X0_2 m c t) (iblk m c 4 t)
      (carried (outsAt0 m c (t.val - 1) (Nat.lt_of_le_of_lt (Nat.sub_le _ _) t.isLt)).2) h 16 d e := by
  have e1 := sout_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _)
    (iblk m c 0 t) (iblk m c 1 t) (X0_2 m c t) (X0_3 m c t) (iblk m c 4 t) (iblk m c 5 t) (outsAt0 m c (t.val - 1) (Nat.lt_of_le_of_lt (Nat.sub_le _ _) t.isLt)).2 (fun h => h0 ((hcond0_0 t).mp h)) h e d
  have e2 := congrArg Prod.snd (outsAt0_B m c t h0)
  dsimp only at e2
  exact (congrFun e2 _).trans e1

/-- The states a point leaves, unless a sequence ends with it. -/
theorem scratch_eq (c : Dev nD) (n : ℕ) : ∀ hn : n < cfg0.N, (n + 1) % 4 ≠ 0 → ∀ (h : Fin 8) (e : Fin 256) (d : Fin 128),
    (outsAt0 m c n hn).2 (ix3 h e d) = stV m c h (16 * n + 16) d e := by
  induction n with
  | zero =>
    intro hn hw h e d
    refine (scratch_A m c ⟨0, hn⟩ (Nat.zero_mod _) h e d).trans ?_
    exact congrFun (congrFun (states_eq m c ⟨0, hn⟩ zeroS h (stV_start m c h _ (Nat.zero_mod _)) 16 le_rfl (fun _ => by show (16 * 0 + 16) % 64 ≠ 0; norm_num)) d) e
  | succ n ih =>
    intro hn hw h e d
    by_cases h4 : (n + 1) % 4 = 0
    · refine (scratch_A m c ⟨n + 1, hn⟩ h4 h e d).trans ?_
      exact congrFun (congrFun (states_eq m c ⟨n + 1, hn⟩ zeroS h (stV_start m c h _ (by show 16 * (n + 1) % 64 = 0; omega)) 16 le_rfl
        (fun _ => by show (16 * (n + 1) + 16) % 64 ≠ 0; omega)) d) e
    · refine (scratch_B m c ⟨n + 1, hn⟩ h4 h e d).trans ?_
      refine congrFun (congrFun (states_eq m c ⟨n + 1, hn⟩ _ h ?_ 16 le_rfl (fun _ => by show (16 * (n + 1) + 16) % 64 ≠ 0; omega)) d) e
      exact funext fun d => funext fun e => ih (Nat.lt_of_succ_lt hn) h4 h e d

/-- The rows a point leaves. -/
theorem rows_out (c : Dev nD) (t : Fin cfg0.N) : ∃ S0 : Fin 8 → State, (∀ h, S0 h = stV m c h (16 * t.val)) ∧ (outsAt0 m c t.val t.isLt).1
    = RR (iblk m c 0 t) (iblk m c 1 t) (X0_2 m c t) (X0_3 m c t) (iblk m c 4 t) (iblk m c 5 t) S0 := by
  by_cases h4 : t.val % 4 = 0
  · exact ⟨_, fun h => stV_start m c h _ (by omega), rows_A m c t h4⟩
  · refine ⟨_, fun h => ?_, rows_B m c t h4⟩
    refine funext fun d => funext fun e => ?_
    refine (scratch_eq m c (t.val - 1) _ (by omega) h e d).trans ?_
    rw [show 16 * (t.val - 1) + 16 = 16 * t.val by omega]

abbrev glaV (c : Dev nD) : Vec Ideal S16384x2048 .bf16 := glaAll (V m c main_arg0) (V m c main_v2) (gainV m c)

theorem flushed_eq (c : Dev nD) (t : Fin cfg0.N) :
    (dats m 0 c).flushed 6 t = ((cfg0.win 6).blk t).view.read (Elt Ideal) (glaV m c) := by
  rw [Value.flushed6]
  obtain ⟨S0, hS, he⟩ := rows_out m c t
  rw [he]
  obtain ⟨-, -, -, -, -, -, e0, e1⟩ := facts_idx t
  funext y
  refine rows_eq m c t S0 hS _ _ ?_ ?_
  · show win0_6.index t 0 * 1024 + 1 * (y 0).val = t.val * 1024 + (y 0).val; rw [e0]; omega
  · show win0_6.index t 1 * 2048 + 1 * (y 1).val = (y 1).val; rw [e1]; omega

/-- The array the kernel leaves. -/
theorem final (c : Dev nD) : (dats m 0 c).arrAt 6 cfg0.N = glaV m c :=
  (dats m 0 c).arrAt_eq_of_cover 6 _ (fun t _ => flushed_eq m c t) fun i => (Value.covered_iff6 i).2 (by
    have h0 : (i 0).val < 16384 := (i 0).isLt; have h1 : (i 1).val < 2048 := (i 1).isLt; omega)

/-! ## The host code before the region -/

/-- The running sums of the log decays within each chunk, as the host computes them. -/
abbrev sums (x : Vec Ideal S16384x1024 .f32) : Vec Ideal S256x64x1024 .f32 :=
  Host.reduceWindowAdd ![1, 64, 1] ![1, 1, 1] ![0, 63, 0] ![0, 0, 0] (shapeCast S256x64x1024 x shapeCasts_S16384x1024_S256x64x1024)
    (broadcastInDim S_ ![] bcast_S_S_ (constant (F := Ideal) S_ .f32 0x00000000#32))
    reduceWindows_S256x64x1024_S256x64x1024_w1s1p0_0_w64s1p63_0_w1s1p0_0 h_S_

theorem V_v2 (c : Dev nD) (n : ℕ) (hn : n < 256) (r : Fin 64) (k : Fin 1024) :
    V m c main_v2 (ix2 (rowI n r) k) = sums (m ((c : Thread nD τ).loc main_arg1)) (ix3 ⟨n, hn⟩ r k) := by
  have h : V m c main_v2 = shapeCast S16384x1024 (sums (m ((c : Thread nD τ).loc main_arg1))) shapeCasts_S256x64x1024_S16384x1024 := by
    unfold V
    simp only [List.flatten_cons, List.flatten_nil, List.append_nil, List.cons_append, List.nil_append]
    after_reads_simp
    rfl
  rw [h]
  refine shapeCast_apply _ _ _ (ix3 ⟨n, hn⟩ r k) ?_
  rw [Shape.rowMajor_val_two, Shape.rowMajor_val_three]
  show (n * 64 + r.val) * 1024 + k.val = (rowI n r).val * 1024 + k.val
  rw [rowI_val n r hn]
  ring

theorem V_v2_flat (c : Dev nD) : V m c main_v2 = flat (sums (m ((c : Thread nD τ).loc main_arg1))) := by
  funext i
  have h0 : (i 0).val < 16384 := (i 0).isLt
  have hi : i = ix2 (rowI ((i 0).val / 64) ⟨(i 0).val % 64, Nat.mod_lt _ (by norm_num)⟩) ⟨(i 1).val, (i 1).isLt⟩ := funext fun a => Fin.ext (match a with
    | ⟨0, _⟩ => by
      refine Eq.trans ?_ (rowI_val _ _ (by omega)).symm
      show (i 0).val = 64 * ((i 0).val / 64) + (i 0).val % 64
      omega
    | ⟨1, _⟩ => rfl)
  rw [hi]
  exact (V_v2 m c _ (by omega) _ _).trans (flat_apply _ _ (by omega) _ _).symm

theorem V_v5 (c : Dev nD) (e : Fin 256) : V m c main_v5 (ix2 0 e) = m ((c : Thread nD τ).loc main_arg2) (ix2 2 e) := by
  have h : V m c main_v5 = broadcastInDim S1x256 ![1] bcast_S256_S1x256_1 (shapeCast S256 (extractStridedSlice S1x256 ![2, 0]
      (m ((c : Thread nD τ).loc main_arg2)) slices_S4x256_S1x256_2_0) shapeCasts_S1x256_S256) := by
    unfold V; after_results; rfl
  rw [h]
  refine (broadcastInDim_apply ![1] bcast_S256_S1x256_1 _ (ix2 0 e) (ix1 e) (fun a => match a with | ⟨0, _⟩ => rfl)).trans ?_
  refine (shapeCast_dropUnit_apply ![256] _ shapeCasts_S1x256_S256 (ix1 e)).trans ?_
  exact extractStridedSlice_apply ![2, 0] _ slices_S4x256_S1x256_2_0 _ (ix2 2 e) (fun a => match a with
    | ⟨0, _⟩ => rfl
    | ⟨1, _⟩ => by show e.val = 0 + e.val; omega)

end Cert.Kernel7Ideal.Gla

end
-- ==== Proof.GlaTerms.lean ====
/-
  The arrays the reference computes before its loop, what they hold at an index, and one trip of the loop at an index.
-/
module

public import proofs.«01_k».proof.Proof.Gen.Reference7Ideal.Run
public import proofs.«01_k».proof.Proof.GlaMath
public import Idealize.ShloMosaic.Lib.ValueIdx
public import Idealize.ShloMosaic.Lib.IdealHost
public import Idealize.ShloMosaic.Lib.Pipeline.Value
public import Idealize.ShloMosaic.Lib.DynamicIndex
public import Idealize.ShloMosaic.Lib.Pointwise.Contract

@[expose] public section

set_option maxRecDepth 16384

noncomputable section

namespace Cert.Reference7Ideal.Gla

open Cert.Reference7Ideal Cert.Reference7Ideal.Gen Cert.Gla
open Idealize.ShloMosaic hiding ix1 ix2 ix3 ix4 ix5 eq_ix2 eq_ix4 eq_ix5
open Idealize.ShloMosaic.ValueIdx Idealize.ShloMosaic.TcCoe

/-! ## Operations at an index -/

section
variable {S : Shape} {φ : FTy} (x y : FVec Ideal S φ) (i : S.Idx)
theorem mul_at : mulf x y i = (x i : EReal) * y i := rfl
theorem add_at : addf x y i = (x i : EReal) + y i := rfl
theorem sub_at : subf x y i = (x i : EReal) - y i := rfl
theorem exp_at : Host.exp x i = Ideal.exp (x i) := rfl
theorem neg_at : Host.negf x i = -(x i : EReal) := rfl
theorem div_at : Host.divf x y i = Ideal.div (x i) (y i) := rfl
theorem select_at (c : IVec S 1) : select c x y i = Scalar.select (c i) (x i) (y i) := rfl
theorem pick_one (a b : EReal) : Scalar.select (1#1 : BitVec 1) a b = a := rfl
theorem pick_zero (a b : EReal) : Scalar.select (0#1 : BitVec 1) a b = b := rfl
theorem rsqrt_at : Host.rsqrt x i = Ideal.rsqrt (x i) := rfl
end

/-! ## Heads and chunks -/

/-- The columns of a key-sized array, cut into heads and chunks. -/
def cutK (x : FVec Ideal S16384x1024 .f32) : FVec Ideal S4x8x64x64x128 .f32 :=
  transpose S4x8x64x64x128 [0, 3, 1, 2, 4] (shapeCast S4x64x64x8x128 x shapeCasts_S16384x1024_S4x64x64x8x128)
    transposes_S4x64x64x8x128_S4x8x64x64x128_0_3_1_2_4

/-- The columns of a value-sized array, cut into heads and chunks. -/
def cutV (x : FVec Ideal S16384x2048 .f32) : FVec Ideal S4x8x64x64x256 .f32 :=
  transpose S4x8x64x64x256 [0, 3, 1, 2, 4] (shapeCast S4x64x64x8x256 x shapeCasts_S16384x2048_S4x64x64x8x256)
    transposes_S4x64x64x8x256_S4x8x64x64x256_0_3_1_2_4

/-- The chunk of a sequence among all chunks. -/
abbrev at' (β : Fin 4) (n : Fin 64) : ℕ := 64 * β.val + n.val

theorem at'_lt (β : Fin 4) (n : Fin 64) : at' β n < 256 := by
  show 64 * β.val + n.val < 256; omega

theorem cutK_apply (x : FVec Ideal S16384x1024 .f32) (β : Fin 4) (h : Fin 8) (n i : Fin 64) (d : Fin 128) :
    cutK x (ix5 β h n i d) = x (ix2 (rowI (at' β n) i) ⟨128 * h.val + d.val, by omega⟩) := by
  unfold cutK
  refine (transpose_apply _ _ _ _ (ix5 β n i h d) (fun a => match a with
    | ⟨0, _⟩ => rfl | ⟨1, _⟩ => rfl | ⟨2, _⟩ => rfl | ⟨3, _⟩ => rfl | ⟨4, _⟩ => rfl)).trans ?_
  refine shapeCast_apply _ _ _ _ ?_
  rw [Shape.rowMajor_val_two, Shape.rowMajor_val_five]
  show (rowI (at' β n) i).val * 1024 + (128 * h.val + d.val) = (((β.val * 64 + n.val) * 64 + i.val) * 8 + h.val) * 128 + d.val
  rw [rowI_val _ _ (at'_lt β n)]
  show (64 * (64 * β.val + n.val) + i.val) * 1024 + (128 * h.val + d.val) = _
  ring

theorem cutV_apply (x : FVec Ideal S16384x2048 .f32) (β : Fin 4) (h : Fin 8) (n i : Fin 64) (e : Fin 256) :
    cutV x (ix5 β h n i e) = x (ix2 (rowI (at' β n) i) ⟨256 * h.val + e.val, by omega⟩) := by
  unfold cutV
  refine (transpose_apply _ _ _ _ (ix5 β n i h e) (fun a => match a with
    | ⟨0, _⟩ => rfl | ⟨1, _⟩ => rfl | ⟨2, _⟩ => rfl | ⟨3, _⟩ => rfl | ⟨4, _⟩ => rfl)).trans ?_
  refine shapeCast_apply _ _ _ _ ?_
  rw [Shape.rowMajor_val_two, Shape.rowMajor_val_five]
  show (rowI (at' β n) i).val * 2048 + (256 * h.val + e.val) = (((β.val * 64 + n.val) * 64 + i.val) * 8 + h.val) * 256 + e.val
  rw [rowI_val _ _ (at'_lt β n)]
  show (64 * (64 * β.val + n.val) + i.val) * 2048 + (256 * h.val + e.val) = _
  ring

/-! ## The arrays -/

section
variable (z : FVec Ideal S16384x19456 .bf16) (la : FVec Ideal S16384x1024 .f32)

/-- The running sums of the log decays within each chunk. -/
abbrev sums : FVec Ideal S256x64x1024 .f32 :=
  Host.reduceWindowAdd ![1, 64, 1] ![1, 1, 1] ![0, 63, 0] ![0, 0, 0] (shapeCast S256x64x1024 la shapeCasts_S16384x1024_S256x64x1024)
    (broadcastInDim S_ ![] bcast_S_S_ (constant (F := Ideal) S_ .f32 0x00000000#32))
    reduceWindows_S256x64x1024_S256x64x1024_w1s1p0_0_w64s1p63_0_w1s1p0_0 h_S_

def qA : FVec Ideal S4x8x64x64x128 .f32 :=
  mulf (F := Ideal) (φ := .f32) (cutK (extf (F := Ideal) (φ := .bf16) .f32 (extractStridedSlice S16384x1024 ![0, 0] z slices_S16384x19456_S16384x1024_0_0) bitsLt_bf16_f32))
    (broadcastInDim S4x8x64x64x128 ![] bcast_S_S4x8x64x64x128 (constant (F := Ideal) S_ .f32 0x3DB504F3#32))
def kA : FVec Ideal S4x8x64x64x128 .f32 :=
  cutK (extf (F := Ideal) (φ := .bf16) .f32 (extractStridedSlice S16384x1024 ![0, 1024] z slices_S16384x19456_S16384x1024_0_1024) bitsLt_bf16_f32)
def vA : FVec Ideal S4x8x64x64x256 .f32 :=
  cutV (extf (F := Ideal) (φ := .bf16) .f32 (extractStridedSlice S16384x2048 ![0, 2048] z slices_S16384x19456_S16384x2048_0_2048) bitsLt_bf16_f32)
def bA : FVec Ideal S4x8x64x64x128 .f32 :=
  transpose S4x8x64x64x128 [0, 3, 1, 2, 4] (shapeCast S4x64x64x8x128 (sums la) shapeCasts_S256x64x1024_S4x64x64x8x128)
    transposes_S4x64x64x8x128_S4x8x64x64x128_0_3_1_2_4

theorem qA_apply (β : Fin 4) (h : Fin 8) (n i : Fin 64) (d : Fin 128) :
    qA z (ix5 β h n i d) = qOf z h (at' β n) i d * scale := by
  unfold qA
  show FloatOps.mulf (F := Ideal) (φ := .f32) (cutK _ (ix5 β h n i d)) _ = _
  rw [cutK_apply]
  refine congrArg₂ (fun x y : EReal => x * y) ?_ rfl
  exact extractStridedSlice_apply ![0, 0] z slices_S16384x19456_S16384x1024_0_0 _ (ix2 (rowI (at' β n) i) ⟨128 * h.val + d.val, by omega⟩) (fun a => match a with
    | ⟨0, _⟩ => (Nat.zero_add _).symm
    | ⟨1, _⟩ => (Nat.zero_add _).symm)

theorem kA_apply (β : Fin 4) (h : Fin 8) (n i : Fin 64) (d : Fin 128) : kA z (ix5 β h n i d) = kOf z h (at' β n) i d := by
  unfold kA
  rw [cutK_apply]
  exact extractStridedSlice_apply ![0, 1024] z slices_S16384x19456_S16384x1024_0_1024 _
    (ix2 (rowI (at' β n) i) ⟨1024 + (128 * h.val + d.val), by omega⟩) (fun a => match a with
    | ⟨0, _⟩ => (Nat.zero_add _).symm
    | ⟨1, _⟩ => rfl)

theorem vA_apply (β : Fin 4) (h : Fin 8) (n i : Fin 64) (e : Fin 256) : vA z (ix5 β h n i e) = vOf z h (at' β n) i e := by
  unfold vA
  rw [cutV_apply]
  exact extractStridedSlice_apply ![0, 2048] z slices_S16384x19456_S16384x2048_0_2048 _
    (ix2 (rowI (at' β n) i) ⟨2048 + (256 * h.val + e.val), by omega⟩) (fun a => match a with
    | ⟨0, _⟩ => (Nat.zero_add _).symm
    | ⟨1, _⟩ => rfl)

theorem bA_apply (β : Fin 4) (h : Fin 8) (n i : Fin 64) (d : Fin 128) :
    bA la (ix5 β h n i d) = bOf (flat (sums la)) h (at' β n) i d := by
  unfold bA bOf
  rw [flat_apply _ _ (at'_lt β n)]
  refine (transpose_apply _ _ _ _ (ix5 β n i h d) (fun a => match a with
    | ⟨0, _⟩ => rfl | ⟨1, _⟩ => rfl | ⟨2, _⟩ => rfl | ⟨3, _⟩ => rfl | ⟨4, _⟩ => rfl)).trans ?_
  refine shapeCast_apply _ _ _ _ ?_
  rw [Shape.rowMajor_val_three, Shape.rowMajor_val_five]
  show ((64 * β.val + n.val) * 64 + i.val) * 1024 + (128 * h.val + d.val) = (((β.val * 64 + n.val) * 64 + i.val) * 8 + h.val) * 128 + d.val
  ring

/-- The running sums at one position of every chunk. -/
def bAt (p : ℕ) (hp : S4x8x64x64x128.Slices ![0, 0, 0, p, 0] S4x8x64x1x128) : FVec Ideal S4x8x64x1x128 .f32 :=
  extractStridedSlice S4x8x64x1x128 ![0, 0, 0, p, 0] (bA la) hp

theorem bAt_apply (p : Fin 64) (hp : S4x8x64x64x128.Slices ![0, 0, 0, p.val, 0] S4x8x64x1x128) (β : Fin 4) (h : Fin 8) (n : Fin 64) (d : Fin 128) :
    bAt la p.val hp (ix5 β h n 0 d) = bOf (flat (sums la)) h (at' β n) p d := by
  unfold bAt
  refine (extractStridedSlice_apply _ _ hp _ (ix5 β h n p d) (fun a => match a with
    | ⟨0, _⟩ => (Nat.zero_add _).symm | ⟨1, _⟩ => (Nat.zero_add _).symm | ⟨2, _⟩ => (Nat.zero_add _).symm
    | ⟨3, _⟩ => rfl | ⟨4, _⟩ => (Nat.zero_add _).symm)).trans (bA_apply la β h n p d)

/-- … spread over the positions of the chunk. -/
def bOver (p : ℕ) (hp : S4x8x64x64x128.Slices ![0, 0, 0, p, 0] S4x8x64x1x128) : FVec Ideal S4x8x64x64x128 .f32 :=
  broadcastInDim S4x8x64x64x128 ![0, 1, 2, 3, 4] bcast_S4x8x64x1x128_S4x8x64x64x128_0_1_2_3_4 (bAt la p hp)

theorem bOver_apply (p : Fin 64) (hp : S4x8x64x64x128.Slices ![0, 0, 0, p.val, 0] S4x8x64x1x128) (β : Fin 4) (h : Fin 8) (n i : Fin 64) (d : Fin 128) :
    bOver la p.val hp (ix5 β h n i d) = bOf (flat (sums la)) h (at' β n) p d := by
  unfold bOver
  refine (broadcastInDim_apply _ _ _ _ (ix5 β h n 0 d) (fun a => match a with
    | ⟨0, _⟩ => rfl | ⟨1, _⟩ => rfl | ⟨2, _⟩ => rfl | ⟨3, _⟩ => rfl | ⟨4, _⟩ => rfl)).trans (bAt_apply la p hp β h n d)

theorem bOver32 (β : Fin 4) (h : Fin 8) (n i : Fin 64) (d : Fin 128) :
    bOver la 32 slices_S4x8x64x64x128_S4x8x64x1x128_0_0_0_32_0 (ix5 β h n i d) = bOf (flat (sums la)) h (at' β n) 32 d :=
  bOver_apply la 32 slices_S4x8x64x64x128_S4x8x64x1x128_0_0_0_32_0 β h n i d

theorem bOver63 (β : Fin 4) (h : Fin 8) (n i : Fin 64) (d : Fin 128) :
    bOver la 63 slices_S4x8x64x64x128_S4x8x64x1x128_0_0_0_63_0 (ix5 β h n i d) = bOf (flat (sums la)) h (at' β n) 63 d :=
  bOver_apply la 63 slices_S4x8x64x64x128_S4x8x64x1x128_0_0_0_63_0 β h n i d

/-- The weights of the positions of a chunk, before the mask. -/
def scores : FVec Ideal S4x8x64x64x64 .f32 :=
  Host.dotGeneral dot_S4x8x64x64x128_S4x8x64x64x128_S4x8x64x64x64_4_4_3_3_012_012 none
    (mulf (F := Ideal) (φ := .f32) (qA z) (Host.exp (F := Ideal) (φ := .f32) (subf (bA la) (bOver la 32 slices_S4x8x64x64x128_S4x8x64x1x128_0_0_0_32_0))))
    (mulf (F := Ideal) (φ := .f32) (kA z) (Host.exp (F := Ideal) (φ := .f32) (subf (bOver la 32 slices_S4x8x64x64x128_S4x8x64x1x128_0_0_0_32_0) (bA la))))

theorem scores_apply (β : Fin 4) (h : Fin 8) (n i j : Fin 64) : scores z la (ix5 β h n i j)
    = ∑ d : Fin 128, (qOf z h (at' β n) i d * scale * Ideal.exp (bOf (flat (sums la)) h (at' β n) i d - bOf (flat (sums la)) h (at' β n) 32 d))
      * (kOf z h (at' β n) j d * Ideal.exp (bOf (flat (sums la)) h (at' β n) 32 d - bOf (flat (sums la)) h (at' β n) j d)) := by
  unfold scores
  show Ideal.matmul _ _ _ _ _ = _
  rw [Ideal.matmul_apply₁ (K := 128) _ rfl rfl]
  refine (zero_add _).trans (Finset.sum_congr rfl fun d _ => ?_)
  have hl : ∀ f : S4x8x64x64x128.Idx → EReal, f (Shape.Idx.norm (DotDims.lhsIdx dot_S4x8x64x64x128_S4x8x64x64x128_S4x8x64x64x64_4_4_3_3_012_012 (ix5 β h n i j)
      (DotDims.contrIdx₁ _ rfl rfl d))) = f (ix5 β h n i d) := fun f => congrArg f (funext fun a => match a with
    | ⟨0, _⟩ => rfl | ⟨1, _⟩ => rfl | ⟨2, _⟩ => rfl | ⟨3, _⟩ => rfl | ⟨4, _⟩ => rfl)
  have hr : ∀ f : S4x8x64x64x128.Idx → EReal, f (Shape.Idx.norm (DotDims.rhsIdx dot_S4x8x64x64x128_S4x8x64x64x128_S4x8x64x64x64_4_4_3_3_012_012 (ix5 β h n i j)
      (DotDims.contrIdx₁ _ rfl rfl d))) = f (ix5 β h n j d) := fun f => congrArg f (funext fun a => match a with
    | ⟨0, _⟩ => rfl | ⟨1, _⟩ => rfl | ⟨2, _⟩ => rfl | ⟨3, _⟩ => rfl | ⟨4, _⟩ => rfl)
  refine congrArg₂ (fun x y : EReal => x * y) ((hl _).trans ?_) ((hr _).trans ?_)
  · rw [mul_at, exp_at, sub_at, qA_apply, bA_apply, bOver32]
  · rw [mul_at, exp_at, sub_at, kA_apply, bA_apply, bOver32]

/-- The lower triangle. -/
def tri : Vec Ideal S64x64 .i1 :=
  select (cmpi .sge (addi (iotaInDim S64x64 32 0) (broadcastInDim S64x64 ![] bcast_S_S64x64 (constantI S_ 32 0#32))) (iotaInDim S64x64 32 1))
    (broadcastInDim S64x64 ![] bcast_S_S64x64 (constantI S_ 1 1#1)) (broadcastInDim S64x64 ![] bcast_S_S64x64 (constantI S_ 1 0#1))

theorem tri_apply (i j : Fin 64) : tri (ix2 i j) = if j.val ≤ i.val then 1#1 else 0#1 := by
  show Scalar.select (IntOp.cmpi .sge (IntOp.addi (BitVec.ofNat 32 i.val) 0#32) (BitVec.ofNat 32 j.val)) (1#1 : BitVec 1) 0#1 = _
  revert i j
  decide +kernel

/-- The weights under the mask. -/
def masked : FVec Ideal S4x8x64x64x64 .f32 :=
  select (broadcastInDim S4x8x64x64x64 ![3, 4] bcast_S64x64_S4x8x64x64x64_3_4 tri) (scores z la)
    (broadcastInDim S4x8x64x64x64 ![] bcast_S_S4x8x64x64x64 (id (constant (F := Ideal) S_ .f32 0x00000000#32)))

theorem masked_apply (β : Fin 4) (h : Fin 8) (n i j : Fin 64) :
    masked z la (ix5 β h n i j) = if j.val ≤ i.val then scores z la (ix5 β h n i j) else 0 := by
  have h1 : broadcastInDim S4x8x64x64x64 ![3, 4] bcast_S64x64_S4x8x64x64x64_3_4 tri (ix5 β h n i j) = tri (ix2 i j) :=
    broadcastInDim_apply _ _ _ _ (ix2 i j) (fun a => match a with | ⟨0, _⟩ => rfl | ⟨1, _⟩ => rfl)
  unfold masked
  rw [select_at, h1, tri_apply]
  by_cases hj : j.val ≤ i.val
  · rw [if_pos hj, if_pos hj, pick_one]
  · rw [if_neg hj, if_neg hj, pick_zero]
    exact Ideal.ofBits_zero_f32

/-- What the positions of a chunk give one another. -/
def intraA : FVec Ideal S4x8x64x64x256 .f32 :=
  Host.dotGeneral dot_S4x8x64x64x64_S4x8x64x64x256_S4x8x64x64x256_4_3_3_4_012_012 none (masked z la) (vA z)

theorem intraA_apply (β : Fin 4) (h : Fin 8) (n i : Fin 64) (e : Fin 256) : intraA z la (ix5 β h n i e)
    = intra (qOf z h (at' β n)) (kOf z h (at' β n)) (bOf (flat (sums la)) h (at' β n)) (vOf z h (at' β n)) i e := by
  unfold intraA intra
  show Ideal.matmul _ _ _ _ _ = _
  rw [Ideal.matmul_apply₁ (K := 64) _ rfl rfl]
  refine (zero_add _).trans (Finset.sum_congr rfl fun j _ => ?_)
  have hl : ∀ f : S4x8x64x64x64.Idx → EReal, f (Shape.Idx.norm (DotDims.lhsIdx dot_S4x8x64x64x64_S4x8x64x64x256_S4x8x64x64x256_4_3_3_4_012_012 (ix5 β h n i e)
      (DotDims.contrIdx₁ _ rfl rfl j))) = f (ix5 β h n i j) := fun f => congrArg f (funext fun a => match a with
    | ⟨0, _⟩ => rfl | ⟨1, _⟩ => rfl | ⟨2, _⟩ => rfl | ⟨3, _⟩ => rfl | ⟨4, _⟩ => rfl)
  have hr : ∀ f : S4x8x64x64x256.Idx → EReal, f (Shape.Idx.norm (DotDims.rhsIdx dot_S4x8x64x64x64_S4x8x64x64x256_S4x8x64x64x256_4_3_3_4_012_012 (ix5 β h n i e)
      (DotDims.contrIdx₁ _ rfl rfl j))) = f (ix5 β h n j e) := fun f => congrArg f (funext fun a => match a with
    | ⟨0, _⟩ => rfl | ⟨1, _⟩ => rfl | ⟨2, _⟩ => rfl | ⟨3, _⟩ => rfl | ⟨4, _⟩ => rfl)
  refine congrArg₂ (fun x y : EReal => x * y) ((hl _).trans ?_) ((hr _).trans (vA_apply z β h n j e))
  rw [masked_apply, scores_apply]

/-! ## The arrays the loop walks -/

def q0 : FVec Ideal S64x4x8x64x128 .f32 :=
  transpose S64x4x8x64x128 [2, 0, 1, 3, 4] (mulf (F := Ideal) (φ := .f32) (qA z) (Host.exp (F := Ideal) (φ := .f32) (bA la))) transposes_S4x8x64x64x128_S64x4x8x64x128_2_0_1_3_4
def k1 : FVec Ideal S64x4x8x64x128 .f32 :=
  transpose S64x4x8x64x128 [2, 0, 1, 3, 4] (mulf (F := Ideal) (φ := .f32) (kA z) (Host.exp (F := Ideal) (φ := .f32) (subf (bOver la 63 slices_S4x8x64x64x128_S4x8x64x1x128_0_0_0_63_0) (bA la))))
    transposes_S4x8x64x64x128_S64x4x8x64x128_2_0_1_3_4
def v2 : FVec Ideal S64x4x8x64x256 .f32 :=
  transpose S64x4x8x64x256 [2, 0, 1, 3, 4] (vA z) transposes_S4x8x64x64x256_S64x4x8x64x256_2_0_1_3_4
def d3 : FVec Ideal S64x4x8x128 .f32 :=
  transpose S64x4x8x128 [2, 0, 1, 3] (Host.exp (F := Ideal) (φ := .f32) (shapeCast S4x8x64x128 (bAt la 63 slices_S4x8x64x64x128_S4x8x64x1x128_0_0_0_63_0)
    shapeCasts_S4x8x64x1x128_S4x8x64x128)) transposes_S4x8x64x128_S64x4x8x128_2_0_1_3

theorem q0_apply (β : Fin 4) (h : Fin 8) (n i : Fin 64) (d : Fin 128) : q0 z la (ix5 n β h i d)
    = qOf z h (at' β n) i d * scale * Ideal.exp (bOf (flat (sums la)) h (at' β n) i d) := by
  unfold q0
  refine (transpose_apply _ _ _ _ (ix5 β h n i d) (fun a => match a with
    | ⟨0, _⟩ => rfl | ⟨1, _⟩ => rfl | ⟨2, _⟩ => rfl | ⟨3, _⟩ => rfl | ⟨4, _⟩ => rfl)).trans ?_
  rw [mul_at, exp_at, qA_apply, bA_apply]

theorem k1_apply (β : Fin 4) (h : Fin 8) (n i : Fin 64) (d : Fin 128) : k1 z la (ix5 n β h i d)
    = kOf z h (at' β n) i d * Ideal.exp (bOf (flat (sums la)) h (at' β n) 63 d - bOf (flat (sums la)) h (at' β n) i d) := by
  unfold k1
  refine (transpose_apply _ _ _ _ (ix5 β h n i d) (fun a => match a with
    | ⟨0, _⟩ => rfl | ⟨1, _⟩ => rfl | ⟨2, _⟩ => rfl | ⟨3, _⟩ => rfl | ⟨4, _⟩ => rfl)).trans ?_
  rw [mul_at, exp_at, sub_at, kA_apply, bA_apply, bOver63]

theorem v2_apply (β : Fin 4) (h : Fin 8) (n i : Fin 64) (e : Fin 256) : v2 z (ix5 n β h i e) = vOf z h (at' β n) i e := by
  unfold v2
  exact (transpose_apply _ _ _ _ (ix5 β h n i e) (fun a => match a with
    | ⟨0, _⟩ => rfl | ⟨1, _⟩ => rfl | ⟨2, _⟩ => rfl | ⟨3, _⟩ => rfl | ⟨4, _⟩ => rfl)).trans (vA_apply z β h n i e)

theorem d3_apply (β : Fin 4) (h : Fin 8) (n : Fin 64) (d : Fin 128) : d3 la (ix4 n β h d)
    = Ideal.exp (bOf (flat (sums la)) h (at' β n) 63 d) := by
  unfold d3
  refine (transpose_apply _ _ _ _ (ix4 β h n d) (fun a => match a with
    | ⟨0, _⟩ => rfl | ⟨1, _⟩ => rfl | ⟨2, _⟩ => rfl | ⟨3, _⟩ => rfl)).trans ?_
  rw [exp_at]
  refine congrArg Ideal.exp ?_
  refine (shapeCast_apply _ _ _ (ix5 β h n 0 d) ?_).trans (bAt_apply la 63 _ β h n d)
  rw [Shape.rowMajor_val_four, Shape.rowMajor_val_five]
  show (((β.val * 8 + h.val) * 64 + n.val) * 1 + 0) * 128 + d.val = ((β.val * 8 + h.val) * 64 + n.val) * 128 + d.val
  ring

end

end Cert.Reference7Ideal.Gla

end
-- ==== Proof.GlaEntry.lean ====
/-
  What the reference's arrays hold where its loop begins.
-/
module

public import proofs.«01_k».proof.Proof.GlaTerms

@[expose] public section

set_option maxRecDepth 16384

noncomputable section

namespace Cert.Reference7Ideal.Gla

open Cert.Reference7Ideal Cert.Reference7Ideal.Gen Cert.Gla
open Idealize.ShloMosaic hiding ix1 ix2 ix3 ix4 ix5 eq_ix2 eq_ix4 eq_ix5
open Idealize.ShloMosaic.ValueIdx Idealize.ShloMosaic.TcCoe Idealize.ShloMosaic.StableHlo

variable (m : (ℓ : Loc nD τ sig) → Buf (Elt Ideal) ℓ) (c : Dev nD)

/-- The contents where the loop begins. -/
abbrev E0 : Valuation τ sig (Elt Ideal) := entryContents Value.preI m c
abbrev zIn : FVec Ideal S16384x19456 .bf16 := m (c.tc.loc main_arg0)
abbrev laIn : FVec Ideal S16384x1024 .f32 := m (c.tc.loc main_arg1)
abbrev wIn : FVec Ideal S4x256 .f32 := m (c.tc.loc main_arg2)

section
variable (V : Valuation τ sig (Elt Ideal)) (z : FVec Ideal S16384x19456 .bf16) (la : FVec Ideal S16384x1024 .f32)

theorem first_5 (h : V (Proc.devRef .tc main_arg0) = z) : after hostOps0 V (Proc.devRef .tc main_v5) = qA z := by
  after_results
  rw [h]
  rfl

theorem first_9 (h : V (Proc.devRef .tc main_arg0) = z) : after hostOps0 V (Proc.devRef .tc main_v9) = kA z := by
  after_results
  rw [h]
  rfl

theorem first_13 (h : V (Proc.devRef .tc main_arg0) = z) : after hostOps0 V (Proc.devRef .tc main_v13) = vA z := by
  after_results
  rw [h]
  rfl

theorem first_14 (h : V (Proc.devRef .tc main_arg1) = la) :
    after hostOps0 V (Proc.devRef .tc main_v14) = shapeCast S256x64x1024 la shapeCasts_S16384x1024_S256x64x1024 := by
  after_results
  rw [h]
  rfl

theorem second_15 (h : V (Proc.devRef .tc main_v14) = shapeCast S256x64x1024 la shapeCasts_S16384x1024_S256x64x1024) :
    after hostOps0_1 V (Proc.devRef .tc main_v15) = sums la := by
  after_reads_simp
  rw [h]
  rfl

section
variable (h15 : V (Proc.devRef .tc main_v15) = sums la)
include h15

theorem third_17 : after hostOps0_2 V (Proc.devRef .tc main_v17) = bA la := by
  after_reads_simp
  rw [h15]
  rfl

theorem third_19 : after hostOps0_2 V (Proc.devRef .tc main_v19) = bAt la 63 slices_S4x8x64x64x128_S4x8x64x1x128_0_0_0_63_0 := by
  after_reads_simp
  rw [h15]
  rfl

theorem third_28 (h5 : V (Proc.devRef .tc main_v5) = qA z) (h9 : V (Proc.devRef .tc main_v9) = kA z) :
    after hostOps0_2 V (Proc.devRef .tc main_v28) = scores z la := by
  after_reads_simp
  rw [h15, h5, h9]
  rfl

end

theorem third_29 : after hostOps0_2 V (Proc.devRef .tc main_v29) = broadcastInDim S64x64 ![] bcast_S_S64x64 (constantI S_ 1 1#1) := by
  after_reads_simp

theorem fourth_30 (h : V (Proc.devRef .tc main_v29) = broadcastInDim S64x64 ![] bcast_S_S64x64 (constantI S_ 1 1#1)) :
    after hostOps0_3 V (Proc.devRef .tc main_v30) = tri := by
  after_reads_simp
  rw [h]
  rfl

theorem fifth_cst : after hostOps0_4 V (Proc.devRef .tc main_cst_0) = constant (F := Ideal) S_ .f32 0x00000000#32 := by
  after_reads_simp

theorem sixth_31 (h30 : V (Proc.devRef .tc main_v30) = tri) (h28 : V (Proc.devRef .tc main_v28) = scores z la)
    (hc : V (Proc.devRef .tc main_cst_0) = constant (F := Ideal) S_ .f32 0x00000000#32) :
    after hostOps0_5 V (Proc.devRef .tc main_v31) = masked z la := by
  after_reads_simp
  rw [h30, h28, hc]
  rfl

theorem last_32 (h31 : V (Proc.devRef .tc main_v31) = masked z la) (h13 : V (Proc.devRef .tc main_v13) = vA z) :
    after hostOps0_6 V (Proc.devRef .tc main_v32) = intraA z la := by
  after_reads_simp
  rw [h31, h13]
  rfl

theorem last_0 (h5 : V (Proc.devRef .tc main_v5) = qA z) (h17 : V (Proc.devRef .tc main_v17) = bA la) :
    after hostOps0_6 V (Proc.devRef .tc main_v47_0) = q0 z la := by
  after_reads_simp
  rw [h5, h17]
  rfl

theorem last_1 (h9 : V (Proc.devRef .tc main_v9) = kA z) (h17 : V (Proc.devRef .tc main_v17) = bA la)
    (h19 : V (Proc.devRef .tc main_v19) = bAt la 63 slices_S4x8x64x64x128_S4x8x64x1x128_0_0_0_63_0) :
    after hostOps0_6 V (Proc.devRef .tc main_v47_1) = k1 z la := by
  after_reads_simp
  rw [h9, h17, h19]
  rfl

theorem last_2 (h13 : V (Proc.devRef .tc main_v13) = vA z) : after hostOps0_6 V (Proc.devRef .tc main_v47_2) = v2 z := by
  after_reads_simp
  rw [h13]
  rfl

theorem last_3 (h19 : V (Proc.devRef .tc main_v19) = bAt la 63 slices_S4x8x64x64x128_S4x8x64x1x128_0_0_0_63_0) :
    after hostOps0_6 V (Proc.devRef .tc main_v47_3) = d3 la := by
  after_reads_simp
  rw [h19]
  rfl

theorem last_5 : after hostOps0_6 V (Proc.devRef .tc main_v47_5)
    = broadcastInDim S4x8x128x256 ![] bcast_S_S4x8x128x256 (constant (F := Ideal) S_ .f32 0x00000000#32) := by
  after_reads_simp
  rfl

/-- What the loop begins with. -/
theorem pre_holds (h0 : V (Proc.devRef .tc main_arg0) = z) (h1 : V (Proc.devRef .tc main_arg1) = la) :
    afterL Value.preI V (Proc.devRef .tc main_v32) = intraA z la
    ∧ afterL Value.preI V (Proc.devRef .tc main_v47_0) = q0 z la
    ∧ afterL Value.preI V (Proc.devRef .tc main_v47_1) = k1 z la
    ∧ afterL Value.preI V (Proc.devRef .tc main_v47_2) = v2 z
    ∧ afterL Value.preI V (Proc.devRef .tc main_v47_3) = d3 la
    ∧ afterL Value.preI V (Proc.devRef .tc main_v47_5)
      = broadcastInDim S4x8x128x256 ![] bcast_S_S4x8x128x256 (constant (F := Ideal) S_ .f32 0x00000000#32) := by
  have a5 := first_5 V z h0
  have a9 := first_9 V z h0
  have a13 := first_13 V z h0
  have a14 := first_14 V la h1
  have b15 := second_15 _ la a14
  have b5 : after hostOps0_1 (after hostOps0 V) (Proc.devRef .tc main_v5) = qA z :=
    (after_of_writes_sub hostOps0_1 _ Value.hostOps0_1_writes (by decide +kernel)).trans a5
  have b9 : after hostOps0_1 (after hostOps0 V) (Proc.devRef .tc main_v9) = kA z :=
    (after_of_writes_sub hostOps0_1 _ Value.hostOps0_1_writes (by decide +kernel)).trans a9
  have b13 : after hostOps0_1 (after hostOps0 V) (Proc.devRef .tc main_v13) = vA z :=
    (after_of_writes_sub hostOps0_1 _ Value.hostOps0_1_writes (by decide +kernel)).trans a13
  have c17 := third_17 _ la b15
  have c19 := third_19 _ la b15
  have c28 := third_28 _ z la b15 b5 b9
  have c29 := third_29 (after hostOps0_1 (after hostOps0 V))
  have c5 : after hostOps0_2 (after hostOps0_1 (after hostOps0 V)) (Proc.devRef .tc main_v5) = qA z :=
    (after_of_writes_sub hostOps0_2 _ Value.hostOps0_2_writes (by decide +kernel)).trans b5
  have c9 : after hostOps0_2 (after hostOps0_1 (after hostOps0 V)) (Proc.devRef .tc main_v9) = kA z :=
    (after_of_writes_sub hostOps0_2 _ Value.hostOps0_2_writes (by decide +kernel)).trans b9
  have c13 : after hostOps0_2 (after hostOps0_1 (after hostOps0 V)) (Proc.devRef .tc main_v13) = vA z :=
    (after_of_writes_sub hostOps0_2 _ Value.hostOps0_2_writes (by decide +kernel)).trans b13
  have d30 := fourth_30 _ c29
  have d5 : after hostOps0_3 (after hostOps0_2 (after hostOps0_1 (after hostOps0 V))) (Proc.devRef .tc main_v5) = qA z :=
    (after_of_writes_sub hostOps0_3 _ Value.hostOps0_3_writes (by decide +kernel)).trans c5
  have d9 : after hostOps0_3 (after hostOps0_2 (after hostOps0_1 (after hostOps0 V))) (Proc.devRef .tc main_v9) = kA z :=
    (after_of_writes_sub hostOps0_3 _ Value.hostOps0_3_writes (by decide +kernel)).trans c9
  have d13 : after hostOps0_3 (after hostOps0_2 (after hostOps0_1 (after hostOps0 V))) (Proc.devRef .tc main_v13) = vA z :=
    (after_of_writes_sub hostOps0_3 _ Value.hostOps0_3_writes (by decide +kernel)).trans c13
  have d17 : after hostOps0_3 (after hostOps0_2 (after hostOps0_1 (after hostOps0 V))) (Proc.devRef .tc main_v17) = bA la :=
    (after_of_writes_sub hostOps0_3 _ Value.hostOps0_3_writes (by decide +kernel)).trans c17
  have d19 : after hostOps0_3 (after hostOps0_2 (after hostOps0_1 (after hostOps0 V))) (Proc.devRef .tc main_v19) = bAt la 63 slices_S4x8x64x64x128_S4x8x64x1x128_0_0_0_63_0 :=
    (after_of_writes_sub hostOps0_3 _ Value.hostOps0_3_writes (by decide +kernel)).trans c19
  have d28 : after hostOps0_3 (after hostOps0_2 (after hostOps0_1 (after hostOps0 V))) (Proc.devRef .tc main_v28) = scores z la :=
    (after_of_writes_sub hostOps0_3 _ Value.hostOps0_3_writes (by decide +kernel)).trans c28
  have ec := fifth_cst (after hostOps0_3 (after hostOps0_2 (after hostOps0_1 (after hostOps0 V))))
  have e5 : after hostOps0_4 (after hostOps0_3 (after hostOps0_2 (after hostOps0_1 (after hostOps0 V)))) (Proc.devRef .tc main_v5) = qA z :=
    (after_of_writes_sub hostOps0_4 _ Value.hostOps0_4_writes (by decide +kernel)).trans d5
  have e9 : after hostOps0_4 (after hostOps0_3 (after hostOps0_2 (after hostOps0_1 (after hostOps0 V)))) (Proc.devRef .tc main_v9) = kA z :=
    (after_of_writes_sub hostOps0_4 _ Value.hostOps0_4_writes (by decide +kernel)).trans d9
  have e13 : after hostOps0_4 (after hostOps0_3 (after hostOps0_2 (after hostOps0_1 (after hostOps0 V)))) (Proc.devRef .tc main_v13) = vA z :=
    (after_of_writes_sub hostOps0_4 _ Value.hostOps0_4_writes (by decide +kernel)).trans d13
  have e17 : after hostOps0_4 (after hostOps0_3 (after hostOps0_2 (after hostOps0_1 (after hostOps0 V)))) (Proc.devRef .tc main_v17) = bA la :=
    (after_of_writes_sub hostOps0_4 _ Value.hostOps0_4_writes (by decide +kernel)).trans d17
  have e19 : after hostOps0_4 (after hostOps0_3 (after hostOps0_2 (after hostOps0_1 (after hostOps0 V)))) (Proc.devRef .tc main_v19) = bAt la 63 slices_S4x8x64x64x128_S4x8x64x1x128_0_0_0_63_0 :=
    (after_of_writes_sub hostOps0_4 _ Value.hostOps0_4_writes (by decide +kernel)).trans d19
  have e28 : after hostOps0_4 (after hostOps0_3 (after hostOps0_2 (after hostOps0_1 (after hostOps0 V)))) (Proc.devRef .tc main_v28) = scores z la :=
    (after_of_writes_sub hostOps0_4 _ Value.hostOps0_4_writes (by decide +kernel)).trans d28
  have e30 : after hostOps0_4 (after hostOps0_3 (after hostOps0_2 (after hostOps0_1 (after hostOps0 V)))) (Proc.devRef .tc main_v30) = tri :=
    (after_of_writes_sub hostOps0_4 _ Value.hostOps0_4_writes (by decide +kernel)).trans d30
  have f31 := sixth_31 _ z la e30 e28 ec
  have f5 : after hostOps0_5 (after hostOps0_4 (after hostOps0_3 (after hostOps0_2 (after hostOps0_1 (after hostOps0 V))))) (Proc.devRef .tc main_v5) = qA z :=
    (after_of_writes_sub hostOps0_5 _ Value.hostOps0_5_writes (by decide +kernel)).trans e5
  have f9 : after hostOps0_5 (after hostOps0_4 (after hostOps0_3 (after hostOps0_2 (after hostOps0_1 (after hostOps0 V))))) (Proc.devRef .tc main_v9) = kA z :=
    (after_of_writes_sub hostOps0_5 _ Value.hostOps0_5_writes (by decide +kernel)).trans e9
  have f13 : after hostOps0_5 (after hostOps0_4 (after hostOps0_3 (after hostOps0_2 (after hostOps0_1 (after hostOps0 V))))) (Proc.devRef .tc main_v13) = vA z :=
    (after_of_writes_sub hostOps0_5 _ Value.hostOps0_5_writes (by decide +kernel)).trans e13
  have f17 : after hostOps0_5 (after hostOps0_4 (after hostOps0_3 (after hostOps0_2 (after hostOps0_1 (after hostOps0 V))))) (Proc.devRef .tc main_v17) = bA la :=
    (after_of_writes_sub hostOps0_5 _ Value.hostOps0_5_writes (by decide +kernel)).trans e17
  have f19 : after hostOps0_5 (after hostOps0_4 (after hostOps0_3 (after hostOps0_2 (after hostOps0_1 (after hostOps0 V))))) (Proc.devRef .tc main_v19) = bAt la 63 slices_S4x8x64x64x128_S4x8x64x1x128_0_0_0_63_0 :=
    (after_of_writes_sub hostOps0_5 _ Value.hostOps0_5_writes (by decide +kernel)).trans e19
  simp only [afterL_cons, afterL_nil]
  exact ⟨last_32 _ z la f31 f13, last_0 _ z la f5 f17, last_1 _ z la f9 f17 f19, last_2 _ z f13, last_3 _ la f19, last_5 _⟩

end

end Cert.Reference7Ideal.Gla

end
-- ==== Proof.GlaTrip.lean ====
/-
  One trip of the reference's loop at an index: it takes the arrays of the chunk its counter names, carries the state over
  that chunk and puts the chunk's part of the result into its rows.
-/
module

public import proofs.«01_k».proof.Proof.GlaTerms
public import Idealize.ShloMosaic.Lib.WordCmp

@[expose] public section

set_option maxRecDepth 16384

noncomputable section

namespace Cert.Reference7Ideal.Gla

open Cert.Reference7Ideal Cert.Reference7Ideal.Gen Cert.Gla
open Idealize.ShloMosaic hiding ix1 ix2 ix3 ix4 ix5 eq_ix2 eq_ix4 eq_ix5
open Idealize.ShloMosaic.ValueIdx Idealize.ShloMosaic.TcCoe

/-- The chunk of a walked array, of any width. -/
theorem chunk_apply {α : Type} {M : ℕ} (x : (⟨5, ![64, 4, 8, 64, M]⟩ : Shape).Idx → α) (start : Fin 5 → Int) (k : Fin 64)
    (hs : ∀ a, start a = ((![k.val, 0, 0, 0, 0] : Fin 5 → ℕ) a : Int))
    (hf : (⟨5, ![64, 4, 8, 64, M]⟩ : Shape).Slices (fun _ => 0) ⟨5, ![1, 4, 8, 64, M]⟩)
    (hc : (⟨5, ![1, 4, 8, 64, M]⟩ : Shape).ShapeCasts ⟨4, ![4, 8, 64, M]⟩)
    (β : Fin 4) (h : Fin 8) (i : Fin 64) (d : Fin M) :
    shapeCast ⟨4, ![4, 8, 64, M]⟩ (Host.dynamicSlice ⟨5, ![1, 4, 8, 64, M]⟩ x start hf) hc (ix4 β h i d) = x (ix5 k β h i d) := by
  refine (shapeCast_apply _ _ _ (ix5 0 β h i d) ?_).trans ?_
  · rw [Shape.rowMajor_val_four, Shape.rowMajor_val_five]
    show (((0 * 4 + β.val) * 8 + h.val) * 64 + i.val) * M + d.val = ((β.val * 8 + h.val) * 64 + i.val) * M + d.val
    simp only [Nat.zero_mul, Nat.zero_add]
  · have hoff : (⟨5, ![64, 4, 8, 64, M]⟩ : Shape).Slices ![k.val, 0, 0, 0, 0] ⟨5, ![1, 4, 8, 64, M]⟩ := ⟨rfl, fun a => match a with
      | ⟨0, _⟩ => by show k.val + 1 ≤ 64; omega
      | ⟨1, _⟩ => by show 0 + 4 ≤ 4; omega
      | ⟨2, _⟩ => by show 0 + 8 ≤ 8; omega
      | ⟨3, _⟩ => by show 0 + 64 ≤ 64; omega
      | ⟨4, _⟩ => by show 0 + M ≤ M; omega⟩
    rw [Host.dynamicSlice_eq_extractStridedSlice _ x start ![k.val, 0, 0, 0, 0] hf hoff hs]
    exact extractStridedSlice_apply _ _ _ _ _ (fun a => match a with
      | ⟨0, _⟩ => rfl
      | ⟨1, _⟩ => (Nat.zero_add _).symm
      | ⟨2, _⟩ => (Nat.zero_add _).symm
      | ⟨3, _⟩ => (Nat.zero_add _).symm
      | ⟨4, _⟩ => (Nat.zero_add _).symm)

/-- The decays of a chunk. -/
theorem decay_apply (x : FVec Ideal S64x4x8x128 .f32) (start : Fin 4 → Int) (k : Fin 64)
    (hs : ∀ a, start a = ((![k.val, 0, 0, 0] : Fin 4 → ℕ) a : Int)) (β : Fin 4) (h : Fin 8) (d : Fin 128) (e : Fin 256) :
    broadcastInDim S4x8x128x256 ![0, 1, 2, 3] bcast_S4x8x128x1_S4x8x128x256_0_1_2_3 (broadcastInDim S4x8x128x1 ![0, 1, 2] bcast_S4x8x128_S4x8x128x1_0_1_2
      (shapeCast S4x8x128 (Host.dynamicSlice S1x4x8x128 x start sliceFits_S64x4x8x128_S1x4x8x128) shapeCasts_S1x4x8x128_S4x8x128)) (ix4 β h d e)
      = x (ix4 k β h d) := by
  refine (broadcastInDim_apply _ _ _ _ (ix4 β h d 0) (fun a => match a with
    | ⟨0, _⟩ => rfl | ⟨1, _⟩ => rfl | ⟨2, _⟩ => rfl | ⟨3, _⟩ => rfl)).trans ?_
  refine (broadcastInDim_apply _ _ _ _ (ix3 β h d) (fun a => match a with
    | ⟨0, _⟩ => rfl | ⟨1, _⟩ => rfl | ⟨2, _⟩ => rfl)).trans ?_
  refine (shapeCast_apply _ _ _ (ix4 0 β h d) ?_).trans ?_
  · rw [Shape.rowMajor_val_four, Shape.rowMajor_val_three]
    show ((0 * 4 + β.val) * 8 + h.val) * 128 + d.val = (β.val * 8 + h.val) * 128 + d.val
    simp only [Nat.zero_mul, Nat.zero_add]
  · have hoff : S64x4x8x128.Slices ![k.val, 0, 0, 0] S1x4x8x128 := ⟨rfl, fun a => match a with
      | ⟨0, _⟩ => by show k.val + 1 ≤ 64; omega
      | ⟨1, _⟩ => by show 0 + 4 ≤ 4; omega
      | ⟨2, _⟩ => by show 0 + 8 ≤ 8; omega
      | ⟨3, _⟩ => by show 0 + 128 ≤ 128; omega⟩
    rw [Host.dynamicSlice_eq_extractStridedSlice _ x start ![k.val, 0, 0, 0] _ hoff hs]
    exact extractStridedSlice_apply _ _ _ _ _ (fun a => match a with
      | ⟨0, _⟩ => rfl
      | ⟨1, _⟩ => (Nat.zero_add _).symm
      | ⟨2, _⟩ => (Nat.zero_add _).symm
      | ⟨3, _⟩ => (Nat.zero_add _).symm)

/-- Keys against values, over the positions of a chunk. -/
theorem dotKV_apply (l : FVec Ideal S4x8x64x128 .f32) (r : FVec Ideal S4x8x64x256 .f32) (β : Fin 4) (h : Fin 8) (d : Fin 128) (e : Fin 256) :
    Host.dotGeneral dot_S4x8x64x128_S4x8x64x256_S4x8x128x256_2_2_3_3_01_01 none l r (ix4 β h d e)
      = ∑ c : Fin 64, (l (ix4 β h c d) : EReal) * r (ix4 β h c e) := by
  show Ideal.matmul _ _ _ _ _ = _
  rw [Ideal.matmul_apply₁ (K := 64) _ rfl rfl]
  refine (zero_add _).trans (Finset.sum_congr rfl fun c _ => ?_)
  refine congrArg₂ (fun x y : EReal => x * y) (congrArg l (funext fun a => match a with
    | ⟨0, _⟩ => rfl | ⟨1, _⟩ => rfl | ⟨2, _⟩ => rfl | ⟨3, _⟩ => rfl)) (congrArg r (funext fun a => match a with
    | ⟨0, _⟩ => rfl | ⟨1, _⟩ => rfl | ⟨2, _⟩ => rfl | ⟨3, _⟩ => rfl))

/-- Queries against the state. -/
theorem dotQS_apply (l : FVec Ideal S4x8x64x128 .f32) (r : FVec Ideal S4x8x128x256 .f32) (β : Fin 4) (h : Fin 8) (c : Fin 64) (e : Fin 256) :
    Host.dotGeneral dot_S4x8x64x128_S4x8x128x256_S4x8x64x256_3_2_2_3_01_01 none l r (ix4 β h c e)
      = ∑ d : Fin 128, (l (ix4 β h c d) : EReal) * r (ix4 β h d e) := by
  show Ideal.matmul _ _ _ _ _ = _
  rw [Ideal.matmul_apply₁ (K := 128) _ rfl rfl]
  refine (zero_add _).trans (Finset.sum_congr rfl fun d _ => ?_)
  refine congrArg₂ (fun x y : EReal => x * y) (congrArg l (funext fun a => match a with
    | ⟨0, _⟩ => rfl | ⟨1, _⟩ => rfl | ⟨2, _⟩ => rfl | ⟨3, _⟩ => rfl)) (congrArg r (funext fun a => match a with
    | ⟨0, _⟩ => rfl | ⟨1, _⟩ => rfl | ⟨2, _⟩ => rfl | ⟨3, _⟩ => rfl))

/-- Rows put at a chunk: they are that chunk's, and the other chunks are kept. -/
theorem put_apply (x : FVec Ideal S64x4x8x64x256 .f32) (u : FVec Ideal S4x8x64x256 .f32) (start : Fin 5 → Int) (k : Fin 64)
    (hs : ∀ a, start a = ((![k.val, 0, 0, 0, 0] : Fin 5 → ℕ) a : Int)) (n : Fin 64) (β : Fin 4) (h : Fin 8) (c : Fin 64) (e : Fin 256) :
    Host.dynamicUpdateSlice x (broadcastInDim S1x4x8x64x256 ![1, 2, 3, 4] bcast_S4x8x64x256_S1x4x8x64x256_1_2_3_4 u) start
      updateFits_S64x4x8x64x256_S1x4x8x64x256 (ix5 n β h c e) = if n = k then u (ix4 β h c e) else x (ix5 n β h c e) := by
  have hoff : S64x4x8x64x256.Slices ![k.val, 0, 0, 0, 0] S1x4x8x64x256 := ⟨rfl, fun a => match a with
    | ⟨0, _⟩ => by show k.val + 1 ≤ 64; omega
    | ⟨1, _⟩ => by show 0 + 4 ≤ 4; omega
    | ⟨2, _⟩ => by show 0 + 8 ≤ 8; omega
    | ⟨3, _⟩ => by show 0 + 64 ≤ 64; omega
    | ⟨4, _⟩ => by show 0 + 256 ≤ 256; omega⟩
  rw [WordCmp.dynamicUpdateSlice_eq_update x _ start _ ![k.val, 0, 0, 0, 0] hoff hs]
  unfold updateSlice
  by_cases hn : n = k
  · rw [if_pos hn, dif_pos]
    · exact broadcastInDim_apply _ _ _ _ (ix4 β h c e) (fun a => match a with
        | ⟨0, _⟩ => rfl | ⟨1, _⟩ => rfl | ⟨2, _⟩ => rfl | ⟨3, _⟩ => rfl)
    · exact fun a => match a with
        | ⟨0, _⟩ => by subst hn; exact ⟨le_refl _, Nat.lt_succ_self _⟩
        | ⟨1, _⟩ => ⟨Nat.zero_le _, by show β.val < 0 + 4; omega⟩
        | ⟨2, _⟩ => ⟨Nat.zero_le _, by show h.val < 0 + 8; omega⟩
        | ⟨3, _⟩ => ⟨Nat.zero_le _, by show c.val < 0 + 64; omega⟩
        | ⟨4, _⟩ => ⟨Nat.zero_le _, by show e.val < 0 + 256; omega⟩
  · rw [if_neg hn, dif_neg]
    intro hin
    have h0 : k.val ≤ n.val ∧ n.val < k.val + 1 := hin 0
    exact hn (Fin.ext (by omega))

/-- The counter as the slices read it. -/
theorem start5 (c : IVec S_ 32) (k : Fin 64) (hk : (c (Shape.Idx.first h_S_)).toInt = (k.val : Int)) (a : Fin 5) :
    ((![c, constantI S_ 32 0#32, constantI S_ 32 0#32, constantI S_ 32 0#32, constantI S_ 32 0#32] : Fin 5 → IVec S_ 32) a (Shape.Idx.first h_S_)).toInt
      = ((![k.val, 0, 0, 0, 0] : Fin 5 → ℕ) a : Int) :=
  match a with
  | ⟨0, _⟩ => hk | ⟨1, _⟩ => rfl | ⟨2, _⟩ => rfl | ⟨3, _⟩ => rfl | ⟨4, _⟩ => rfl

theorem start4 (c : IVec S_ 32) (k : Fin 64) (hk : (c (Shape.Idx.first h_S_)).toInt = (k.val : Int)) (a : Fin 4) :
    ((![c, constantI S_ 32 0#32, constantI S_ 32 0#32, constantI S_ 32 0#32] : Fin 4 → IVec S_ 32) a (Shape.Idx.first h_S_)).toInt
      = ((![k.val, 0, 0, 0] : Fin 4 → ℕ) a : Int) :=
  match a with
  | ⟨0, _⟩ => hk | ⟨1, _⟩ => rfl | ⟨2, _⟩ => rfl | ⟨3, _⟩ => rfl

/-- The arrays the loop carries. -/
abbrev r0 (V : Valuation τ sig (Elt Ideal)) : FVec Ideal S64x4x8x64x128 .f32 := V (Proc.devRef .tc main_v47_0)
abbrev r1 (V : Valuation τ sig (Elt Ideal)) : FVec Ideal S64x4x8x64x128 .f32 := V (Proc.devRef .tc main_v47_1)
abbrev r2 (V : Valuation τ sig (Elt Ideal)) : FVec Ideal S64x4x8x64x256 .f32 := V (Proc.devRef .tc main_v47_2)
abbrev r3 (V : Valuation τ sig (Elt Ideal)) : FVec Ideal S64x4x8x128 .f32 := V (Proc.devRef .tc main_v47_3)
abbrev r4 (V : Valuation τ sig (Elt Ideal)) : IVec S_ 32 := V (Proc.devRef .tc main_v47_4)
abbrev r5 (V : Valuation τ sig (Elt Ideal)) : FVec Ideal S4x8x128x256 .f32 := V (Proc.devRef .tc main_v47_5)
abbrev r6 (V : Valuation τ sig (Elt Ideal)) : FVec Ideal S64x4x8x64x256 .f32 := V (Proc.devRef .tc main_v47_6)

section
variable (V0 : Valuation τ sig (Elt Ideal)) (k : Fin 64) (hk : (r4 V0 (Shape.Idx.first h_S_)).toInt = (k.val : Int))
include hk

/-- The state after a trip. -/
theorem state_trip (β : Fin 4) (h : Fin 8) (d : Fin 128) (e : Fin 256) :
    (Value.step_main_v47_5 V0 : FVec Ideal S4x8x128x256 .f32) (ix4 β h d e) = (r3 V0 (ix4 k β h d) : EReal) * r5 V0 (ix4 β h d e)
      + ∑ c : Fin 64, (r1 V0 (ix5 k β h c d) : EReal) * r2 V0 (ix5 k β h c e) := by
  unfold Value.step_main_v47_5
  refine (add_at (φ := .f32) _ _ _).trans (congrArg₂ (fun x y : EReal => x + y) ?_ ?_)
  · refine (mul_at (φ := .f32) _ _ _).trans (congrArg (fun x : EReal => x * _) ?_)
    exact decay_apply _ _ k (start4 _ k hk) β h d e
  · refine (dotKV_apply _ _ β h d e).trans (Finset.sum_congr rfl fun c _ => ?_)
    exact congrArg₂ (fun x y : EReal => x * y) (chunk_apply _ _ k (start5 _ k hk) _ _ β h c d) (chunk_apply _ _ k (start5 _ k hk) _ _ β h c e)

/-- The result's rows after a trip. -/
theorem rows_trip (n : Fin 64) (β : Fin 4) (h : Fin 8) (c : Fin 64) (e : Fin 256) :
    (Value.step_main_v47_6 V0 : FVec Ideal S64x4x8x64x256 .f32) (ix5 n β h c e)
      = if n = k then ∑ d : Fin 128, (r0 V0 (ix5 k β h c d) : EReal) * r5 V0 (ix4 β h d e) else r6 V0 (ix5 n β h c e) := by
  unfold Value.step_main_v47_6
  refine (put_apply _ _ _ k (start5 _ k hk) n β h c e).trans ?_
  refine if_congr Iff.rfl ?_ rfl
  refine (dotQS_apply _ _ β h c e).trans (Finset.sum_congr rfl fun d _ => ?_)
  exact congrArg (fun x : EReal => x * _) (chunk_apply _ _ k (start5 _ k hk) _ _ β h c d)

end

end Cert.Reference7Ideal.Gla

end
-- ==== Proof.GlaLoop.lean ====
/-
  The reference's loop: before each trip the state is the state of the trip's chunk, and the rows of the trips done are theirs.
-/
module

public import proofs.«01_k».proof.Proof.GlaTrip

@[expose] public section

set_option maxRecDepth 16384

noncomputable section

namespace Cert.Reference7Ideal.Gla

open Cert.Reference7Ideal Cert.Reference7Ideal.Gen Cert.Gla
open Idealize.ShloMosaic hiding ix1 ix2 ix3 ix4 ix5 eq_ix2 eq_ix4 eq_ix5
open Idealize.ShloMosaic.ValueIdx Idealize.ShloMosaic.TcCoe Idealize.ShloMosaic.StableHlo

theorem counter_toInt : ∀ k : Fin 64, (Scf.iv (0#32 : BitVec 32) 1#32 k.val).toInt = (k.val : Int) := by decide +kernel

section
variable (z : FVec Ideal S16384x19456 .bf16) (la : FVec Ideal S16384x1024 .f32)

/-- What the carried arrays hold before trip `i`. -/
structure Holds (X : Valuation τ sig (Elt Ideal)) (i : ℕ) : Prop where
  q : r0 X = q0 z la
  k : r1 X = k1 z la
  v : r2 X = v2 z
  d : r3 X = d3 la
  ctr : r4 X = fun _ => Scf.iv 0#32 1#32 i
  state : i < 64 → ∀ (β : Fin 4) (h : Fin 8) (d : Fin 128) (e : Fin 256),
    r5 X (ix4 β h d e) = stateOf z (flat (sums la)) h (64 * β.val + i) d e
  rows : ∀ (n : Fin 64), n.val < i → ∀ (β : Fin 4) (h : Fin 8) (c : Fin 64) (e : Fin 256),
    r6 X (ix5 n β h c e) = inter (qOf z h (at' β n)) (bOf (flat (sums la)) h (at' β n)) (stateOf z (flat (sums la)) h (at' β n)) c e

theorem Holds.start (X : Valuation τ sig (Elt Ideal)) (e0 : r0 X = q0 z la) (e1 : r1 X = k1 z la) (e2 : r2 X = v2 z) (e3 : r3 X = d3 la)
    (e4 : r4 X = fun _ => 0#32) (e5 : r5 X = broadcastInDim S4x8x128x256 ![] bcast_S_S4x8x128x256 (constant (F := Ideal) S_ .f32 0x00000000#32)) :
    Holds z la X 0 where
  q := e0
  k := e1
  v := e2
  d := e3
  ctr := by rw [e4, Scf.iv_zero]
  state := fun _ β h d e => by
    rw [e5]
    show Ideal.ofBits .f32 0x00000000#32 = stateOf z (flat (sums la)) h (64 * β.val + 0) d e
    rw [Ideal.ofBits_zero_f32, stateOf, before_start _ _ _ _ (by omega)]
  rows := fun n hn => absurd hn (Nat.not_lt_zero _)

theorem Holds.step (X : Valuation τ sig (Elt Ideal)) (k : Fin 64) (H : Holds z la X k.val) : Holds z la (Value.STEP X) (k.val + 1) := by
  have hk : (r4 X (Shape.Idx.first h_S_)).toInt = (k.val : Int) := by rw [H.ctr]; exact counter_toInt k
  have hst := H.state k.isLt
  refine ⟨(Value.STEP_main_v47_0 X).trans H.q, (Value.STEP_main_v47_1 X).trans H.k, (Value.STEP_main_v47_2 X).trans H.v,
    (Value.STEP_main_v47_3 X).trans H.d, ?_, ?_, ?_⟩
  · refine (Value.STEP_main_v47_4 X).trans ?_
    show addi (r4 X) (constantI S_ 32 1#32) = _
    rw [H.ctr, Scf.iv_succ]
    rfl
  · intro hlt β h d e
    refine (congrFun (Value.STEP_main_v47_5 X) (ix4 β h d e)).trans ((state_trip X k hk β h d e).trans ?_)
    rw [← Nat.add_assoc, stateOf, before_succ _ _ _ _ (by omega), H.d, H.k, H.v, d3_apply, hst]
    unfold next
    refine congrArg (fun x : EReal => _ + x) (Finset.sum_congr rfl fun c _ => ?_)
    rw [k1_apply, v2_apply]
  · intro n hn β h c e
    refine (congrFun (Value.STEP_main_v47_6 X) (ix5 n β h c e)).trans ((rows_trip X k hk n β h c e).trans ?_)
    by_cases hnk : n = k
    · subst hnk
      rw [if_pos rfl, H.q]
      have hd : ∀ d : Fin 128, (q0 z la (ix5 n β h c d) : EReal) * r5 X (ix4 β h d e)
          = (qOf z h (at' β n) c d * scale * Ideal.exp (bOf (flat (sums la)) h (at' β n) c d)) * stateOf z (flat (sums la)) h (at' β n) d e :=
        fun d => by rw [q0_apply, hst]
      exact Fintype.sum_congr (M := EReal) _ _ hd
    · rw [if_neg hnk]
      have : n.val ≠ k.val := fun h => hnk (Fin.ext h)
      exact H.rows n (by omega) β h c e

theorem Holds.iterate (X : Valuation τ sig (Elt Ideal)) (H : Holds z la X 0) : ∀ k : ℕ, k ≤ 64 → Holds z la (Value.STEP^[k] X) k
  | 0, _ => H
  | k + 1, hk => by
    rw [Function.iterate_succ_apply']
    exact Holds.step z la _ ⟨k, hk⟩ (Holds.iterate X H k (by omega))

end

/-- A buffer that neither the condition nor the body writes is as it was where the loop began. -/
theorem kept_loop (W : Dev nD → Valuation τ sig (Elt Ideal)) (c : Dev nD) (r : Ref sig .tc) (hc : r ∉ Value.condOps_W)
    (h0 : r ∉ Value.while0Ops0_W) (h1 : r ∉ Value.while0Ops0_1_W) (h2 : r ∉ Value.while0Ops0_2_W) (h3 : r ∉ Value.while0Ops0_3_W)
    (h4 : r ∉ Value.while0Ops0_4_W) (h5 : r ∉ Value.while0Ops0_5_W) (h6 : r ∉ Value.while0Ops0_6_W) :
    ∀ k, atTrip Value.condOps Value.bodyI W k c (Proc.devRef .tc r) = W c (Proc.devRef .tc r)
  | 0 => rfl
  | k + 1 => by
    rw [atTrip_succ]
    simp only [afterL_cons, afterL_nil]
    rw [after_of_writes_sub _ _ Value.while0Ops0_6_writes h6, after_of_writes_sub _ _ Value.while0Ops0_5_writes h5,
      after_of_writes_sub _ _ Value.while0Ops0_4_writes h4, after_of_writes_sub _ _ Value.while0Ops0_3_writes h3,
      after_of_writes_sub _ _ Value.while0Ops0_2_writes h2, after_of_writes_sub _ _ Value.while0Ops0_1_writes h1,
      after_of_writes_sub _ _ Value.while0Ops0_writes h0, after_of_writes_sub _ _ Value.condOps_writes hc]
    exact kept_loop W c r hc h0 h1 h2 h3 h4 h5 h6 k

end Cert.Reference7Ideal.Gla

end
-- ==== Proof.GlaPost.lean ====
/-
  What the reference computes after its loop: the two parts added, each head's rows normalised, and the gate.
-/
module

public import proofs.«01_k».proof.Proof.GlaTerms

@[expose] public section

set_option maxRecDepth 16384

noncomputable section

namespace Cert.Reference7Ideal.Gla

open Cert.Reference7Ideal Cert.Reference7Ideal.Gen Cert.Gla
open Idealize.ShloMosaic hiding ix1 ix2 ix3 ix4 ix5 eq_ix2 eq_ix4 eq_ix5
open Idealize.ShloMosaic.ValueIdx Idealize.ShloMosaic.TcCoe Idealize.ShloMosaic.StableHlo

section
variable (a : FVec Ideal S4x8x64x64x256 .f32) (b : FVec Ideal S64x4x8x64x256 .f32) (z : FVec Ideal S16384x19456 .bf16) (w : FVec Ideal S4x256 .f32)

/-- The two parts added, heads last. -/
def both : FVec Ideal S4x64x64x8x256 .f32 :=
  transpose S4x64x64x8x256 [0, 2, 3, 1, 4] (addf a (transpose S4x8x64x64x256 [1, 2, 0, 3, 4] b transposes_S64x4x8x64x256_S4x8x64x64x256_1_2_0_3_4))
    transposes_S4x8x64x64x256_S4x64x64x8x256_0_2_3_1_4

theorem both_apply (β : Fin 4) (n c : Fin 64) (h : Fin 8) (e : Fin 256) :
    (both a b (ix5 β n c h e) : EReal) = (a (ix5 β h n c e) : EReal) + b (ix5 n β h c e) := by
  unfold both
  refine (transpose_apply _ _ _ _ (ix5 β h n c e) (fun a => match a with
    | ⟨0, _⟩ => rfl | ⟨1, _⟩ => rfl | ⟨2, _⟩ => rfl | ⟨3, _⟩ => rfl | ⟨4, _⟩ => rfl)).trans ?_
  rw [add_at]
  exact congrArg (fun x : EReal => _ + x) (transpose_apply _ _ _ _ (ix5 n β h c e) (fun a => match a with
    | ⟨0, _⟩ => rfl | ⟨1, _⟩ => rfl | ⟨2, _⟩ => rfl | ⟨3, _⟩ => rfl | ⟨4, _⟩ => rfl))

/-- The mean of the squares of a row, over the square root. -/
def roots (x : FVec Ideal S4x64x64x8x256 .f32) : FVec Ideal S4x64x64x8x1 .f32 :=
  Host.rsqrt (F := Ideal) (φ := .f32) (addf (Host.divf (F := Ideal) (φ := .f32)
      (broadcastInDim S4x64x64x8x1 ![0, 1, 2, 3] bcast_S4x64x64x8_S4x64x64x8x1_0_1_2_3
        (Host.reduceAdd (mulf x x) (constant (F := Ideal) S_ .f32 0x00000000#32) reducesTo_S4x64x64x8x256_S4x64x64x8_d4 h_S_))
      (broadcastInDim S4x64x64x8x1 ![] bcast_S_S4x64x64x8x1 (constant (F := Ideal) S_ .f32 0x43800000#32)))
    (broadcastInDim S4x64x64x8x1 ![] bcast_S_S4x64x64x8x1 (constant (F := Ideal) S_ .f32 0x358637BD#32)))

theorem roots_apply (x : FVec Ideal S4x64x64x8x256 .f32) (β : Fin 4) (n c : Fin 64) (h : Fin 8) :
    (roots x (ix5 β n c h 0) : EReal) = Ideal.rsqrt (Ideal.div (∑ e : Fin 256, (x (ix5 β n c h e) : EReal) * x (ix5 β n c h e))
      (Ideal.ofBits .f32 0x43800000#32) + Ideal.ofBits .f32 0x358637BD#32) := by
  unfold roots
  rw [rsqrt_at, add_at, div_at]
  refine congrArg (fun v : EReal => Ideal.rsqrt (Ideal.div v (Ideal.ofBits .f32 0x43800000#32) + Ideal.ofBits .f32 0x358637BD#32)) ?_
  refine (broadcastInDim_apply _ _ _ _ (ix4 β n c h) (fun a => match a with
    | ⟨0, _⟩ => rfl | ⟨1, _⟩ => rfl | ⟨2, _⟩ => rfl | ⟨3, _⟩ => rfl)).trans ?_
  rw [hostReduceAdd_apply, Ideal.hostReduceAdd_single reducesTo_S4x64x64x8x256_S4x64x64x8_d4 (by decide)]
  refine (congrArg (fun v : EReal => v + _) Ideal.ofBits_zero_f32).trans ((zero_add _).trans ?_)
  refine Finset.sum_congr rfl fun e _ => ?_
  have hl : Shape.Reduces.lift (s := S4x64x64x8x256) (t := S4x64x64x8) (a := 4) (by decide) (ix4 β n c h) e = ix5 β n c h e :=
    funext fun a => match a with
    | ⟨0, _⟩ => rfl | ⟨1, _⟩ => rfl | ⟨2, _⟩ => rfl | ⟨3, _⟩ => rfl | ⟨4, _⟩ => rfl
  exact (mul_at (φ := .f32) x x _).trans (congrArg (fun i => (x i : EReal) * x i) hl)

/-- The rows normalised, times the gain. -/
def normedA (x : FVec Ideal S4x64x64x8x256 .f32) : FVec Ideal S4x64x64x8x256 .f32 :=
  mulf (F := Ideal) (φ := .f32) (mulf x (broadcastInDim S4x64x64x8x256 ![0, 1, 2, 3, 4] bcast_S4x64x64x8x1_S4x64x64x8x256_0_1_2_3_4 (roots x)))
    (broadcastInDim S4x64x64x8x256 ![0, 1, 2, 3, 4] bcast_S1x1x1x1x256_S4x64x64x8x256_0_1_2_3_4 (broadcastInDim S1x1x1x1x256 ![4] bcast_S256_S1x1x1x1x256_4
      (shapeCast S256 (extractStridedSlice S1x256 ![2, 0] w slices_S4x256_S1x256_2_0) shapeCasts_S1x256_S256)))

theorem normedA_apply (x : FVec Ideal S4x64x64x8x256 .f32) (β : Fin 4) (n c : Fin 64) (h : Fin 8) (e : Fin 256) :
    (normedA w x (ix5 β n c h e) : EReal) = (x (ix5 β n c h e) : EReal) * Ideal.rsqrt (Ideal.div (∑ e : Fin 256, (x (ix5 β n c h e) : EReal) * x (ix5 β n c h e))
      (Ideal.ofBits .f32 0x43800000#32) + Ideal.ofBits .f32 0x358637BD#32) * w (ix2 2 e) := by
  unfold normedA
  rw [mul_at, mul_at]
  refine congrArg₂ (fun u v : EReal => (x (ix5 β n c h e) : EReal) * u * v) ?_ ?_
  · refine (broadcastInDim_apply _ _ _ _ (ix5 β n c h 0) (fun a => match a with
      | ⟨0, _⟩ => rfl | ⟨1, _⟩ => rfl | ⟨2, _⟩ => rfl | ⟨3, _⟩ => rfl | ⟨4, _⟩ => rfl)).trans ?_
    exact roots_apply x β n c h
  · refine (broadcastInDim_apply _ _ _ _ (ix5 0 0 0 0 e) (fun a => match a with
      | ⟨0, _⟩ => rfl | ⟨1, _⟩ => rfl | ⟨2, _⟩ => rfl | ⟨3, _⟩ => rfl | ⟨4, _⟩ => rfl)).trans ?_
    refine (broadcastInDim_apply _ _ _ _ (ix1 e) (fun a => match a with | ⟨0, _⟩ => rfl)).trans ?_
    refine (shapeCast_apply _ _ _ (ix2 0 e) ?_).trans ?_
    · rw [Shape.rowMajor_val_two, Shape.rowMajor_val_one]
      show 0 * 256 + e.val = e.val
      omega
    · exact extractStridedSlice_apply _ _ _ _ _ (fun a => match a with | ⟨0, _⟩ => rfl | ⟨1, _⟩ => (Nat.zero_add _).symm)

/-- The gate: `g / (1 + exp (-g))` of the gate's columns. -/
def gateA : FVec Ideal S16384x2048 .bf16 :=
  mulf (F := Ideal) (φ := .bf16) (extractStridedSlice S16384x2048 ![0, 4096] z slices_S16384x19456_S16384x2048_0_4096)
    (Host.divf (F := Ideal) (φ := .bf16) (broadcastInDim S16384x2048 ![] bcast_S_S16384x2048 (constant (F := Ideal) S_ .bf16 0x3F80#16))
      (addf (broadcastInDim S16384x2048 ![] bcast_S_S16384x2048 (constant (F := Ideal) S_ .bf16 0x3F80#16))
        (Host.exp (F := Ideal) (φ := .bf16) (Host.negf (F := Ideal) (φ := .bf16) (extractStridedSlice S16384x2048 ![0, 4096] z slices_S16384x19456_S16384x2048_0_4096)))))

theorem gateA_apply (β : Fin 4) (n c : Fin 64) (h : Fin 8) (e : Fin 256) :
    (gateA z (ix2 (rowI (at' β n) c) ⟨256 * h.val + e.val, by omega⟩) : EReal)
      = gOf z h (at' β n) c e * Ideal.logistic (gOf z h (at' β n) c e) := by
  have hs : extractStridedSlice S16384x2048 ![0, 4096] z slices_S16384x19456_S16384x2048_0_4096 (ix2 (rowI (at' β n) c) ⟨256 * h.val + e.val, by omega⟩)
      = gOf z h (at' β n) c e := extractStridedSlice_apply _ _ _ _ _ (fun a => match a with | ⟨0, _⟩ => (Nat.zero_add _).symm | ⟨1, _⟩ => rfl)
  have h1 : broadcastInDim S16384x2048 ![] bcast_S_S16384x2048 (constant (F := Ideal) S_ .bf16 0x3F80#16) (ix2 (rowI (at' β n) c) ⟨256 * h.val + e.val, by omega⟩)
      = (1 : EReal) := Ideal.ofBits_one_bf16
  unfold gateA
  rw [mul_at, div_at, add_at, exp_at, neg_at, hs, h1]
  rfl

/-- The result. -/
def post : FVec Ideal S16384x2048 .bf16 :=
  mulf (F := Ideal) (φ := .bf16) (truncf (F := Ideal) (φ := .f32) .bf16 (shapeCast S16384x2048 (normedA w (both a b)) shapeCasts_S4x64x64x8x256_S16384x2048) bitsLt_bf16_f32)
    (gateA z)

theorem post_apply (β : Fin 4) (n c : Fin 64) (h : Fin 8) (e : Fin 256) :
    (post a b z w (ix2 (rowI (at' β n) c) ⟨256 * h.val + e.val, by omega⟩) : EReal)
      = normed (fun c e => (a (ix5 β h n c e) : EReal) + b (ix5 n β h c e)) (gOf z h (at' β n)) (fun e => w (ix2 2 e)) c e := by
  unfold post normed
  rw [mul_at, gateA_apply]
  refine congrArg (fun v : EReal => v * _) ?_
  refine (shapeCast_apply (normedA w (both a b)) shapeCasts_S4x64x64x8x256_S16384x2048 _ (ix5 β n c h e) ?_).trans ?_
  · rw [Shape.rowMajor_val_two, Shape.rowMajor_val_five]
    show (((β.val * 64 + n.val) * 64 + c.val) * 8 + h.val) * 256 + e.val = (rowI (at' β n) c).val * 2048 + (256 * h.val + e.val)
    rw [rowI_val _ _ (at'_lt β n)]
    show _ = (64 * (64 * β.val + n.val) + c.val) * 2048 + (256 * h.val + e.val)
    ring
  · refine (normedA_apply w (both a b) β n c h e).trans ?_
    simp only [both_apply]

end

/-! The references the operations after the loop write. -/

abbrev post7_W : List (Ref sig .tc) := [main_v48, main_v49, main_v50, main_v51, main_v52, main_v53, main_cst_4, main_v54, main_v55, main_cst_5, main_v56, main_v57, main_cst_6, main_v58, main_v59, main_v60, main_v61, main_v62, main_v63, main_v64, main_v65, main_v66, main_v67, main_v68]
theorem post7_writes : (hostOps0_7 : List (HloOp τ sig (Elt Ideal))).Forall fun op => op.writes ⊆ (post7_W.map (Proc.devRef (τ := τ) .tc)).toFinset :=
  StableHlo.forall_writes_sub_of_map rfl
abbrev post8_W : List (Ref sig .tc) := [main_call8_v0, main_call8_v1, main_call8_cst, main_call8_v2, main_call8_v3, main_call8_cst_0, main_call8_v4, main_call8_v5, main_v69]
theorem post8_writes : (hostOps0_8 : List (HloOp τ sig (Elt Ideal))).Forall fun op => op.writes ⊆ (post8_W.map (Proc.devRef (τ := τ) .tc)).toFinset :=
  StableHlo.forall_writes_sub_of_map rfl
abbrev post9_W : List (Ref sig .tc) := [main_v70]
theorem post9_writes : (hostOps0_9 : List (HloOp τ sig (Elt Ideal))).Forall fun op => op.writes ⊆ (post9_W.map (Proc.devRef (τ := τ) .tc)).toFinset :=
  StableHlo.forall_writes_sub_of_map rfl

section
variable (V : Valuation τ sig (Elt Ideal)) (a : FVec Ideal S4x8x64x64x256 .f32) (b : FVec Ideal S64x4x8x64x256 .f32)
  (z : FVec Ideal S16384x19456 .bf16) (w : FVec Ideal S4x256 .f32)

theorem seventh_67 (h32 : V (Proc.devRef .tc main_v32) = a) (h6 : V (Proc.devRef .tc main_v47_6) = b) (hw : V (Proc.devRef .tc main_arg2) = w) :
    after hostOps0_7 V (Proc.devRef .tc main_v67) = truncf (F := Ideal) (φ := .f32) .bf16
      (shapeCast S16384x2048 (normedA w (both a b)) shapeCasts_S4x64x64x8x256_S16384x2048) bitsLt_bf16_f32 := by
  after_reads_simp
  rw [h32, h6, hw]
  rfl

theorem seventh_68 (hz : V (Proc.devRef .tc main_arg0) = z) : after hostOps0_7 V (Proc.devRef .tc main_v68)
    = extractStridedSlice S16384x2048 ![0, 4096] z slices_S16384x19456_S16384x2048_0_4096 := by
  after_reads_simp
  rw [hz]

theorem eighth_69 (h : V (Proc.devRef .tc main_v68) = extractStridedSlice S16384x2048 ![0, 4096] z slices_S16384x19456_S16384x2048_0_4096) :
    after hostOps0_8 V (Proc.devRef .tc main_v69) = gateA z := by
  after_reads_simp
  rw [h]
  rfl

theorem ninth_70 (x y : FVec Ideal S16384x2048 .bf16) (hx : V (Proc.devRef .tc main_v67) = x) (hy : V (Proc.devRef .tc main_v69) = y) :
    after hostOps0_9 V (Proc.devRef .tc main_v70) = mulf (F := Ideal) (φ := .bf16) x y := by
  after_reads_simp
  rw [hx, hy]

/-- What the operations after the loop give. -/
theorem post_holds (h32 : V (Proc.devRef .tc main_v32) = a) (h6 : V (Proc.devRef .tc main_v47_6) = b) (hz : V (Proc.devRef .tc main_arg0) = z)
    (hw : V (Proc.devRef .tc main_arg2) = w) : afterL Value.postI V (Proc.devRef .tc main_v70) = post a b z w := by
  have e67 := seventh_67 V a b w h32 h6 hw
  have e69 := eighth_69 _ z (seventh_68 V z hz)
  have k67 := (after_of_writes_sub hostOps0_8 (after hostOps0_7 V) post8_writes (by decide +kernel)).trans e67
  simp only [afterL_cons, afterL_nil]
  exact ninth_70 _ _ _ k67 e69

/-- The operations after the loop keep the arguments. -/
theorem post_keeps (r : Ref sig .tc) (h7 : r ∉ post7_W) (h8 : r ∉ post8_W) (h9 : r ∉ post9_W) :
    afterL Value.postI V (Proc.devRef .tc r) = V (Proc.devRef .tc r) := by
  simp only [afterL_cons, afterL_nil]
  rw [after_of_writes_sub _ _ post9_writes h9, after_of_writes_sub _ _ post8_writes h8,
    after_of_writes_sub _ _ post7_writes h7]

end

end Cert.Reference7Ideal.Gla

end
-- ==== Proof.GlaRef.lean ====
/-
  The array the reference leaves, and the arguments it keeps.
-/
module

public import proofs.«01_k».proof.Proof.GlaEntry
public import proofs.«01_k».proof.Proof.GlaLoop
public import proofs.«01_k».proof.Proof.GlaPost

@[expose] public section

set_option maxRecDepth 16384

noncomputable section

namespace Cert.Reference7Ideal.Gla

open Cert.Reference7Ideal Cert.Reference7Ideal.Gen Cert.Gla
open Idealize.ShloMosaic hiding ix1 ix2 ix3 ix4 ix5 eq_ix2 eq_ix4 eq_ix5
open Idealize.ShloMosaic.ValueIdx Idealize.ShloMosaic.TcCoe Idealize.ShloMosaic.StableHlo

variable (m : (ℓ : Loc nD τ sig) → Buf (Elt Ideal) ℓ) (c : Dev nD)

/-- The contents where the loop ends. -/
abbrev atEnd : Valuation τ sig (Elt Ideal) := after Value.condOps (atTrip Value.condOps Value.bodyI (entryContents Value.preI m) 64 c)

theorem pre_keeps (V : Valuation τ sig (Elt Ideal)) (r : Ref sig .tc) (h0 : r ∉ Value.hostOps0_W) (h1 : r ∉ Value.hostOps0_1_W) (h2 : r ∉ Value.hostOps0_2_W)
    (h3 : r ∉ Value.hostOps0_3_W) (h4 : r ∉ Value.hostOps0_4_W) (h5 : r ∉ Value.hostOps0_5_W) (h6 : r ∉ Value.hostOps0_6_W) :
    afterL Value.preI V (Proc.devRef .tc r) = V (Proc.devRef .tc r) := by
  simp only [afterL_cons, afterL_nil]
  rw [after_of_writes_sub _ _ Value.hostOps0_6_writes h6, after_of_writes_sub _ _ Value.hostOps0_5_writes h5,
    after_of_writes_sub _ _ Value.hostOps0_4_writes h4, after_of_writes_sub _ _ Value.hostOps0_3_writes h3,
    after_of_writes_sub _ _ Value.hostOps0_2_writes h2, after_of_writes_sub _ _ Value.hostOps0_1_writes h1,
    after_of_writes_sub _ _ Value.hostOps0_writes h0]

theorem end_keeps (r : Ref sig .tc) (hc : r ∉ Value.condOps_W)
    (h0 : r ∉ Value.while0Ops0_W) (h1 : r ∉ Value.while0Ops0_1_W) (h2 : r ∉ Value.while0Ops0_2_W) (h3 : r ∉ Value.while0Ops0_3_W)
    (h4 : r ∉ Value.while0Ops0_4_W) (h5 : r ∉ Value.while0Ops0_5_W) (h6 : r ∉ Value.while0Ops0_6_W) :
    atEnd m c (Proc.devRef .tc r) = E0 m c (Proc.devRef .tc r) :=
  (after_of_writes_sub _ _ Value.condOps_writes hc).trans (kept_loop (entryContents Value.preI m) c r hc h0 h1 h2 h3 h4 h5 h6 64)

theorem end_arg0 : atEnd m c (Proc.devRef .tc main_arg0) = m ((c : Thread nD τ).loc main_arg0) :=
  (end_keeps m c main_arg0 (by decide +kernel) (by decide +kernel) (by decide +kernel) (by decide +kernel) (by decide +kernel) (by decide +kernel)
    (by decide +kernel) (by decide +kernel)).trans (pre_keeps _ main_arg0 (by decide +kernel) (by decide +kernel) (by decide +kernel)
      (by decide +kernel) (by decide +kernel) (by decide +kernel) (by decide +kernel))
theorem end_arg1 : atEnd m c (Proc.devRef .tc main_arg1) = m ((c : Thread nD τ).loc main_arg1) :=
  (end_keeps m c main_arg1 (by decide +kernel) (by decide +kernel) (by decide +kernel) (by decide +kernel) (by decide +kernel) (by decide +kernel)
    (by decide +kernel) (by decide +kernel)).trans (pre_keeps _ main_arg1 (by decide +kernel) (by decide +kernel) (by decide +kernel)
      (by decide +kernel) (by decide +kernel) (by decide +kernel) (by decide +kernel))
theorem end_arg2 : atEnd m c (Proc.devRef .tc main_arg2) = m ((c : Thread nD τ).loc main_arg2) :=
  (end_keeps m c main_arg2 (by decide +kernel) (by decide +kernel) (by decide +kernel) (by decide +kernel) (by decide +kernel) (by decide +kernel)
    (by decide +kernel) (by decide +kernel)).trans (pre_keeps _ main_arg2 (by decide +kernel) (by decide +kernel) (by decide +kernel)
      (by decide +kernel) (by decide +kernel) (by decide +kernel) (by decide +kernel))

abbrev final (b : Ref sig .tc) := finalContents Value.condOps Value.preI Value.bodyI Value.postI 64 m c (Proc.devRef .tc b)

theorem final_arg0 : final m c main_arg0 = m ((c : Thread nD τ).loc main_arg0) :=
  (post_keeps _ main_arg0 (by decide +kernel) (by decide +kernel) (by decide +kernel)).trans (end_arg0 m c)
theorem final_arg1 : final m c main_arg1 = m ((c : Thread nD τ).loc main_arg1) :=
  (post_keeps _ main_arg1 (by decide +kernel) (by decide +kernel) (by decide +kernel)).trans (end_arg1 m c)
theorem final_arg2 : final m c main_arg2 = m ((c : Thread nD τ).loc main_arg2) :=
  (post_keeps _ main_arg2 (by decide +kernel) (by decide +kernel) (by decide +kernel)).trans (end_arg2 m c)

/-- What the loop ends with. -/
theorem end_holds : Holds (zIn m c) (laIn m c) (Value.STEP^[64] (E0 m c)) 64 := by
  obtain ⟨-, e0, e1, e2, e3, e5⟩ := pre_holds (launchContents m c) (zIn m c) (laIn m c) rfl rfl
  exact Holds.iterate _ _ _ (Holds.start _ _ _ e0 e1 e2 e3 (Value.ctr_entry m c) e5) 64 le_rfl

theorem end_rows : atEnd m c (Proc.devRef .tc main_v47_6) = r6 (Value.STEP^[64] (E0 m c)) :=
  (Value.cond_keeps _ main_v47_6 (by decide)).trans (Value.atK_agree m c 64 main_v47_6 (by decide))

theorem end_intra : atEnd m c (Proc.devRef .tc main_v32) = intraA (zIn m c) (laIn m c) :=
  (end_keeps m c main_v32 (by decide +kernel) (by decide +kernel) (by decide +kernel) (by decide +kernel) (by decide +kernel) (by decide +kernel)
    (by decide +kernel) (by decide +kernel)).trans (pre_holds (launchContents m c) (zIn m c) (laIn m c) rfl rfl).1

/-- The array the reference leaves. -/
theorem final_70 : final m c main_v70 = glaAll (zIn m c) (flat (sums (laIn m c))) (fun e => wIn m c (ix2 2 e)) := by
  refine (post_holds (atEnd m c) _ _ _ _ (end_intra m c) (end_rows m c) (end_arg0 m c) (end_arg2 m c)).trans ?_
  have H := end_holds m c
  generalize Value.STEP^[64] (E0 m c) = X at H
  funext i
  have hi0 : (i 0).val < 16384 := (i 0).isLt
  have hi1 : (i 1).val < 2048 := (i 1).isLt
  obtain ⟨β, n, r, h0⟩ : ∃ (β : Fin 4) (n r : Fin 64), (i 0).val = 64 * at' β n + r.val :=
    ⟨⟨(i 0).val / 4096, by omega⟩, ⟨(i 0).val / 64 % 64, by omega⟩, ⟨(i 0).val % 64, by omega⟩, by
      show (i 0).val = 64 * (64 * ((i 0).val / 4096) + (i 0).val / 64 % 64) + (i 0).val % 64; omega⟩
  obtain ⟨h, e, h1⟩ : ∃ (h : Fin 8) (e : Fin 256), (i 1).val = 256 * h.val + e.val :=
    ⟨⟨(i 1).val / 256, by omega⟩, ⟨(i 1).val % 256, by omega⟩, by show (i 1).val = 256 * ((i 1).val / 256) + (i 1).val % 256; omega⟩
  have hi : i = ix2 (rowI (at' β n) r) ⟨256 * h.val + e.val, by omega⟩ := funext fun a => Fin.ext (match a with
    | ⟨0, _⟩ => h0.trans (rowI_val _ _ (at'_lt β n)).symm
    | ⟨1, _⟩ => h1)
  refine Eq.trans ?_ (glaAll_apply _ _ _ h (at' β n) r e i h0 h1).symm
  rw [hi]
  refine (post_apply _ _ _ _ β n r h e).trans ?_
  unfold outOf chunkOut
  refine congrArg (fun o : Vals => normed o _ _ r e) (funext fun r' => funext fun e' => ?_)
  exact congrArg₂ (fun x y : EReal => x + y) (intraA_apply _ _ β h n r' e') (H.rows n n.isLt β h r' e')

end Cert.Reference7Ideal.Gla

end
-- ==== Proof.GlaClaims.lean ====
/-
  The claims of the gated linear attention, assembled.
-/
module

public import proofs.«01_k».proof.Defs
public import proofs.«01_k».proof.Proof.GlaBlocks
public import proofs.«01_k».proof.Proof.GlaRef
public import Idealize.ShloMosaic.Lib.Quiescent

@[expose] public section

set_option maxRecDepth 16384

noncomputable section

namespace Cert.Proof.Gla

open Idealize.ShloMosaic Idealize.SL.Sem

theorem run_R (m : (ℓ : Loc Cert.Reference7Ideal.nD Cert.Reference7Ideal.τ Cert.Reference7Ideal.sig) → Buf (Elt Ideal) ℓ)
    (g : Dev Cert.Reference7Ideal.nD → PrngReg) :
    θ_run (Cert.Reference7Ideal.defs (F := Ideal)) (onTc (τ := Cert.Reference7Ideal.τ) (Cert.Reference7Ideal.main (F := Ideal))) ⟨m, fun _ => 0, g⟩
      (fun r => ∀ c : Dev Cert.Reference7Ideal.nD,
        r.2.mem ((c.tc : Thread Cert.Reference7Ideal.nD Cert.Reference7Ideal.τ).loc Cert.Reference7Ideal.main_v70)
          = Cert.Gla.glaAll (Cert.Reference7Ideal.Gla.zIn m c) (Cert.Gla.flat (Cert.Reference7Ideal.Gla.sums (Cert.Reference7Ideal.Gla.laIn m c)))
            (fun e => Cert.Reference7Ideal.Gla.wIn m c (ValueIdx.ix2 2 e))
        ∧ r.2.mem ((c.tc : Thread Cert.Reference7Ideal.nD Cert.Reference7Ideal.τ).loc Cert.Reference7Ideal.main_arg0)
          = m ((c.tc : Thread Cert.Reference7Ideal.nD Cert.Reference7Ideal.τ).loc Cert.Reference7Ideal.main_arg0)
        ∧ r.2.mem ((c.tc : Thread Cert.Reference7Ideal.nD Cert.Reference7Ideal.τ).loc Cert.Reference7Ideal.main_arg1)
          = m ((c.tc : Thread Cert.Reference7Ideal.nD Cert.Reference7Ideal.τ).loc Cert.Reference7Ideal.main_arg1)
        ∧ r.2.mem ((c.tc : Thread Cert.Reference7Ideal.nD Cert.Reference7Ideal.τ).loc Cert.Reference7Ideal.main_arg2)
          = m ((c.tc : Thread Cert.Reference7Ideal.nD Cert.Reference7Ideal.τ).loc Cert.Reference7Ideal.main_arg2)) :=
  (θ_run _ _ _).mono (fun _ h c => ⟨(h c Cert.Reference7Ideal.main_v70 rfl).trans (Cert.Reference7Ideal.Gla.final_70 m c),
    (h c Cert.Reference7Ideal.main_arg0 rfl).trans (Cert.Reference7Ideal.Gla.final_arg0 m c),
    (h c Cert.Reference7Ideal.main_arg1 rfl).trans (Cert.Reference7Ideal.Gla.final_arg1 m c),
    (h c Cert.Reference7Ideal.main_arg2 rfl).trans (Cert.Reference7Ideal.Gla.final_arg2 m c)⟩) (Cert.Reference7Ideal.Value.run_fold (F := Ideal) m g)

theorem frame_R : Cert.quiescent_Reference7Ideal (hReference7Ideal := Cert.Reference7Ideal.Gen.facts) := by
  intro m ρ _
  exact (θ_run Cert.Reference7Ideal.defs _ _).mono (fun r h => ⟨fun c => (h c).2, sem_eq_zero_of_no_sems (by decide) r.2⟩) (run_R m ρ)

theorem preserves : Cert.preserves_Kernel7_Kernel7Ideal := IdealRules.named_const.statement _ _ _ _ _ rfl

theorem algebraic : Cert.algebraic_Kernel7Ideal_Reference7Ideal (hKernel7Ideal := Cert.Kernel7Ideal.Gen.facts)
    (hReference7Ideal := Cert.Reference7Ideal.Gen.facts) := by
  intro m g m' g' _ hagree
  refine ⟨fun c => Cert.Kernel7Ideal.Gla.glaV m c,
    (θ_run _ _ _).mono (fun r h c => ⟨(h c).1.trans (Cert.Kernel7Ideal.Gla.final m c), (h c).2⟩) (Cert.Kernel7Ideal.Value.run_blocks (F := Ideal) m g),
    (θ_run _ _ _).mono (fun r h c => ⟨(h c).1.trans ?_, (h c).2⟩) (run_R m' g')⟩
  obtain ⟨a0, a1, a2⟩ := hagree c
  clear h
  beta_reduce
  unfold Cert.Kernel7Ideal.Gla.glaV
  have hs : Cert.Gla.flat (Cert.Reference7Ideal.Gla.sums (Cert.Reference7Ideal.Gla.laIn m' c)) = Cert.Kernel7Ideal.Gen.V m c Cert.Kernel7Ideal.main_v2 := by
    rw [Cert.Kernel7Ideal.Gla.V_v2_flat]
    unfold Cert.Reference7Ideal.Gla.laIn
    rw [a1]
  have hg : (fun e => Cert.Reference7Ideal.Gla.wIn m' c (ValueIdx.ix2 2 e)) = Cert.Kernel7Ideal.Gla.gainV m c := by
    funext e
    unfold Cert.Reference7Ideal.Gla.wIn
    rw [a2]
    exact (Cert.Kernel7Ideal.Gla.V_v5 m c e).symm
  rw [hs, hg, Cert.Kernel7Ideal.Gen.V_main_arg0, ← a0]

end Cert.Proof.Gla

end
-- ==== Proof.lean ====
/-
  The claims, assembled: the frames are the generated ones, the value claims the modules' beside this file.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Run
public import proofs.«01_k».proof.Proof.Gen.ReferenceIdeal.Read
public import proofs.«01_k».proof.Proof.Gen.Kernel2
public import proofs.«01_k».proof.Proof.Gen.Kernel2.Frame
public import proofs.«01_k».proof.Proof.Gen.Kernel2Ideal
public import proofs.«01_k».proof.Proof.Gen.Kernel2Ideal.Frame
public import proofs.«01_k».proof.Proof.Gen.Kernel2Ideal.Value
public import proofs.«01_k».proof.Proof.Gen.Reference2Ideal
public import proofs.«01_k».proof.Proof.Gen.Reference2Ideal.Run
public import proofs.«01_k».proof.Proof.Gen.Reference2Ideal.Read
public import proofs.«01_k».proof.Proof.Gen.Kernel3
public import proofs.«01_k».proof.Proof.Gen.Kernel3.Frame
public import proofs.«01_k».proof.Proof.Gen.Kernel3Ideal
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.Gen.Reference3Ideal.Read
public import proofs.«01_k».proof.Proof.Gen.Kernel4
public import proofs.«01_k».proof.Proof.Gen.Kernel4.Frame
public import proofs.«01_k».proof.Proof.Gen.Kernel4Ideal
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run
public import proofs.«01_k».proof.Proof.Gen.Reference4Ideal.Read
public import proofs.«01_k».proof.Proof.Gen.Kernel5
public import proofs.«01_k».proof.Proof.Gen.Kernel5.Frame
public import proofs.«01_k».proof.Proof.Gen.Kernel5Ideal
public import proofs.«01_k».proof.Proof.Gen.Kernel5Ideal.Frame
public import proofs.«01_k».proof.Proof.Gen.Kernel5Ideal.Value
public import proofs.«01_k».proof.Proof.Gen.Reference5Ideal
public import proofs.«01_k».proof.Proof.Gen.Reference5Ideal.Run
public import proofs.«01_k».proof.Proof.Gen.Reference5Ideal.Read
public import proofs.«01_k».proof.Proof.Gen.Kernel6
public import proofs.«01_k».proof.Proof.Gen.Kernel6.Frame
public import proofs.«01_k».proof.Proof.Gen.Kernel6Ideal
public import proofs.«01_k».proof.Proof.Gen.Kernel6Ideal.Frame
public import proofs.«01_k».proof.Proof.Gen.Kernel6Ideal.Value
public import proofs.«01_k».proof.Proof.Gen.Reference6Ideal
public import proofs.«01_k».proof.Proof.Gen.Reference6Ideal.Run
public import proofs.«01_k».proof.Proof.Gen.Reference6Ideal.Read
public import proofs.«01_k».proof.Proof.Gen.Kernel7
public import proofs.«01_k».proof.Proof.Gen.Kernel7.Frame
public import proofs.«01_k».proof.Proof.Gen.Kernel7Ideal
public import proofs.«01_k».proof.Proof.Gen.Kernel7Ideal.Frame
public import proofs.«01_k».proof.Proof.Gen.Kernel7Ideal.Value
public import proofs.«01_k».proof.Proof.Gen.Reference7Ideal
public import proofs.«01_k».proof.Proof.Gen.Reference7Ideal.Run
public import proofs.«01_k».proof.Proof.InProjClaims
public import proofs.«01_k».proof.Proof.Packed
public import proofs.«01_k».proof.Proof.OutProj
public import proofs.«01_k».proof.Proof.Merge
public import proofs.«01_k».proof.Proof.FinalNorm
public import proofs.«01_k».proof.Proof.NormDecayClaims
public import proofs.«01_k».proof.Proof.GlaClaims
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts,
  Cert.Kernel6.Gen.facts, Cert.Kernel6Ideal.Gen.facts, Cert.Reference6Ideal.Gen.facts,
  Cert.Kernel7.Gen.facts, Cert.Kernel7Ideal.Gen.facts, Cert.Reference7Ideal.Gen.facts,
  fun m ρ _ => Cert.Kernel.Gen.frame m ρ, fun m ρ _ => Cert.KernelIdeal.Gen.frame m ρ, InProj.frame_R,
  fun m ρ _ => Cert.Kernel2.Gen.frame m ρ, fun m ρ _ => Cert.Kernel2Ideal.Gen.frame m ρ, Packed.frame_R,
  fun m ρ _ => Cert.Kernel3.Gen.frame m ρ, fun m ρ _ => Cert.Kernel3Ideal.Gen.frame m ρ, OutProj.frame_R,
  fun m ρ _ => Cert.Kernel4.Gen.frame m ρ, fun m ρ _ => Cert.Kernel4Ideal.Gen.frame m ρ, Merge.frame_R,
  fun m ρ _ => Cert.Kernel5.Gen.frame m ρ, fun m ρ _ => Cert.Kernel5Ideal.Gen.frame m ρ, FinalNorm.frame_R,
  fun m ρ _ => Cert.Kernel6.Gen.frame m ρ, fun m ρ _ => Cert.Kernel6Ideal.Gen.frame m ρ, NormDecay.frame_R,
  fun m ρ _ => Cert.Kernel7.Gen.frame m ρ, fun m ρ _ => Cert.Kernel7Ideal.Gen.frame m ρ, Gla.frame_R,
  trivial, InProj.algebraic, trivial, Packed.algebraic, trivial, OutProj.algebraic, trivial, Merge.algebraic, trivial, FinalNorm.algebraic,
  trivial, NormDecay.algebraic, Gla.preserves, Gla.algebraic⟩

end Cert.Proof

end
